-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_q_k [hPre_finite_q_k : Cert.Pre_finite_q_k.Facts] (m : (ℓ : Loc Cert.KernelIdeal.nD Cert.KernelIdeal.τ Cert.KernelIdeal.sig) → Buf (Elt Ideal) ℓ) : Prop :=
  ∀ c : Dev Cert.KernelIdeal.nD,
    (Cert.Pre_finite_q_k.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_q_k [hPre_finite_q_k : Cert.Pre_finite_q_k.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_q_k.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Post (m : (ℓ : Loc Cert.Post.nD Cert.Post.τ Cert.Post.sig) → Buf (Elt Bits) ℓ) : Prop :=
  True

def Pre_PostIdeal (m : (ℓ : Loc Cert.PostIdeal.nD Cert.PostIdeal.τ Cert.PostIdeal.sig) → Buf (Elt Ideal) ℓ) : Prop :=
  True

def Pre_PostReferenceIdeal (m : (ℓ : Loc Cert.PostReferenceIdeal.nD Cert.PostReferenceIdeal.τ Cert.PostReferenceIdeal.sig) → Buf (Elt Ideal) ℓ) : Prop :=
  True

def Pre_Project (m : (ℓ : Loc Cert.Project.nD Cert.Project.τ Cert.Project.sig) → Buf (Elt Bits) ℓ) : Prop :=
  True

def Pre_ProjectIdeal (m : (ℓ : Loc Cert.ProjectIdeal.nD Cert.ProjectIdeal.τ Cert.ProjectIdeal.sig) → Buf (Elt Ideal) ℓ) : Prop :=
  True

def Pre_ProjectReferenceIdeal (m : (ℓ : Loc Cert.ProjectReferenceIdeal.nD Cert.ProjectReferenceIdeal.τ Cert.ProjectReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_q_k [hKernelIdeal : Cert.KernelIdeal.Facts] [hPre_finite_q_k : Cert.Pre_finite_q_k.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_q_k m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_q_k [hReferenceIdeal : Cert.ReferenceIdeal.Facts] [hPre_finite_q_k : Cert.Pre_finite_q_k.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_q_k m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Post [hPost : Cert.Post.Facts] : Prop :=
  ∀ (m : (ℓ : Loc Cert.Post.nD Cert.Post.τ Cert.Post.sig) → Buf (Elt Bits) ℓ) (g : Dev Cert.Post.nD → PrngReg), Pre_Post m →
    θ_run (Cert.Post.defs (F := Bits)) (onTc (τ := Cert.Post.τ) (Cert.Post.main (F := Bits))) ⟨m, fun _ => 0, g⟩ (fun r => (∀ c : Dev Cert.Post.nD,
      r.2.mem ((c.tc : Thread Cert.Post.nD Cert.Post.τ).loc Cert.Post.main_arg0) = m ((c.tc : Thread Cert.Post.nD Cert.Post.τ).loc Cert.Post.main_arg0)
      ∧ r.2.mem ((c.tc : Thread Cert.Post.nD Cert.Post.τ).loc Cert.Post.main_arg1) = m ((c.tc : Thread Cert.Post.nD Cert.Post.τ).loc Cert.Post.main_arg1)
      ∧ r.2.mem ((c.tc : Thread Cert.Post.nD Cert.Post.τ).loc Cert.Post.main_arg2) = m ((c.tc : Thread Cert.Post.nD Cert.Post.τ).loc Cert.Post.main_arg2)
      ∧ r.2.mem ((c.tc : Thread Cert.Post.nD Cert.Post.τ).loc Cert.Post.main_arg3) = m ((c.tc : Thread Cert.Post.nD Cert.Post.τ).loc Cert.Post.main_arg3)
      ∧ r.2.mem ((c.tc : Thread Cert.Post.nD Cert.Post.τ).loc Cert.Post.main_arg4) = m ((c.tc : Thread Cert.Post.nD Cert.Post.τ).loc Cert.Post.main_arg4)
      ∧ r.2.mem ((c.tc : Thread Cert.Post.nD Cert.Post.τ).loc Cert.Post.main_arg5) = m ((c.tc : Thread Cert.Post.nD Cert.Post.τ).loc Cert.Post.main_arg5)
      ∧ r.2.mem ((c.tc : Thread Cert.Post.nD Cert.Post.τ).loc Cert.Post.main_arg6) = m ((c.tc : Thread Cert.Post.nD Cert.Post.τ).loc Cert.Post.main_arg6)
      ∧ r.2.mem ((c.tc : Thread Cert.Post.nD Cert.Post.τ).loc Cert.Post.main_arg7) = m ((c.tc : Thread Cert.Post.nD Cert.Post.τ).loc Cert.Post.main_arg7)
      ∧ r.2.mem ((c.tc : Thread Cert.Post.nD Cert.Post.τ).loc Cert.Post.main_arg8) = m ((c.tc : Thread Cert.Post.nD Cert.Post.τ).loc Cert.Post.main_arg8)
      ∧ r.2.mem ((c.tc : Thread Cert.Post.nD Cert.Post.τ).loc Cert.Post.main_arg9) = m ((c.tc : Thread Cert.Post.nD Cert.Post.τ).loc Cert.Post.main_arg9)
      ∧ r.2.mem ((c.tc : Thread Cert.Post.nD Cert.Post.τ).loc Cert.Post.main_arg10) = m ((c.tc : Thread Cert.Post.nD Cert.Post.τ).loc Cert.Post.main_arg10)
      ∧ r.2.mem ((c.tc : Thread Cert.Post.nD Cert.Post.τ).loc Cert.Post.main_arg11) = m ((c.tc : Thread Cert.Post.nD Cert.Post.τ).loc Cert.Post.main_arg11)
      ∧ r.2.mem ((c.tc : Thread Cert.Post.nD Cert.Post.τ).loc Cert.Post.main_arg12) = m ((c.tc : Thread Cert.Post.nD Cert.Post.τ).loc Cert.Post.main_arg12)
      ∧ r.2.mem ((c.tc : Thread Cert.Post.nD Cert.Post.τ).loc Cert.Post.main_arg13) = m ((c.tc : Thread Cert.Post.nD Cert.Post.τ).loc Cert.Post.main_arg13)
      ∧ r.2.mem ((c.tc : Thread Cert.Post.nD Cert.Post.τ).loc Cert.Post.main_arg14) = m ((c.tc : Thread Cert.Post.nD Cert.Post.τ).loc Cert.Post.main_arg14)
      ∧ r.2.mem ((c.tc : Thread Cert.Post.nD Cert.Post.τ).loc Cert.Post.main_arg15) = m ((c.tc : Thread Cert.Post.nD Cert.Post.τ).loc Cert.Post.main_arg15)
      ∧ r.2.mem ((c.tc : Thread Cert.Post.nD Cert.Post.τ).loc Cert.Post.main_arg16) = m ((c.tc : Thread Cert.Post.nD Cert.Post.τ).loc Cert.Post.main_arg16)
      ∧ r.2.mem ((c.tc : Thread Cert.Post.nD Cert.Post.τ).loc Cert.Post.main_arg17) = m ((c.tc : Thread Cert.Post.nD Cert.Post.τ).loc Cert.Post.main_arg17)
      ∧ r.2.mem ((c.tc : Thread Cert.Post.nD Cert.Post.τ).loc Cert.Post.main_arg18) = m ((c.tc : Thread Cert.Post.nD Cert.Post.τ).loc Cert.Post.main_arg18))
      ∧ r.2.sem = fun _ => 0)

def quiescent_PostIdeal [hPostIdeal : Cert.PostIdeal.Facts] : Prop :=
  ∀ (m : (ℓ : Loc Cert.PostIdeal.nD Cert.PostIdeal.τ Cert.PostIdeal.sig) → Buf (Elt Ideal) ℓ) (g : Dev Cert.PostIdeal.nD → PrngReg), Pre_PostIdeal m →
    θ_run (Cert.PostIdeal.defs (F := Ideal)) (onTc (τ := Cert.PostIdeal.τ) (Cert.PostIdeal.main (F := Ideal))) ⟨m, fun _ => 0, g⟩ (fun r => (∀ c : Dev Cert.PostIdeal.nD,
      r.2.mem ((c.tc : Thread Cert.PostIdeal.nD Cert.PostIdeal.τ).loc Cert.PostIdeal.main_arg0) = m ((c.tc : Thread Cert.PostIdeal.nD Cert.PostIdeal.τ).loc Cert.PostIdeal.main_arg0)
      ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
      ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
      ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
      ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
      ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
      ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
      ∧ r.2.mem ((c.tc : Thread Cert.PostIdeal.nD Cert.PostIdeal.τ).loc Cert.PostIdeal.main_arg7) = m ((c.tc : Thread Cert.PostIdeal.nD Cert.PostIdeal.τ).loc Cert.PostIdeal.main_arg7)
      ∧ r.2.mem ((c.tc : Thread Cert.PostIdeal.nD Cert.PostIdeal.τ).loc Cert.PostIdeal.main_arg8) = m ((c.tc : Thread Cert.PostIdeal.nD Cert.PostIdeal.τ).loc Cert.PostIdeal.main_arg8)
      ∧ r.2.mem ((c.tc : Thread Cert.PostIdeal.nD Cert.PostIdeal.τ).loc Cert.PostIdeal.main_arg9) = m ((c.tc : Thread Cert.PostIdeal.nD Cert.PostIdeal.τ).loc Cert.PostIdeal.main_arg9)
      ∧ r.2.mem ((c.tc : Thread Cert.PostIdeal.nD Cert.PostIdeal.τ).loc Cert.PostIdeal.main_arg10) = m ((c.tc : Thread Cert.PostIdeal.nD Cert.PostIdeal.τ).loc Cert.PostIdeal.main_arg10)
      ∧ r.2.mem ((c.tc : Thread Cert.PostIdeal.nD Cert.PostIdeal.τ).loc Cert.PostIdeal.main_arg11) = m ((c.tc : Thread Cert.PostIdeal.nD Cert.PostIdeal.τ).loc Cert.PostIdeal.main_arg11)
      ∧ r.2.mem ((c.tc : Thread Cert.PostIdeal.nD Cert.PostIdeal.τ).loc Cert.PostIdeal.main_arg12) = m ((c.tc : Thread Cert.PostIdeal.nD Cert.PostIdeal.τ).loc Cert.PostIdeal.main_arg12)
      ∧ r.2.mem ((c.tc : Thread Cert.PostIdeal.nD Cert.PostIdeal.τ).loc Cert.PostIdeal.main_arg13) = m ((c.tc : Thread Cert.PostIdeal.nD Cert.PostIdeal.τ).loc Cert.PostIdeal.main_arg13)
      ∧ r.2.mem ((c.tc : Thread Cert.PostIdeal.nD Cert.PostIdeal.τ).loc Cert.PostIdeal.main_arg14) = m ((c.tc : Thread Cert.PostIdeal.nD Cert.PostIdeal.τ).loc Cert.PostIdeal.main_arg14)
      ∧ r.2.mem ((c.tc : Thread Cert.PostIdeal.nD Cert.PostIdeal.τ).loc Cert.PostIdeal.main_arg15) = m ((c.tc : Thread Cert.PostIdeal.nD Cert.PostIdeal.τ).loc Cert.PostIdeal.main_arg15)
      ∧ r.2.mem ((c.tc : Thread Cert.PostIdeal.nD Cert.PostIdeal.τ).loc Cert.PostIdeal.main_arg16) = m ((c.tc : Thread Cert.PostIdeal.nD Cert.PostIdeal.τ).loc Cert.PostIdeal.main_arg16)
      ∧ r.2.mem ((c.tc : Thread Cert.PostIdeal.nD Cert.PostIdeal.τ).loc Cert.PostIdeal.main_arg17) = m ((c.tc : Thread Cert.PostIdeal.nD Cert.PostIdeal.τ).loc Cert.PostIdeal.main_arg17)
      ∧ r.2.mem ((c.tc : Thread Cert.PostIdeal.nD Cert.PostIdeal.τ).loc Cert.PostIdeal.main_arg18) = m ((c.tc : Thread Cert.PostIdeal.nD Cert.PostIdeal.τ).loc Cert.PostIdeal.main_arg18))
      ∧ r.2.sem = fun _ => 0)

def quiescent_PostReferenceIdeal [hPostReferenceIdeal : Cert.PostReferenceIdeal.Facts] : Prop :=
  ∀ (m : (ℓ : Loc Cert.PostReferenceIdeal.nD Cert.PostReferenceIdeal.τ Cert.PostReferenceIdeal.sig) → Buf (Elt Ideal) ℓ) (g : Dev Cert.PostReferenceIdeal.nD → PrngReg), Pre_PostReferenceIdeal m →
    θ_run (Cert.PostReferenceIdeal.defs (F := Ideal)) (onTc (τ := Cert.PostReferenceIdeal.τ) (Cert.PostReferenceIdeal.main (F := Ideal))) ⟨m, fun _ => 0, g⟩ (fun r => (∀ c : Dev Cert.PostReferenceIdeal.nD,
      r.2.mem ((c.tc : Thread Cert.PostReferenceIdeal.nD Cert.PostReferenceIdeal.τ).loc Cert.PostReferenceIdeal.main_arg0) = m ((c.tc : Thread Cert.PostReferenceIdeal.nD Cert.PostReferenceIdeal.τ).loc Cert.PostReferenceIdeal.main_arg0)
      ∧ r.2.mem ((c.tc : Thread Cert.PostReferenceIdeal.nD Cert.PostReferenceIdeal.τ).loc Cert.PostReferenceIdeal.main_arg1) = m ((c.tc : Thread Cert.PostReferenceIdeal.nD Cert.PostReferenceIdeal.τ).loc Cert.PostReferenceIdeal.main_arg1)
      ∧ r.2.mem ((c.tc : Thread Cert.PostReferenceIdeal.nD Cert.PostReferenceIdeal.τ).loc Cert.PostReferenceIdeal.main_arg2) = m ((c.tc : Thread Cert.PostReferenceIdeal.nD Cert.PostReferenceIdeal.τ).loc Cert.PostReferenceIdeal.main_arg2)
      ∧ r.2.mem ((c.tc : Thread Cert.PostReferenceIdeal.nD Cert.PostReferenceIdeal.τ).loc Cert.PostReferenceIdeal.main_arg3) = m ((c.tc : Thread Cert.PostReferenceIdeal.nD Cert.PostReferenceIdeal.τ).loc Cert.PostReferenceIdeal.main_arg3)
      ∧ r.2.mem ((c.tc : Thread Cert.PostReferenceIdeal.nD Cert.PostReferenceIdeal.τ).loc Cert.PostReferenceIdeal.main_arg4) = m ((c.tc : Thread Cert.PostReferenceIdeal.nD Cert.PostReferenceIdeal.τ).loc Cert.PostReferenceIdeal.main_arg4)
      ∧ r.2.mem ((c.tc : Thread Cert.PostReferenceIdeal.nD Cert.PostReferenceIdeal.τ).loc Cert.PostReferenceIdeal.main_arg5) = m ((c.tc : Thread Cert.PostReferenceIdeal.nD Cert.PostReferenceIdeal.τ).loc Cert.PostReferenceIdeal.main_arg5)
      ∧ r.2.mem ((c.tc : Thread Cert.PostReferenceIdeal.nD Cert.PostReferenceIdeal.τ).loc Cert.PostReferenceIdeal.main_arg6) = m ((c.tc : Thread Cert.PostReferenceIdeal.nD Cert.PostReferenceIdeal.τ).loc Cert.PostReferenceIdeal.main_arg6)
      ∧ r.2.mem ((c.tc : Thread Cert.PostReferenceIdeal.nD Cert.PostReferenceIdeal.τ).loc Cert.PostReferenceIdeal.main_arg7) = m ((c.tc : Thread Cert.PostReferenceIdeal.nD Cert.PostReferenceIdeal.τ).loc Cert.PostReferenceIdeal.main_arg7)
      ∧ r.2.mem ((c.tc : Thread Cert.PostReferenceIdeal.nD Cert.PostReferenceIdeal.τ).loc Cert.PostReferenceIdeal.main_arg8) = m ((c.tc : Thread Cert.PostReferenceIdeal.nD Cert.PostReferenceIdeal.τ).loc Cert.PostReferenceIdeal.main_arg8)
      ∧ r.2.mem ((c.tc : Thread Cert.PostReferenceIdeal.nD Cert.PostReferenceIdeal.τ).loc Cert.PostReferenceIdeal.main_arg9) = m ((c.tc : Thread Cert.PostReferenceIdeal.nD Cert.PostReferenceIdeal.τ).loc Cert.PostReferenceIdeal.main_arg9)
      ∧ r.2.mem ((c.tc : Thread Cert.PostReferenceIdeal.nD Cert.PostReferenceIdeal.τ).loc Cert.PostReferenceIdeal.main_arg10) = m ((c.tc : Thread Cert.PostReferenceIdeal.nD Cert.PostReferenceIdeal.τ).loc Cert.PostReferenceIdeal.main_arg10)
      ∧ r.2.mem ((c.tc : Thread Cert.PostReferenceIdeal.nD Cert.PostReferenceIdeal.τ).loc Cert.PostReferenceIdeal.main_arg11) = m ((c.tc : Thread Cert.PostReferenceIdeal.nD Cert.PostReferenceIdeal.τ).loc Cert.PostReferenceIdeal.main_arg11)
      ∧ r.2.mem ((c.tc : Thread Cert.PostReferenceIdeal.nD Cert.PostReferenceIdeal.τ).loc Cert.PostReferenceIdeal.main_arg12) = m ((c.tc : Thread Cert.PostReferenceIdeal.nD Cert.PostReferenceIdeal.τ).loc Cert.PostReferenceIdeal.main_arg12)
      ∧ r.2.mem ((c.tc : Thread Cert.PostReferenceIdeal.nD Cert.PostReferenceIdeal.τ).loc Cert.PostReferenceIdeal.main_arg13) = m ((c.tc : Thread Cert.PostReferenceIdeal.nD Cert.PostReferenceIdeal.τ).loc Cert.PostReferenceIdeal.main_arg13)
      ∧ r.2.mem ((c.tc : Thread Cert.PostReferenceIdeal.nD Cert.PostReferenceIdeal.τ).loc Cert.PostReferenceIdeal.main_arg14) = m ((c.tc : Thread Cert.PostReferenceIdeal.nD Cert.PostReferenceIdeal.τ).loc Cert.PostReferenceIdeal.main_arg14)
      ∧ r.2.mem ((c.tc : Thread Cert.PostReferenceIdeal.nD Cert.PostReferenceIdeal.τ).loc Cert.PostReferenceIdeal.main_arg15) = m ((c.tc : Thread Cert.PostReferenceIdeal.nD Cert.PostReferenceIdeal.τ).loc Cert.PostReferenceIdeal.main_arg15)
      ∧ r.2.mem ((c.tc : Thread Cert.PostReferenceIdeal.nD Cert.PostReferenceIdeal.τ).loc Cert.PostReferenceIdeal.main_arg16) = m ((c.tc : Thread Cert.PostReferenceIdeal.nD Cert.PostReferenceIdeal.τ).loc Cert.PostReferenceIdeal.main_arg16)
      ∧ r.2.mem ((c.tc : Thread Cert.PostReferenceIdeal.nD Cert.PostReferenceIdeal.τ).loc Cert.PostReferenceIdeal.main_arg17) = m ((c.tc : Thread Cert.PostReferenceIdeal.nD Cert.PostReferenceIdeal.τ).loc Cert.PostReferenceIdeal.main_arg17)
      ∧ r.2.mem ((c.tc : Thread Cert.PostReferenceIdeal.nD Cert.PostReferenceIdeal.τ).loc Cert.PostReferenceIdeal.main_arg18) = m ((c.tc : Thread Cert.PostReferenceIdeal.nD Cert.PostReferenceIdeal.τ).loc Cert.PostReferenceIdeal.main_arg18))
      ∧ r.2.sem = fun _ => 0)

def quiescent_Project [hProject : Cert.Project.Facts] : Prop :=
  ∀ (m : (ℓ : Loc Cert.Project.nD Cert.Project.τ Cert.Project.sig) → Buf (Elt Bits) ℓ) (g : Dev Cert.Project.nD → PrngReg), Pre_Project m →
    θ_run (Cert.Project.defs (F := Bits)) (onTc (τ := Cert.Project.τ) (Cert.Project.main (F := Bits))) ⟨m, fun _ => 0, g⟩ (fun r => (∀ c : Dev Cert.Project.nD,
      r.2.mem ((c.tc : Thread Cert.Project.nD Cert.Project.τ).loc Cert.Project.main_arg0) = m ((c.tc : Thread Cert.Project.nD Cert.Project.τ).loc Cert.Project.main_arg0)
      ∧ r.2.mem ((c.tc : Thread Cert.Project.nD Cert.Project.τ).loc Cert.Project.main_arg1) = m ((c.tc : Thread Cert.Project.nD Cert.Project.τ).loc Cert.Project.main_arg1)
      ∧ r.2.mem ((c.tc : Thread Cert.Project.nD Cert.Project.τ).loc Cert.Project.main_arg2) = m ((c.tc : Thread Cert.Project.nD Cert.Project.τ).loc Cert.Project.main_arg2))
      ∧ r.2.sem = fun _ => 0)

def quiescent_ProjectIdeal [hProjectIdeal : Cert.ProjectIdeal.Facts] : Prop :=
  ∀ (m : (ℓ : Loc Cert.ProjectIdeal.nD Cert.ProjectIdeal.τ Cert.ProjectIdeal.sig) → Buf (Elt Ideal) ℓ) (g : Dev Cert.ProjectIdeal.nD → PrngReg), Pre_ProjectIdeal m →
    θ_run (Cert.ProjectIdeal.defs (F := Ideal)) (onTc (τ := Cert.ProjectIdeal.τ) (Cert.ProjectIdeal.main (F := Ideal))) ⟨m, fun _ => 0, g⟩ (fun r => (∀ c : Dev Cert.ProjectIdeal.nD,
      r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
      ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
      ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2))
      ∧ r.2.sem = fun _ => 0)

def quiescent_ProjectReferenceIdeal [hProjectReferenceIdeal : Cert.ProjectReferenceIdeal.Facts] : Prop :=
  ∀ (m : (ℓ : Loc Cert.ProjectReferenceIdeal.nD Cert.ProjectReferenceIdeal.τ Cert.ProjectReferenceIdeal.sig) → Buf (Elt Ideal) ℓ) (g : Dev Cert.ProjectReferenceIdeal.nD → PrngReg), Pre_ProjectReferenceIdeal m →
    θ_run (Cert.ProjectReferenceIdeal.defs (F := Ideal)) (onTc (τ := Cert.ProjectReferenceIdeal.τ) (Cert.ProjectReferenceIdeal.main (F := Ideal))) ⟨m, fun _ => 0, g⟩ (fun r => (∀ c : Dev Cert.ProjectReferenceIdeal.nD,
      r.2.mem ((c.tc : Thread Cert.ProjectReferenceIdeal.nD Cert.ProjectReferenceIdeal.τ).loc Cert.ProjectReferenceIdeal.main_arg0) = m ((c.tc : Thread Cert.ProjectReferenceIdeal.nD Cert.ProjectReferenceIdeal.τ).loc Cert.ProjectReferenceIdeal.main_arg0)
      ∧ r.2.mem ((c.tc : Thread Cert.ProjectReferenceIdeal.nD Cert.ProjectReferenceIdeal.τ).loc Cert.ProjectReferenceIdeal.main_arg1) = m ((c.tc : Thread Cert.ProjectReferenceIdeal.nD Cert.ProjectReferenceIdeal.τ).loc Cert.ProjectReferenceIdeal.main_arg1)
      ∧ r.2.mem ((c.tc : Thread Cert.ProjectReferenceIdeal.nD Cert.ProjectReferenceIdeal.τ).loc Cert.ProjectReferenceIdeal.main_arg2) = m ((c.tc : Thread Cert.ProjectReferenceIdeal.nD Cert.ProjectReferenceIdeal.τ).loc Cert.ProjectReferenceIdeal.main_arg2))
      ∧ r.2.sem = fun _ => 0)

def preserves_Kernel_KernelIdeal : Prop :=
  IdealRules.named_const.Statement Cert.KernelIdeal.κ "q_scale" .f32 0x3E38AA3B#32 ((8⁻¹ * (Real.log 2)⁻¹ : ℝ) : EReal)
  ∧ IdealRules.named_const.Statement Cert.KernelIdeal.κ "mask" .f32 0xF149F2CA#32 ⊥

def algebraic_KernelIdeal_ReferenceIdeal_pre_finite_q_k [hKernelIdeal : Cert.KernelIdeal.Facts] [hReferenceIdeal : Cert.ReferenceIdeal.Facts] [hPre_finite_q_k : Cert.Pre_finite_q_k.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_q_k m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Post_PostIdeal : Prop :=
  True

def algebraic_PostIdeal_PostReferenceIdeal [hPostIdeal : Cert.PostIdeal.Facts] [hPostReferenceIdeal : Cert.PostReferenceIdeal.Facts] : Prop :=
  ∀ (m : (ℓ : Loc Cert.PostIdeal.nD Cert.PostIdeal.τ Cert.PostIdeal.sig) → Buf (Elt Ideal) ℓ) (g : Dev Cert.PostIdeal.nD → PrngReg)
    (m' : (ℓ : Loc Cert.PostReferenceIdeal.nD Cert.PostReferenceIdeal.τ Cert.PostReferenceIdeal.sig) → Buf (Elt Ideal) ℓ) (g' : Dev Cert.PostReferenceIdeal.nD → PrngReg), Pre_PostIdeal m →
    (∀ c : Dev Cert.PostIdeal.nD,
      m' ((c.tc : Thread Cert.PostReferenceIdeal.nD Cert.PostReferenceIdeal.τ).loc Cert.PostReferenceIdeal.main_arg0) = m ((c.tc : Thread Cert.PostIdeal.nD Cert.PostIdeal.τ).loc Cert.PostIdeal.main_arg0)
      ∧ m' ((c.tc : Thread Cert.PostReferenceIdeal.nD Cert.PostReferenceIdeal.τ).loc Cert.PostReferenceIdeal.main_arg1) = m ((c.tc : Thread Cert.PostIdeal.nD Cert.PostIdeal.τ).loc Cert.PostIdeal.main_arg1)
      ∧ m' ((c.tc : Thread Cert.PostReferenceIdeal.nD Cert.PostReferenceIdeal.τ).loc Cert.PostReferenceIdeal.main_arg2) = m ((c.tc : Thread Cert.PostIdeal.nD Cert.PostIdeal.τ).loc Cert.PostIdeal.main_arg2)
      ∧ m' ((c.tc : Thread Cert.PostReferenceIdeal.nD Cert.PostReferenceIdeal.τ).loc Cert.PostReferenceIdeal.main_arg3) = m ((c.tc : Thread Cert.PostIdeal.nD Cert.PostIdeal.τ).loc Cert.PostIdeal.main_arg3)
      ∧ m' ((c.tc : Thread Cert.PostReferenceIdeal.nD Cert.PostReferenceIdeal.τ).loc Cert.PostReferenceIdeal.main_arg4) = m ((c.tc : Thread Cert.PostIdeal.nD Cert.PostIdeal.τ).loc Cert.PostIdeal.main_arg4)
      ∧ m' ((c.tc : Thread Cert.PostReferenceIdeal.nD Cert.PostReferenceIdeal.τ).loc Cert.PostReferenceIdeal.main_arg5) = m ((c.tc : Thread Cert.PostIdeal.nD Cert.PostIdeal.τ).loc Cert.PostIdeal.main_arg5)
      ∧ m' ((c.tc : Thread Cert.PostReferenceIdeal.nD Cert.PostReferenceIdeal.τ).loc Cert.PostReferenceIdeal.main_arg6) = m ((c.tc : Thread Cert.PostIdeal.nD Cert.PostIdeal.τ).loc Cert.PostIdeal.main_arg6)
      ∧ m' ((c.tc : Thread Cert.PostReferenceIdeal.nD Cert.PostReferenceIdeal.τ).loc Cert.PostReferenceIdeal.main_arg7) = m ((c.tc : Thread Cert.PostIdeal.nD Cert.PostIdeal.τ).loc Cert.PostIdeal.main_arg7)
      ∧ m' ((c.tc : Thread Cert.PostReferenceIdeal.nD Cert.PostReferenceIdeal.τ).loc Cert.PostReferenceIdeal.main_arg8) = m ((c.tc : Thread Cert.PostIdeal.nD Cert.PostIdeal.τ).loc Cert.PostIdeal.main_arg8)
      ∧ m' ((c.tc : Thread Cert.PostReferenceIdeal.nD Cert.PostReferenceIdeal.τ).loc Cert.PostReferenceIdeal.main_arg9) = m ((c.tc : Thread Cert.PostIdeal.nD Cert.PostIdeal.τ).loc Cert.PostIdeal.main_arg9)
      ∧ m' ((c.tc : Thread Cert.PostReferenceIdeal.nD Cert.PostReferenceIdeal.τ).loc Cert.PostReferenceIdeal.main_arg10) = m ((c.tc : Thread Cert.PostIdeal.nD Cert.PostIdeal.τ).loc Cert.PostIdeal.main_arg10)
      ∧ m' ((c.tc : Thread Cert.PostReferenceIdeal.nD Cert.PostReferenceIdeal.τ).loc Cert.PostReferenceIdeal.main_arg11) = m ((c.tc : Thread Cert.PostIdeal.nD Cert.PostIdeal.τ).loc Cert.PostIdeal.main_arg11)
      ∧ m' ((c.tc : Thread Cert.PostReferenceIdeal.nD Cert.PostReferenceIdeal.τ).loc Cert.PostReferenceIdeal.main_arg12) = m ((c.tc : Thread Cert.PostIdeal.nD Cert.PostIdeal.τ).loc Cert.PostIdeal.main_arg12)
      ∧ m' ((c.tc : Thread Cert.PostReferenceIdeal.nD Cert.PostReferenceIdeal.τ).loc Cert.PostReferenceIdeal.main_arg13) = m ((c.tc : Thread Cert.PostIdeal.nD Cert.PostIdeal.τ).loc Cert.PostIdeal.main_arg13)
      ∧ m' ((c.tc : Thread Cert.PostReferenceIdeal.nD Cert.PostReferenceIdeal.τ).loc Cert.PostReferenceIdeal.main_arg14) = m ((c.tc : Thread Cert.PostIdeal.nD Cert.PostIdeal.τ).loc Cert.PostIdeal.main_arg14)
      ∧ m' ((c.tc : Thread Cert.PostReferenceIdeal.nD Cert.PostReferenceIdeal.τ).loc Cert.PostReferenceIdeal.main_arg15) = m ((c.tc : Thread Cert.PostIdeal.nD Cert.PostIdeal.τ).loc Cert.PostIdeal.main_arg15)
      ∧ m' ((c.tc : Thread Cert.PostReferenceIdeal.nD Cert.PostReferenceIdeal.τ).loc Cert.PostReferenceIdeal.main_arg16) = m ((c.tc : Thread Cert.PostIdeal.nD Cert.PostIdeal.τ).loc Cert.PostIdeal.main_arg16)
      ∧ m' ((c.tc : Thread Cert.PostReferenceIdeal.nD Cert.PostReferenceIdeal.τ).loc Cert.PostReferenceIdeal.main_arg17) = m ((c.tc : Thread Cert.PostIdeal.nD Cert.PostIdeal.τ).loc Cert.PostIdeal.main_arg17)
      ∧ m' ((c.tc : Thread Cert.PostReferenceIdeal.nD Cert.PostReferenceIdeal.τ).loc Cert.PostReferenceIdeal.main_arg18) = m ((c.tc : Thread Cert.PostIdeal.nD Cert.PostIdeal.τ).loc Cert.PostIdeal.main_arg18)) →
    ∃ (v0 : (c : Dev Cert.PostIdeal.nD) → Buf (Elt Ideal) ((c.tc : Thread Cert.PostIdeal.nD Cert.PostIdeal.τ).loc Cert.PostIdeal.main_v18)),
      θ_run (Cert.PostIdeal.defs (F := Ideal)) (onTc (τ := Cert.PostIdeal.τ) (Cert.PostIdeal.main (F := Ideal))) ⟨m, fun _ => 0, g⟩ (fun r => ∀ c : Dev Cert.PostIdeal.nD,
          r.2.mem ((c.tc : Thread Cert.PostIdeal.nD Cert.PostIdeal.τ).loc Cert.PostIdeal.main_v18) = v0 c
          ∧ r.2.mem ((c.tc : Thread Cert.PostIdeal.nD Cert.PostIdeal.τ).loc Cert.PostIdeal.main_arg0) = m ((c.tc : Thread Cert.PostIdeal.nD Cert.PostIdeal.τ).loc Cert.PostIdeal.main_arg0)
          ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
          ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
          ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
          ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
          ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
          ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
          ∧ r.2.mem ((c.tc : Thread Cert.PostIdeal.nD Cert.PostIdeal.τ).loc Cert.PostIdeal.main_arg7) = m ((c.tc : Thread Cert.PostIdeal.nD Cert.PostIdeal.τ).loc Cert.PostIdeal.main_arg7)
          ∧ r.2.mem ((c.tc : Thread Cert.PostIdeal.nD Cert.PostIdeal.τ).loc Cert.PostIdeal.main_arg8) = m ((c.tc : Thread Cert.PostIdeal.nD Cert.PostIdeal.τ).loc Cert.PostIdeal.main_arg8)
          ∧ r.2.mem ((c.tc : Thread Cert.PostIdeal.nD Cert.PostIdeal.τ).loc Cert.PostIdeal.main_arg9) = m ((c.tc : Thread Cert.PostIdeal.nD Cert.PostIdeal.τ).loc Cert.PostIdeal.main_arg9)
          ∧ r.2.mem ((c.tc : Thread Cert.PostIdeal.nD Cert.PostIdeal.τ).loc Cert.PostIdeal.main_arg10) = m ((c.tc : Thread Cert.PostIdeal.nD Cert.PostIdeal.τ).loc Cert.PostIdeal.main_arg10)
          ∧ r.2.mem ((c.tc : Thread Cert.PostIdeal.nD Cert.PostIdeal.τ).loc Cert.PostIdeal.main_arg11) = m ((c.tc : Thread Cert.PostIdeal.nD Cert.PostIdeal.τ).loc Cert.PostIdeal.main_arg11)
          ∧ r.2.mem ((c.tc : Thread Cert.PostIdeal.nD Cert.PostIdeal.τ).loc Cert.PostIdeal.main_arg12) = m ((c.tc : Thread Cert.PostIdeal.nD Cert.PostIdeal.τ).loc Cert.PostIdeal.main_arg12)
          ∧ r.2.mem ((c.tc : Thread Cert.PostIdeal.nD Cert.PostIdeal.τ).loc Cert.PostIdeal.main_arg13) = m ((c.tc : Thread Cert.PostIdeal.nD Cert.PostIdeal.τ).loc Cert.PostIdeal.main_arg13)
          ∧ r.2.mem ((c.tc : Thread Cert.PostIdeal.nD Cert.PostIdeal.τ).loc Cert.PostIdeal.main_arg14) = m ((c.tc : Thread Cert.PostIdeal.nD Cert.PostIdeal.τ).loc Cert.PostIdeal.main_arg14)
          ∧ r.2.mem ((c.tc : Thread Cert.PostIdeal.nD Cert.PostIdeal.τ).loc Cert.PostIdeal.main_arg15) = m ((c.tc : Thread Cert.PostIdeal.nD Cert.PostIdeal.τ).loc Cert.PostIdeal.main_arg15)
          ∧ r.2.mem ((c.tc : Thread Cert.PostIdeal.nD Cert.PostIdeal.τ).loc Cert.PostIdeal.main_arg16) = m ((c.tc : Thread Cert.PostIdeal.nD Cert.PostIdeal.τ).loc Cert.PostIdeal.main_arg16)
          ∧ r.2.mem ((c.tc : Thread Cert.PostIdeal.nD Cert.PostIdeal.τ).loc Cert.PostIdeal.main_arg17) = m ((c.tc : Thread Cert.PostIdeal.nD Cert.PostIdeal.τ).loc Cert.PostIdeal.main_arg17)
          ∧ r.2.mem ((c.tc : Thread Cert.PostIdeal.nD Cert.PostIdeal.τ).loc Cert.PostIdeal.main_arg18) = m ((c.tc : Thread Cert.PostIdeal.nD Cert.PostIdeal.τ).loc Cert.PostIdeal.main_arg18))
      ∧ θ_run (Cert.PostReferenceIdeal.defs (F := Ideal)) (onTc (τ := Cert.PostReferenceIdeal.τ) (Cert.PostReferenceIdeal.main (F := Ideal))) ⟨m', fun _ => 0, g'⟩ (fun r => ∀ c : Dev Cert.PostReferenceIdeal.nD,
          r.2.mem ((c.tc : Thread Cert.PostReferenceIdeal.nD Cert.PostReferenceIdeal.τ).loc Cert.PostReferenceIdeal.main_v84) = v0 c
          ∧ r.2.mem ((c.tc : Thread Cert.PostReferenceIdeal.nD Cert.PostReferenceIdeal.τ).loc Cert.PostReferenceIdeal.main_arg0) = m' ((c.tc : Thread Cert.PostReferenceIdeal.nD Cert.PostReferenceIdeal.τ).loc Cert.PostReferenceIdeal.main_arg0)
          ∧ r.2.mem ((c.tc : Thread Cert.PostReferenceIdeal.nD Cert.PostReferenceIdeal.τ).loc Cert.PostReferenceIdeal.main_arg1) = m' ((c.tc : Thread Cert.PostReferenceIdeal.nD Cert.PostReferenceIdeal.τ).loc Cert.PostReferenceIdeal.main_arg1)
          ∧ r.2.mem ((c.tc : Thread Cert.PostReferenceIdeal.nD Cert.PostReferenceIdeal.τ).loc Cert.PostReferenceIdeal.main_arg2) = m' ((c.tc : Thread Cert.PostReferenceIdeal.nD Cert.PostReferenceIdeal.τ).loc Cert.PostReferenceIdeal.main_arg2)
          ∧ r.2.mem ((c.tc : Thread Cert.PostReferenceIdeal.nD Cert.PostReferenceIdeal.τ).loc Cert.PostReferenceIdeal.main_arg3) = m' ((c.tc : Thread Cert.PostReferenceIdeal.nD Cert.PostReferenceIdeal.τ).loc Cert.PostReferenceIdeal.main_arg3)
          ∧ r.2.mem ((c.tc : Thread Cert.PostReferenceIdeal.nD Cert.PostReferenceIdeal.τ).loc Cert.PostReferenceIdeal.main_arg4) = m' ((c.tc : Thread Cert.PostReferenceIdeal.nD Cert.PostReferenceIdeal.τ).loc Cert.PostReferenceIdeal.main_arg4)
          ∧ r.2.mem ((c.tc : Thread Cert.PostReferenceIdeal.nD Cert.PostReferenceIdeal.τ).loc Cert.PostReferenceIdeal.main_arg5) = m' ((c.tc : Thread Cert.PostReferenceIdeal.nD Cert.PostReferenceIdeal.τ).loc Cert.PostReferenceIdeal.main_arg5)
          ∧ r.2.mem ((c.tc : Thread Cert.PostReferenceIdeal.nD Cert.PostReferenceIdeal.τ).loc Cert.PostReferenceIdeal.main_arg6) = m' ((c.tc : Thread Cert.PostReferenceIdeal.nD Cert.PostReferenceIdeal.τ).loc Cert.PostReferenceIdeal.main_arg6)
          ∧ r.2.mem ((c.tc : Thread Cert.PostReferenceIdeal.nD Cert.PostReferenceIdeal.τ).loc Cert.PostReferenceIdeal.main_arg7) = m' ((c.tc : Thread Cert.PostReferenceIdeal.nD Cert.PostReferenceIdeal.τ).loc Cert.PostReferenceIdeal.main_arg7)
          ∧ r.2.mem ((c.tc : Thread Cert.PostReferenceIdeal.nD Cert.PostReferenceIdeal.τ).loc Cert.PostReferenceIdeal.main_arg8) = m' ((c.tc : Thread Cert.PostReferenceIdeal.nD Cert.PostReferenceIdeal.τ).loc Cert.PostReferenceIdeal.main_arg8)
          ∧ r.2.mem ((c.tc : Thread Cert.PostReferenceIdeal.nD Cert.PostReferenceIdeal.τ).loc Cert.PostReferenceIdeal.main_arg9) = m' ((c.tc : Thread Cert.PostReferenceIdeal.nD Cert.PostReferenceIdeal.τ).loc Cert.PostReferenceIdeal.main_arg9)
          ∧ r.2.mem ((c.tc : Thread Cert.PostReferenceIdeal.nD Cert.PostReferenceIdeal.τ).loc Cert.PostReferenceIdeal.main_arg10) = m' ((c.tc : Thread Cert.PostReferenceIdeal.nD Cert.PostReferenceIdeal.τ).loc Cert.PostReferenceIdeal.main_arg10)
          ∧ r.2.mem ((c.tc : Thread Cert.PostReferenceIdeal.nD Cert.PostReferenceIdeal.τ).loc Cert.PostReferenceIdeal.main_arg11) = m' ((c.tc : Thread Cert.PostReferenceIdeal.nD Cert.PostReferenceIdeal.τ).loc Cert.PostReferenceIdeal.main_arg11)
          ∧ r.2.mem ((c.tc : Thread Cert.PostReferenceIdeal.nD Cert.PostReferenceIdeal.τ).loc Cert.PostReferenceIdeal.main_arg12) = m' ((c.tc : Thread Cert.PostReferenceIdeal.nD Cert.PostReferenceIdeal.τ).loc Cert.PostReferenceIdeal.main_arg12)
          ∧ r.2.mem ((c.tc : Thread Cert.PostReferenceIdeal.nD Cert.PostReferenceIdeal.τ).loc Cert.PostReferenceIdeal.main_arg13) = m' ((c.tc : Thread Cert.PostReferenceIdeal.nD Cert.PostReferenceIdeal.τ).loc Cert.PostReferenceIdeal.main_arg13)
          ∧ r.2.mem ((c.tc : Thread Cert.PostReferenceIdeal.nD Cert.PostReferenceIdeal.τ).loc Cert.PostReferenceIdeal.main_arg14) = m' ((c.tc : Thread Cert.PostReferenceIdeal.nD Cert.PostReferenceIdeal.τ).loc Cert.PostReferenceIdeal.main_arg14)
          ∧ r.2.mem ((c.tc : Thread Cert.PostReferenceIdeal.nD Cert.PostReferenceIdeal.τ).loc Cert.PostReferenceIdeal.main_arg15) = m' ((c.tc : Thread Cert.PostReferenceIdeal.nD Cert.PostReferenceIdeal.τ).loc Cert.PostReferenceIdeal.main_arg15)
          ∧ r.2.mem ((c.tc : Thread Cert.PostReferenceIdeal.nD Cert.PostReferenceIdeal.τ).loc Cert.PostReferenceIdeal.main_arg16) = m' ((c.tc : Thread Cert.PostReferenceIdeal.nD Cert.PostReferenceIdeal.τ).loc Cert.PostReferenceIdeal.main_arg16)
          ∧ r.2.mem ((c.tc : Thread Cert.PostReferenceIdeal.nD Cert.PostReferenceIdeal.τ).loc Cert.PostReferenceIdeal.main_arg17) = m' ((c.tc : Thread Cert.PostReferenceIdeal.nD Cert.PostReferenceIdeal.τ).loc Cert.PostReferenceIdeal.main_arg17)
          ∧ r.2.mem ((c.tc : Thread Cert.PostReferenceIdeal.nD Cert.PostReferenceIdeal.τ).loc Cert.PostReferenceIdeal.main_arg18) = m' ((c.tc : Thread Cert.PostReferenceIdeal.nD Cert.PostReferenceIdeal.τ).loc Cert.PostReferenceIdeal.main_arg18))

def preserves_Project_ProjectIdeal : Prop :=
  True

def algebraic_ProjectIdeal_ProjectReferenceIdeal [hProjectIdeal : Cert.ProjectIdeal.Facts] [hProjectReferenceIdeal : Cert.ProjectReferenceIdeal.Facts] : Prop :=
  ∀ (m : (ℓ : Loc Cert.ProjectIdeal.nD Cert.ProjectIdeal.τ Cert.ProjectIdeal.sig) → Buf (Elt Ideal) ℓ) (g : Dev Cert.ProjectIdeal.nD → PrngReg)
    (m' : (ℓ : Loc Cert.ProjectReferenceIdeal.nD Cert.ProjectReferenceIdeal.τ Cert.ProjectReferenceIdeal.sig) → Buf (Elt Ideal) ℓ) (g' : Dev Cert.ProjectReferenceIdeal.nD → PrngReg), Pre_ProjectIdeal m →
    (∀ c : Dev Cert.ProjectIdeal.nD,
      m' ((c.tc : Thread Cert.ProjectReferenceIdeal.nD Cert.ProjectReferenceIdeal.τ).loc Cert.ProjectReferenceIdeal.main_arg0) = m ((c.tc : Thread Cert.ProjectIdeal.nD Cert.ProjectIdeal.τ).loc Cert.ProjectIdeal.main_arg0)
      ∧ m' ((c.tc : Thread Cert.ProjectReferenceIdeal.nD Cert.ProjectReferenceIdeal.τ).loc Cert.ProjectReferenceIdeal.main_arg1) = m ((c.tc : Thread Cert.ProjectIdeal.nD Cert.ProjectIdeal.τ).loc Cert.ProjectIdeal.main_arg1)
      ∧ m' ((c.tc : Thread Cert.ProjectReferenceIdeal.nD Cert.ProjectReferenceIdeal.τ).loc Cert.ProjectReferenceIdeal.main_arg2) = m ((c.tc : Thread Cert.ProjectIdeal.nD Cert.ProjectIdeal.τ).loc Cert.ProjectIdeal.main_arg2)) →
    ∃ (v0 : (c : Dev Cert.ProjectIdeal.nD) → Buf (Elt Ideal) ((c.tc : Thread Cert.ProjectIdeal.nD Cert.ProjectIdeal.τ).loc Cert.ProjectIdeal.main_v9_0)) (v1 : (c : Dev Cert.ProjectIdeal.nD) → Buf (Elt Ideal) ((c.tc : Thread Cert.ProjectIdeal.nD Cert.ProjectIdeal.τ).loc Cert.ProjectIdeal.main_v9_1)) (v2 : (c : Dev Cert.ProjectIdeal.nD) → Buf (Elt Ideal) ((c.tc : Thread Cert.ProjectIdeal.nD Cert.ProjectIdeal.τ).loc Cert.ProjectIdeal.main_v9_2)) (v3 : (c : Dev Cert.ProjectIdeal.nD) → Buf (Elt Ideal) ((c.tc : Thread Cert.ProjectIdeal.nD Cert.ProjectIdeal.τ).loc Cert.ProjectIdeal.main_v9_3)) (v4 : (c : Dev Cert.ProjectIdeal.nD) → Buf (Elt Ideal) ((c.tc : Thread Cert.ProjectIdeal.nD Cert.ProjectIdeal.τ).loc Cert.ProjectIdeal.main_v9_4)) (v5 : (c : Dev Cert.ProjectIdeal.nD) → Buf (Elt Ideal) ((c.tc : Thread Cert.ProjectIdeal.nD Cert.ProjectIdeal.τ).loc Cert.ProjectIdeal.main_v9_5)) (v6 : (c : Dev Cert.ProjectIdeal.nD) → Buf (Elt Ideal) ((c.tc : Thread Cert.ProjectIdeal.nD Cert.ProjectIdeal.τ).loc Cert.ProjectIdeal.main_v9_6)),
      θ_run (Cert.ProjectIdeal.defs (F := Ideal)) (onTc (τ := Cert.ProjectIdeal.τ) (Cert.ProjectIdeal.main (F := Ideal))) ⟨m, fun _ => 0, g⟩ (fun r => ∀ c : Dev Cert.ProjectIdeal.nD,
          r.2.mem ((c.tc : Thread Cert.ProjectIdeal.nD Cert.ProjectIdeal.τ).loc Cert.ProjectIdeal.main_v9_0) = v0 c
          ∧ r.2.mem ((c.tc : Thread Cert.ProjectIdeal.nD Cert.ProjectIdeal.τ).loc Cert.ProjectIdeal.main_v9_1) = v1 c
          ∧ r.2.mem ((c.tc : Thread Cert.ProjectIdeal.nD Cert.ProjectIdeal.τ).loc Cert.ProjectIdeal.main_v9_2) = v2 c
          ∧ r.2.mem ((c.tc : Thread Cert.ProjectIdeal.nD Cert.ProjectIdeal.τ).loc Cert.ProjectIdeal.main_v9_3) = v3 c
          ∧ r.2.mem ((c.tc : Thread Cert.ProjectIdeal.nD Cert.ProjectIdeal.τ).loc Cert.ProjectIdeal.main_v9_4) = v4 c
          ∧ r.2.mem ((c.tc : Thread Cert.ProjectIdeal.nD Cert.ProjectIdeal.τ).loc Cert.ProjectIdeal.main_v9_5) = v5 c
          ∧ r.2.mem ((c.tc : Thread Cert.ProjectIdeal.nD Cert.ProjectIdeal.τ).loc Cert.ProjectIdeal.main_v9_6) = v6 c
          ∧ r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
          ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
          ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2))
      ∧ θ_run (Cert.ProjectReferenceIdeal.defs (F := Ideal)) (onTc (τ := Cert.ProjectReferenceIdeal.τ) (Cert.ProjectReferenceIdeal.main (F := Ideal))) ⟨m', fun _ => 0, g'⟩ (fun r => ∀ c : Dev Cert.ProjectReferenceIdeal.nD,
          r.2.mem ((c.tc : Thread Cert.ProjectReferenceIdeal.nD Cert.ProjectReferenceIdeal.τ).loc Cert.ProjectReferenceIdeal.main_v33) = v0 c
          ∧ r.2.mem ((c.tc : Thread Cert.ProjectReferenceIdeal.nD Cert.ProjectReferenceIdeal.τ).loc Cert.ProjectReferenceIdeal.main_v42) = v1 c
          ∧ r.2.mem ((c.tc : Thread Cert.ProjectReferenceIdeal.nD Cert.ProjectReferenceIdeal.τ).loc Cert.ProjectReferenceIdeal.main_v43) = v2 c
          ∧ r.2.mem ((c.tc : Thread Cert.ProjectReferenceIdeal.nD Cert.ProjectReferenceIdeal.τ).loc Cert.ProjectReferenceIdeal.main_v45) = v3 c
          ∧ r.2.mem ((c.tc : Thread Cert.ProjectReferenceIdeal.nD Cert.ProjectReferenceIdeal.τ).loc Cert.ProjectReferenceIdeal.main_v46) = v4 c
          ∧ r.2.mem ((c.tc : Thread Cert.ProjectReferenceIdeal.nD Cert.ProjectReferenceIdeal.τ).loc Cert.ProjectReferenceIdeal.main_v47) = v5 c
          ∧ r.2.mem ((c.tc : Thread Cert.ProjectReferenceIdeal.nD Cert.ProjectReferenceIdeal.τ).loc Cert.ProjectReferenceIdeal.main_v38) = v6 c
          ∧ r.2.mem ((c.tc : Thread Cert.ProjectReferenceIdeal.nD Cert.ProjectReferenceIdeal.τ).loc Cert.ProjectReferenceIdeal.main_arg0) = m' ((c.tc : Thread Cert.ProjectReferenceIdeal.nD Cert.ProjectReferenceIdeal.τ).loc Cert.ProjectReferenceIdeal.main_arg0)
          ∧ r.2.mem ((c.tc : Thread Cert.ProjectReferenceIdeal.nD Cert.ProjectReferenceIdeal.τ).loc Cert.ProjectReferenceIdeal.main_arg1) = m' ((c.tc : Thread Cert.ProjectReferenceIdeal.nD Cert.ProjectReferenceIdeal.τ).loc Cert.ProjectReferenceIdeal.main_arg1)
          ∧ r.2.mem ((c.tc : Thread Cert.ProjectReferenceIdeal.nD Cert.ProjectReferenceIdeal.τ).loc Cert.ProjectReferenceIdeal.main_arg2) = m' ((c.tc : Thread Cert.ProjectReferenceIdeal.nD Cert.ProjectReferenceIdeal.τ).loc Cert.ProjectReferenceIdeal.main_arg2))

def Claim : Prop :=
  ∃ (hKernel : Cert.Kernel.Facts) (hKernelIdeal : Cert.KernelIdeal.Facts) (hReferenceIdeal : Cert.ReferenceIdeal.Facts) (hPost : Cert.Post.Facts) (hPostIdeal : Cert.PostIdeal.Facts) (hPostReferenceIdeal : Cert.PostReferenceIdeal.Facts) (hProject : Cert.Project.Facts) (hProjectIdeal : Cert.ProjectIdeal.Facts) (hProjectReferenceIdeal : Cert.ProjectReferenceIdeal.Facts) (hPre_finite_q_k : Cert.Pre_finite_q_k.Facts),
    quiescent_Kernel (hKernel := hKernel)
    ∧ quiescent_KernelIdeal (hKernelIdeal := hKernelIdeal)
    ∧ quiescent_KernelIdeal_pre_finite_q_k (hKernelIdeal := hKernelIdeal) (hPre_finite_q_k := hPre_finite_q_k)
    ∧ quiescent_ReferenceIdeal (hReferenceIdeal := hReferenceIdeal)
    ∧ quiescent_ReferenceIdeal_pre_finite_q_k (hReferenceIdeal := hReferenceIdeal) (hPre_finite_q_k := hPre_finite_q_k)
    ∧ quiescent_Post (hPost := hPost)
    ∧ quiescent_PostIdeal (hPostIdeal := hPostIdeal)
    ∧ quiescent_PostReferenceIdeal (hPostReferenceIdeal := hPostReferenceIdeal)
    ∧ quiescent_Project (hProject := hProject)
    ∧ quiescent_ProjectIdeal (hProjectIdeal := hProjectIdeal)
    ∧ quiescent_ProjectReferenceIdeal (hProjectReferenceIdeal := hProjectReferenceIdeal)
    ∧ preserves_Kernel_KernelIdeal
    ∧ algebraic_KernelIdeal_ReferenceIdeal_pre_finite_q_k (hKernelIdeal := hKernelIdeal) (hReferenceIdeal := hReferenceIdeal) (hPre_finite_q_k := hPre_finite_q_k)
    ∧ preserves_Post_PostIdeal
    ∧ algebraic_PostIdeal_PostReferenceIdeal (hPostIdeal := hPostIdeal) (hPostReferenceIdeal := hPostReferenceIdeal)
    ∧ preserves_Project_ProjectIdeal
    ∧ algebraic_ProjectIdeal_ProjectReferenceIdeal (hProjectIdeal := hProjectIdeal) (hProjectReferenceIdeal := hProjectReferenceIdeal)
-- ==== Pre_finite_q_k.lean ====
abbrev S32x2048x8x64 : Shape := ⟨4, ![32, 2048, 8, 64]⟩
abbrev S_ : Shape := ⟨0, ![]⟩

class Facts : Prop where
  bcast_S_S32x2048x8x64 : S_.BroadcastsInDim S32x2048x8x64 (![] : Fin 0 → Fin S32x2048x8x64.rank)
  reducesTo_S32x2048x8x64_S_d0_1_2_3 : S32x2048x8x64.ReducesTo [0, 1, 2, 3] S_
  h_S_ : 0 < S_.numel

variable [Facts]

def fn {F : FTy → Type} [FloatOps F] (main_arg0 : FVec F S32x2048x8x64 .f32) (main_arg1 : FVec F S32x2048x8x64 .f32) (main_arg2 : FVec F S32x2048x8x64 .f32) : IVec S_ 1 :=
  let main_v0 : FVec F S32x2048x8x64 .f32 := Host.absf main_arg0
  let main_cst : FVec F S_ .f32 := constant S_ .f32 0x7F800000#32
  let main_v1 : FVec F S32x2048x8x64 .f32 := broadcastInDim S32x2048x8x64 ![] bcast_S_S32x2048x8x64 main_cst
  let main_v2 : IVec S32x2048x8x64 1 := cmpf .olt main_v0 main_v1
  let main_c : IVec S_ 1 := constantI S_ 1 1#1
  let main_v3 : IVec S_ 1 := (fun x v => Host.reduce IntOp.andi x v reducesTo_S32x2048x8x64_S_d0_1_2_3 h_S_) main_v2 main_c
  let main_v4 : FVec F S32x2048x8x64 .f32 := Host.absf main_arg1
  let main_cst_0 : FVec F S_ .f32 := constant S_ .f32 0x7F800000#32
  let main_v5 : FVec F S32x2048x8x64 .f32 := broadcastInDim S32x2048x8x64 ![] bcast_S_S32x2048x8x64 main_cst_0
  let main_v6 : IVec S32x2048x8x64 1 := cmpf .olt main_v4 main_v5
  let main_c_1 : IVec S_ 1 := constantI S_ 1 1#1
  let main_v7 : IVec S_ 1 := (fun x v => Host.reduce IntOp.andi x v reducesTo_S32x2048x8x64_S_d0_1_2_3 h_S_) main_v6 main_c_1
  let main_v8 : IVec S_ 1 := andi main_v3 main_v7
  main_v8
-- ==== Kernel.lean ====
abbrev S32x2048x8x64 : Shape := ⟨4, ![32, 2048, 8, 64]⟩
abbrev S32x2048x512 : Shape := ⟨3, ![32, 2048, 512]⟩
abbrev S32x512x2048 : Shape := ⟨3, ![32, 512, 2048]⟩
abbrev S32x8x256x512 : Shape := ⟨4, ![32, 8, 256, 512]⟩
abbrev S_ : Shape := ⟨0, ![]⟩
abbrev S32x8x512 : Shape := ⟨3, ![32, 8, 512]⟩
abbrev S32x8x1x512 : Shape := ⟨4, ![32, 8, 1, 512]⟩
abbrev S1x256x2048 : Shape := ⟨3, ![1, 256, 2048]⟩
abbrev S1x2048x256 : Shape := ⟨3, ![1, 2048, 256]⟩
abbrev S1x8x1x256 : Shape := ⟨4, ![1, 8, 1, 256]⟩
abbrev S1x1x1x256 : Shape := ⟨4, ![1, 1, 1, 256]⟩
abbrev S1x256 : Shape := ⟨2, ![1, 256]⟩
abbrev S8x256 : Shape := ⟨2, ![8, 256]⟩
abbrev S16x256 : Shape := ⟨2, ![16, 256]⟩
abbrev S128x256 : Shape := ⟨2, ![128, 256]⟩
abbrev S256x256 : Shape := ⟨2, ![256, 256]⟩
abbrev S1x128x256 : Shape := ⟨3, ![1, 128, 256]⟩
abbrev S16x128 : Shape := ⟨2, ![16, 128]⟩
abbrev S256 : Shape := ⟨1, ![256]⟩
abbrev S1x256x128 : Shape := ⟨3, ![1, 256, 128]⟩
abbrev S256x128 : Shape := ⟨2, ![256, 128]⟩
abbrev S1x64x256 : Shape := ⟨3, ![1, 64, 256]⟩
abbrev S64x256 : Shape := ⟨2, ![64, 256]⟩
abbrev S80x256 : Shape := ⟨2, ![80, 256]⟩

abbrev nBuf : Space → Nat
  | .hbm => 18
  | .vmem => 10
  | .smem => 0
  | _ => 0

abbrev bufTy : (tb : Table) → Fin (tcTables nBuf tb) → BufTy
  | .hbm, ⟨0, _⟩ => ⟨S32x2048x8x64, .f32⟩
  | .hbm, ⟨1, _⟩ => ⟨S32x2048x8x64, .f32⟩
  | .hbm, ⟨2, _⟩ => ⟨S32x2048x8x64, .f32⟩
  | .hbm, ⟨3, _⟩ => ⟨S32x2048x512, .f32⟩
  | .hbm, ⟨4, _⟩ => ⟨S32x512x2048, .f32⟩
  | .hbm, ⟨5, _⟩ => ⟨S32x2048x512, .f32⟩
  | .hbm, ⟨6, _⟩ => ⟨S32x2048x512, .bf16⟩
  | .hbm, ⟨7, _⟩ => ⟨S32x512x2048, .bf16⟩
  | .hbm, ⟨8, _⟩ => ⟨S32x2048x512, .f32⟩
  | .hbm, ⟨9, _⟩ => ⟨S32x8x256x512, .f32⟩
  | .hbm, ⟨10, _⟩ => ⟨S_, .f32⟩
  | .hbm, ⟨11, _⟩ => ⟨S32x8x512, .f32⟩
  | .hbm, ⟨12, _⟩ => ⟨S32x8x1x512, .f32⟩
  | .hbm, ⟨13, _⟩ => ⟨S_, .f32⟩
  | .hbm, ⟨14, _⟩ => ⟨S32x8x1x512, .f32⟩
  | .hbm, ⟨15, _⟩ => ⟨S32x8x1x512, .f32⟩
  | .hbm, ⟨16, _⟩ => ⟨S32x2048x512, .bf16⟩
  | .hbm, ⟨17, _⟩ => ⟨S32x2048x512, .bf16⟩
  | .local _ .vmem, ⟨0, _⟩ => ⟨S1x256x2048, .f32⟩
  | .local _ .vmem, ⟨1, _⟩ => ⟨S1x256x2048, .f32⟩
  | .local _ .vmem, ⟨2, _⟩ => ⟨S1x2048x256, .bf16⟩
  | .local _ .vmem, ⟨3, _⟩ => ⟨S1x2048x256, .bf16⟩
  | .local _ .vmem, ⟨4, _⟩ => ⟨S1x256x2048, .bf16⟩
  | .local _ .vmem, ⟨5, _⟩ => ⟨S1x256x2048, .bf16⟩
  | .local _ .vmem, ⟨6, _⟩ => ⟨S1x8x1x256, .f32⟩
  | .local _ .vmem, ⟨7, _⟩ => ⟨S1x8x1x256, .f32⟩
  | .local _ .vmem, ⟨8, _⟩ => ⟨S1x2048x256, .bf16⟩
  | .local _ .vmem, ⟨9, _⟩ => ⟨S1x2048x256, .bf16⟩
  | _, _ => ⟨S32x2048x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![32, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== KernelIdeal.lean ====
variable {F : FTy → Type} [FloatOps F] [Named F]
def κ : String → Option EReal := fun
  | "mask" => some ⊥
  | "q_scale" => some ((8⁻¹ * (Real.log 2)⁻¹ : ℝ) : EReal)
  | _ => none
-- ==== ReferenceIdeal.lean ====
abbrev S32x2048x8x64 : Shape := ⟨4, ![32, 2048, 8, 64]⟩
abbrev S32x8x256x8x64 : Shape := ⟨5, ![32, 8, 256, 8, 64]⟩
abbrev S32x8x8x256x64 : Shape := ⟨5, ![32, 8, 8, 256, 64]⟩
abbrev S_ : Shape := ⟨0, ![]⟩
abbrev S32x8x8x64 : Shape := ⟨4, ![32, 8, 8, 64]⟩
abbrev S32x8x8x2048 : Shape := ⟨4, ![32, 8, 8, 2048]⟩
abbrev S32x2048x8x8 : Shape := ⟨4, ![32, 2048, 8, 8]⟩
abbrev S2048 : Shape := ⟨1, ![2048]⟩
abbrev S8 : Shape := ⟨1, ![8]⟩
abbrev S1x8 : Shape := ⟨2, ![1, 8]⟩
abbrev S2048x1 : Shape := ⟨2, ![2048, 1]⟩
abbrev S2048x8 : Shape := ⟨2, ![2048, 8]⟩
abbrev S1x2048x1x8 : Shape := ⟨4, ![1, 2048, 1, 8]⟩
abbrev S32x2048x8x3 : Shape := ⟨4, ![32, 2048, 8, 3]⟩
abbrev S1x2048x1x1 : Shape := ⟨4, ![1, 2048, 1, 1]⟩
abbrev S32x2048x8x1x3 : Shape := ⟨5, ![32, 2048, 8, 1, 3]⟩
abbrev S1x1x1x2048x1 : Shape := ⟨5, ![1, 1, 1, 2048, 1]⟩
abbrev S32x2048x8x2048x3 : Shape := ⟨5, ![32, 2048, 8, 2048, 3]⟩
abbrev S32x2048x8x2048 : Shape := ⟨4, ![32, 2048, 8, 2048]⟩
abbrev S1x2048 : Shape := ⟨2, ![1, 2048]⟩
abbrev S2048x2048 : Shape := ⟨2, ![2048, 2048]⟩
abbrev S1x2048x1x2048 : Shape := ⟨4, ![1, 2048, 1, 2048]⟩
abbrev S32x8x2048x2048 : Shape := ⟨4, ![32, 8, 2048, 2048]⟩
abbrev S32x2048x8 : Shape := ⟨3, ![32, 2048, 8]⟩
abbrev S32x2048x8x1 : Shape := ⟨4, ![32, 2048, 8, 1]⟩
abbrev S32x8x64x2048 : Shape := ⟨4, ![32, 8, 64, 2048]⟩
abbrev S32x2048x512 : Shape := ⟨3, ![32, 2048, 512]⟩

abbrev nBuf : Space → Nat
  | .hbm => 84
  | .vmem => 0
  | .smem => 0
  | _ => 0

abbrev bufTy : (tb : Table) → Fin (tcTables nBuf tb) → BufTy
  | .hbm, ⟨0, _⟩ => ⟨S32x2048x8x64, .f32⟩
  | .hbm, ⟨1, _⟩ => ⟨S32x2048x8x64, .f32⟩
  | .hbm, ⟨2, _⟩ => ⟨S32x2048x8x64, .f32⟩
  | .hbm, ⟨3, _⟩ => ⟨S32x8x256x8x64, .f32⟩
  | .hbm, ⟨4, _⟩ => ⟨S32x8x8x256x64, .f32⟩
  | .hbm, ⟨5, _⟩ => ⟨S_, .f32⟩
  | .hbm, ⟨6, _⟩ => ⟨S32x8x8x64, .f32⟩
  | .hbm, ⟨7, _⟩ => ⟨S_, .f32⟩
  | .hbm, ⟨8, _⟩ => ⟨S32x8x8x64, .f32⟩
  | .hbm, ⟨9, _⟩ => ⟨S32x8x8x64, .f32⟩
  | .hbm, ⟨10, _⟩ => ⟨S32x8x8x2048, .f32⟩
  | .hbm, ⟨11, _⟩ => ⟨S32x2048x8x8, .f32⟩
  | .hbm, ⟨12, _⟩ => ⟨S2048, .i32⟩
  | .hbm, ⟨13, _⟩ => ⟨S_, .i32⟩
  | .hbm, ⟨14, _⟩ => ⟨S2048, .i32⟩
  | .hbm, ⟨15, _⟩ => ⟨S2048, .i32⟩
  | .hbm, ⟨16, _⟩ => ⟨S8, .i32⟩
  | .hbm, ⟨17, _⟩ => ⟨S1x8, .i32⟩
  | .hbm, ⟨18, _⟩ => ⟨S2048x1, .i32⟩
  | .hbm, ⟨19, _⟩ => ⟨S2048x8, .i32⟩
  | .hbm, ⟨20, _⟩ => ⟨S2048x8, .i32⟩
  | .hbm, ⟨21, _⟩ => ⟨S2048x8, .i1⟩
  | .hbm, ⟨22, _⟩ => ⟨S1x2048x1x8, .i1⟩
  | .hbm, ⟨23, _⟩ => ⟨S_, .f32⟩
  | .hbm, ⟨24, _⟩ => ⟨S_, .f32⟩
  | .hbm, ⟨25, _⟩ => ⟨S32x2048x8x8, .i1⟩
  | .hbm, ⟨26, _⟩ => ⟨S32x2048x8x8, .f32⟩
  | .hbm, ⟨27, _⟩ => ⟨S32x2048x8x8, .f32⟩
  | .hbm, ⟨28, _⟩ => ⟨S32x2048x8x3, .f32⟩
  | .hbm, ⟨29, _⟩ => ⟨S32x2048x8x3, .i32⟩
  | .hbm, ⟨30, _⟩ => ⟨S1x2048x1x1, .i32⟩
  | .hbm, ⟨31, _⟩ => ⟨S32x2048x8x3, .i32⟩
  | .hbm, ⟨32, _⟩ => ⟨S32x2048x8x3, .i1⟩
  | .hbm, ⟨33, _⟩ => ⟨S32x2048x8x1x3, .i32⟩
  | .hbm, ⟨34, _⟩ => ⟨S1x1x1x2048x1, .i32⟩
  | .hbm, ⟨35, _⟩ => ⟨S32x2048x8x2048x3, .i32⟩
  | .hbm, ⟨36, _⟩ => ⟨S32x2048x8x2048x3, .i32⟩
  | .hbm, ⟨37, _⟩ => ⟨S32x2048x8x2048x3, .i1⟩
  | .hbm, ⟨38, _⟩ => ⟨S32x2048x8x1x3, .i1⟩
  | .hbm, ⟨39, _⟩ => ⟨S32x2048x8x2048x3, .i1⟩
  | .hbm, ⟨40, _⟩ => ⟨S32x2048x8x2048x3, .i1⟩
  | .hbm, ⟨41, _⟩ => ⟨S_, .i1⟩
  | .hbm, ⟨42, _⟩ => ⟨S32x2048x8x2048, .i1⟩
  | .hbm, ⟨43, _⟩ => ⟨S1x2048, .i32⟩
  | .hbm, ⟨44, _⟩ => ⟨S2048x1, .i32⟩
  | .hbm, ⟨45, _⟩ => ⟨S2048x2048, .i32⟩
  | .hbm, ⟨46, _⟩ => ⟨S2048x2048, .i32⟩
  | .hbm, ⟨47, _⟩ => ⟨S2048x2048, .i1⟩
  | .hbm, ⟨48, _⟩ => ⟨S1x2048, .i32⟩
  | .hbm, ⟨49, _⟩ => ⟨S2048x1, .i32⟩
  | .hbm, ⟨50, _⟩ => ⟨S2048x2048, .i32⟩
  | .hbm, ⟨51, _⟩ => ⟨S2048x2048, .i32⟩
  | .hbm, ⟨52, _⟩ => ⟨S2048x2048, .i1⟩
  | .hbm, ⟨53, _⟩ => ⟨S2048x2048, .i1⟩
  | .hbm, ⟨54, _⟩ => ⟨S1x2048x1x2048, .i1⟩
  | .hbm, ⟨55, _⟩ => ⟨S32x2048x8x2048, .i1⟩
  | .hbm, ⟨56, _⟩ => ⟨S32x2048x8x2048, .i1⟩
  | .hbm, ⟨57, _⟩ => ⟨S_, .f32⟩
  | .hbm, ⟨58, _⟩ => ⟨S32x2048x8x64, .f32⟩
  | .hbm, ⟨59, _⟩ => ⟨S32x2048x8x64, .f32⟩
  | .hbm, ⟨60, _⟩ => ⟨S32x8x2048x2048, .f32⟩
  | .hbm, ⟨61, _⟩ => ⟨S32x2048x8x2048, .f32⟩
  | .hbm, ⟨62, _⟩ => ⟨S_, .f32⟩
  | .hbm, ⟨63, _⟩ => ⟨S_, .f32⟩
  | .hbm, ⟨64, _⟩ => ⟨S32x2048x8x2048, .f32⟩
  | .hbm, ⟨65, _⟩ => ⟨S32x2048x8x2048, .f32⟩
  | .hbm, ⟨66, _⟩ => ⟨S_, .f32⟩
  | .hbm, ⟨67, _⟩ => ⟨S32x2048x8, .f32⟩
  | .hbm, ⟨68, _⟩ => ⟨S_, .f32⟩
  | .hbm, ⟨69, _⟩ => ⟨S32x2048x8, .f32⟩
  | .hbm, ⟨70, _⟩ => ⟨S32x2048x8, .f32⟩
  | .hbm, ⟨71, _⟩ => ⟨S32x2048x8x1, .f32⟩
  | .hbm, ⟨72, _⟩ => ⟨S32x2048x8x2048, .f32⟩
  | .hbm, ⟨73, _⟩ => ⟨S32x2048x8x2048, .f32⟩
  | .hbm, ⟨74, _⟩ => ⟨S32x2048x8x2048, .f32⟩
  | .hbm, ⟨75, _⟩ => ⟨S_, .f32⟩
  | .hbm, ⟨76, _⟩ => ⟨S32x2048x8, .f32⟩
  | .hbm, ⟨77, _⟩ => ⟨S32x2048x8x1, .f32⟩
  | .hbm, ⟨78, _⟩ => ⟨S32x2048x8x2048, .f32⟩
  | .hbm, ⟨79, _⟩ => ⟨S32x2048x8x2048, .f32⟩
  | .hbm, ⟨80, _⟩ => ⟨S32x8x64x2048, .f32⟩
  | .hbm, ⟨81, _⟩ => ⟨S32x2048x8x64, .f32⟩
  | .hbm, ⟨82, _⟩ => ⟨S32x2048x512, .f32⟩
  | .hbm, ⟨83, _⟩ => ⟨S32x2048x512, .bf16⟩
  | _, _ => ⟨S32x2048x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_1 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_v17 : Ref sig .tc := ⟨.hbm, 27, rfl⟩
abbrev main_values : Ref sig .tc := ⟨.hbm, 28, rfl⟩
abbrev main_indices : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_c_2 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_cst_3 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_cst_4 : Ref sig .tc := ⟨.hbm, 62, rfl⟩
abbrev main_call1_v0 : Ref sig .tc := ⟨.hbm, 63, rfl⟩
abbrev main_call1_v1 : Ref sig .tc := ⟨.hbm, 64, rfl⟩
abbrev main_v48 : Ref sig .tc := ⟨.hbm, 65, rfl⟩
abbrev main_cst_5 : Ref sig .tc := ⟨.hbm, 66, rfl⟩
abbrev main_v49 : Ref sig .tc := ⟨.hbm, 67, rfl⟩
abbrev main_cst_6 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_7 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩

abbrev nD : Nat := 1
abbrev τ : Topo := Topo.v7x

variable {F : FTy → Type} [FloatOps F]
-- ==== Post.lean ====
abbrev S32x2048x512 : Shape := ⟨3, ![32, 2048, 512]⟩
abbrev S32x2048x1024 : Shape := ⟨3, ![32, 2048, 1024]⟩
abbrev S32x2048x256 : Shape := ⟨3, ![32, 2048, 256]⟩
abbrev S512x512 : Shape := ⟨2, ![512, 512]⟩
abbrev S512 : Shape := ⟨1, ![512]⟩
abbrev S512x1024 : Shape := ⟨2, ![512, 1024]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S256x1024 : Shape := ⟨2, ![256, 1024]⟩
abbrev S32x256x8x4x128 : Shape := ⟨5, ![32, 256, 8, 4, 128]⟩
abbrev S4x256x32x8x128 : Shape := ⟨5, ![4, 256, 32, 8, 128]⟩
abbrev S1x512 : Shape := ⟨2, ![1, 512]⟩
abbrev S1x1024 : Shape := ⟨2, ![1, 1024]⟩
abbrev S4x64x1x8x128 : Shape := ⟨5, ![4, 64, 1, 8, 128]⟩
abbrev S1x512x512 : Shape := ⟨3, ![1, 512, 512]⟩
abbrev S1x512x1024 : Shape := ⟨3, ![1, 512, 1024]⟩
abbrev S1x512x256 : Shape := ⟨3, ![1, 512, 256]⟩
abbrev S1x32x1x8x128 : Shape := ⟨5, ![1, 32, 1, 8, 128]⟩
abbrev S32x8x128 : Shape := ⟨3, ![32, 8, 128]⟩
abbrev S256x128 : Shape := ⟨2, ![256, 128]⟩
abbrev S256x512 : Shape := ⟨2, ![256, 512]⟩
abbrev S1x256x512 : Shape := ⟨3, ![1, 256, 512]⟩
abbrev S1x256x1024 : Shape := ⟨3, ![1, 256, 1024]⟩
abbrev S1x256x256 : Shape := ⟨3, ![1, 256, 256]⟩
abbrev S256x256 : Shape := ⟨2, ![256, 256]⟩
abbrev S256 : Shape := ⟨1, ![256]⟩
abbrev S256x1 : Shape := ⟨2, ![256, 1]⟩

abbrev nBuf : Space → Nat
  | .hbm => 38
  | .vmem => 27
  | .smem => 0
  | _ => 0

abbrev bufTy : (tb : Table) → Fin (tcTables nBuf tb) → BufTy
  | .hbm, ⟨0, _⟩ => ⟨S32x2048x512, .f32⟩
  | .hbm, ⟨1, _⟩ => ⟨S32x2048x512, .f32⟩
  | .hbm, ⟨2, _⟩ => ⟨S32x2048x1024, .f32⟩
  | .hbm, ⟨3, _⟩ => ⟨S32x2048x1024, .f32⟩
  | .hbm, ⟨4, _⟩ => ⟨S32x2048x1024, .f32⟩
  | .hbm, ⟨5, _⟩ => ⟨S32x2048x256, .f32⟩
  | .hbm, ⟨6, _⟩ => ⟨S512x512, .f32⟩
  | .hbm, ⟨7, _⟩ => ⟨S512, .f32⟩
  | .hbm, ⟨8, _⟩ => ⟨S512x1024, .f32⟩
  | .hbm, ⟨9, _⟩ => ⟨S512x1024, .f32⟩
  | .hbm, ⟨10, _⟩ => ⟨S1024x1024, .f32⟩
  | .hbm, ⟨11, _⟩ => ⟨S1024, .f32⟩
  | .hbm, ⟨12, _⟩ => ⟨S1024, .f32⟩
  | .hbm, ⟨13, _⟩ => ⟨S1024x4096, .f32⟩
  | .hbm, ⟨14, _⟩ => ⟨S4096x1024, .f32⟩
  | .hbm, ⟨15, _⟩ => ⟨S1024, .f32⟩
  | .hbm, ⟨16, _⟩ => ⟨S256x1024, .f32⟩
  | .hbm, ⟨17, _⟩ => ⟨S1024x1024, .f32⟩
  | .hbm, ⟨18, _⟩ => ⟨S1024, .f32⟩
  | .hbm, ⟨19, _⟩ => ⟨S32x256x8x4x128, .f32⟩
  | .hbm, ⟨20, _⟩ => ⟨S4x256x32x8x128, .f32⟩
  | .hbm, ⟨21, _⟩ => ⟨S32x2048x512, .bf16⟩
  | .hbm, ⟨22, _⟩ => ⟨S32x2048x1024, .bf16⟩
  | .hbm, ⟨23, _⟩ => ⟨S32x2048x1024, .bf16⟩
  | .hbm, ⟨24, _⟩ => ⟨S512x512, .bf16⟩
  | .hbm, ⟨25, _⟩ => ⟨S1x512, .f32⟩
  | .hbm, ⟨26, _⟩ => ⟨S512x1024, .bf16⟩
  | .hbm, ⟨27, _⟩ => ⟨S512x1024, .bf16⟩
  | .hbm, ⟨28, _⟩ => ⟨S1024x1024, .bf16⟩
  | .hbm, ⟨29, _⟩ => ⟨S1x1024, .f32⟩
  | .hbm, ⟨30, _⟩ => ⟨S1x1024, .f32⟩
  | .hbm, ⟨31, _⟩ => ⟨S1024x4096, .bf16⟩
  | .hbm, ⟨32, _⟩ => ⟨S4096x1024, .bf16⟩
  | .hbm, ⟨33, _⟩ => ⟨S1x1024, .f32⟩
  | .hbm, ⟨34, _⟩ => ⟨S256x1024, .bf16⟩
  | .hbm, ⟨35, _⟩ => ⟨S1024x1024, .bf16⟩
  | .hbm, ⟨36, _⟩ => ⟨S1x1024, .f32⟩
  | .hbm, ⟨37, _⟩ => ⟨S32x2048x1024, .f32⟩
  | .local _ .vmem, ⟨0, _⟩ => ⟨S4x64x1x8x128, .f32⟩
  | .local _ .vmem, ⟨1, _⟩ => ⟨S4x64x1x8x128, .f32⟩
  | .local _ .vmem, ⟨2, _⟩ => ⟨S1x512x512, .bf16⟩
  | .local _ .vmem, ⟨3, _⟩ => ⟨S1x512x512, .bf16⟩
  | .local _ .vmem, ⟨4, _⟩ => ⟨S1x512x1024, .bf16⟩
  | .local _ .vmem, ⟨5, _⟩ => ⟨S1x512x1024, .bf16⟩
  | .local _ .vmem, ⟨6, _⟩ => ⟨S1x512x1024, .bf16⟩
  | .local _ .vmem, ⟨7, _⟩ => ⟨S1x512x1024, .bf16⟩
  | .local _ .vmem, ⟨8, _⟩ => ⟨S1x512x1024, .f32⟩
  | .local _ .vmem, ⟨9, _⟩ => ⟨S1x512x1024, .f32⟩
  | .local _ .vmem, ⟨10, _⟩ => ⟨S1x512x256, .f32⟩
  | .local _ .vmem, ⟨11, _⟩ => ⟨S1x512x256, .f32⟩
  | .local _ .vmem, ⟨12, _⟩ => ⟨S512x512, .bf16⟩
  | .local _ .vmem, ⟨13, _⟩ => ⟨S1x512, .f32⟩
  | .local _ .vmem, ⟨14, _⟩ => ⟨S512x1024, .bf16⟩
  | .local _ .vmem, ⟨15, _⟩ => ⟨S512x1024, .bf16⟩
  | .local _ .vmem, ⟨16, _⟩ => ⟨S1024x1024, .bf16⟩
  | .local _ .vmem, ⟨17, _⟩ => ⟨S1x1024, .f32⟩
  | .local _ .vmem, ⟨18, _⟩ => ⟨S1x1024, .f32⟩
  | .local _ .vmem, ⟨19, _⟩ => ⟨S1024x4096, .bf16⟩
  | .local _ .vmem, ⟨20, _⟩ => ⟨S4096x1024, .bf16⟩
  | .local _ .vmem, ⟨21, _⟩ => ⟨S1x1024, .f32⟩
  | .local _ .vmem, ⟨22, _⟩ => ⟨S256x1024, .bf16⟩
  | .local _ .vmem, ⟨23, _⟩ => ⟨S1024x1024, .bf16⟩
  | .local _ .vmem, ⟨24, _⟩ => ⟨S1x1024, .f32⟩
  | .local _ .vmem, ⟨25, _⟩ => ⟨S1x512x1024, .f32⟩
  | .local _ .vmem, ⟨26, _⟩ => ⟨S1x512x1024, .f32⟩
  | _, _ => ⟨S32x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg15_0 : Ref sig .tc := ⟨.vmem, 21, rfl⟩
abbrev cc0_stg16_0 : Ref sig .tc := ⟨.vmem, 22, rfl⟩
abbrev cc0_stg17_0 : Ref sig .tc := ⟨.vmem, 23, rfl⟩
abbrev cc0_stg18_0 : Ref sig .tc := ⟨.vmem, 24, rfl⟩
abbrev cc0_stg19_0 : Ref sig .tc := ⟨.vmem, 25, rfl⟩
abbrev cc0_stg19_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem15_0 : DmaSem sig := 21
abbrev cc0_sem16_0 : DmaSem sig := 22
abbrev cc0_sem17_0 : DmaSem sig := 23
abbrev cc0_sem18_0 : DmaSem sig := 24
abbrev cc0_sem19_0 : DmaSem sig := 25
abbrev cc0_sem19_1 : DmaSem sig := 26

abbrev nD : Nat := 1
abbrev τ : Topo := Topo.v7x

variable {F : FTy → Type} [FloatOps F]

abbrev grid0 : Pipeline.Grid := ⟨2, ![32, 4], ![false, false]⟩

def cc0_transform_0 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg1.toNat, arg0.toNat, c0_i32_0.toNat, c0_i32_1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S4x64x1x8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S512x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1024x4096 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S4096x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S256x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S1024x1024 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]

abbrev stage0_19 : Fin 2 → Memref sig .tc .vmem S1x512x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]
-- ==== PostReferenceIdeal.lean ====
abbrev S32x2048x512 : Shape := ⟨3, ![32, 2048, 512]⟩
abbrev S32x2048x1024 : Shape := ⟨3, ![32, 2048, 1024]⟩
abbrev S32x2048x256 : Shape := ⟨3, ![32, 2048, 256]⟩
abbrev S512x512 : Shape := ⟨2, ![512, 512]⟩
abbrev S512 : Shape := ⟨1, ![512]⟩
abbrev S512x1024 : Shape := ⟨2, ![512, 1024]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S256x1024 : Shape := ⟨2, ![256, 1024]⟩
abbrev S1x1x512 : Shape := ⟨3, ![1, 1, 512]⟩
abbrev S_ : Shape := ⟨0, ![]⟩
abbrev S32x2048 : Shape := ⟨2, ![32, 2048]⟩
abbrev S32x2048x1 : Shape := ⟨3, ![32, 2048, 1]⟩
abbrev S1x1x1024 : Shape := ⟨3, ![1, 1, 1024]⟩
abbrev S32x2048x4096 : Shape := ⟨3, ![32, 2048, 4096]⟩

abbrev nBuf : Space → Nat
  | .hbm => 122
  | .vmem => 0
  | .smem => 0
  | _ => 0

abbrev bufTy : (tb : Table) → Fin (tcTables nBuf tb) → BufTy
  | .hbm, ⟨0, _⟩ => ⟨S32x2048x512, .f32⟩
  | .hbm, ⟨1, _⟩ => ⟨S32x2048x512, .f32⟩
  | .hbm, ⟨2, _⟩ => ⟨S32x2048x1024, .f32⟩
  | .hbm, ⟨3, _⟩ => ⟨S32x2048x1024, .f32⟩
  | .hbm, ⟨4, _⟩ => ⟨S32x2048x1024, .f32⟩
  | .hbm, ⟨5, _⟩ => ⟨S32x2048x256, .f32⟩
  | .hbm, ⟨6, _⟩ => ⟨S512x512, .f32⟩
  | .hbm, ⟨7, _⟩ => ⟨S512, .f32⟩
  | .hbm, ⟨8, _⟩ => ⟨S512x1024, .f32⟩
  | .hbm, ⟨9, _⟩ => ⟨S512x1024, .f32⟩
  | .hbm, ⟨10, _⟩ => ⟨S1024x1024, .f32⟩
  | .hbm, ⟨11, _⟩ => ⟨S1024, .f32⟩
  | .hbm, ⟨12, _⟩ => ⟨S1024, .f32⟩
  | .hbm, ⟨13, _⟩ => ⟨S1024x4096, .f32⟩
  | .hbm, ⟨14, _⟩ => ⟨S4096x1024, .f32⟩
  | .hbm, ⟨15, _⟩ => ⟨S1024, .f32⟩
  | .hbm, ⟨16, _⟩ => ⟨S256x1024, .f32⟩
  | .hbm, ⟨17, _⟩ => ⟨S1024x1024, .f32⟩
  | .hbm, ⟨18, _⟩ => ⟨S1024, .f32⟩
  | .hbm, ⟨19, _⟩ => ⟨S32x2048x512, .f32⟩
  | .hbm, ⟨20, _⟩ => ⟨S1x1x512, .f32⟩
  | .hbm, ⟨21, _⟩ => ⟨S32x2048x512, .f32⟩
  | .hbm, ⟨22, _⟩ => ⟨S32x2048x512, .f32⟩
  | .hbm, ⟨23, _⟩ => ⟨S32x2048x512, .f32⟩
  | .hbm, ⟨24, _⟩ => ⟨S32x2048x512, .f32⟩
  | .hbm, ⟨25, _⟩ => ⟨S_, .f32⟩
  | .hbm, ⟨26, _⟩ => ⟨S32x2048x512, .f32⟩
  | .hbm, ⟨27, _⟩ => ⟨S32x2048x512, .f32⟩
  | .hbm, ⟨28, _⟩ => ⟨S_, .f32⟩
  | .hbm, ⟨29, _⟩ => ⟨S32x2048x512, .f32⟩
  | .hbm, ⟨30, _⟩ => ⟨S32x2048x512, .f32⟩
  | .hbm, ⟨31, _⟩ => ⟨S32x2048x512, .f32⟩
  | .hbm, ⟨32, _⟩ => ⟨S32x2048x1024, .f32⟩
  | .hbm, ⟨33, _⟩ => ⟨S32x2048x1024, .f32⟩
  | .hbm, ⟨34, _⟩ => ⟨S32x2048x1024, .f32⟩
  | .hbm, ⟨35, _⟩ => ⟨S32x2048x1024, .f32⟩
  | .hbm, ⟨36, _⟩ => ⟨S32x2048x1024, .f32⟩
  | .hbm, ⟨37, _⟩ => ⟨S32x2048x1024, .f32⟩
  | .hbm, ⟨38, _⟩ => ⟨S32x2048x1024, .f32⟩
  | .hbm, ⟨39, _⟩ => ⟨S_, .f32⟩
  | .hbm, ⟨40, _⟩ => ⟨S32x2048, .f32⟩
  | .hbm, ⟨41, _⟩ => ⟨S32x2048x1, .f32⟩
  | .hbm, ⟨42, _⟩ => ⟨S_, .f32⟩
  | .hbm, ⟨43, _⟩ => ⟨S32x2048x1, .f32⟩
  | .hbm, ⟨44, _⟩ => ⟨S32x2048x1, .f32⟩
  | .hbm, ⟨45, _⟩ => ⟨S_, .f32⟩
  | .hbm, ⟨46, _⟩ => ⟨S32x2048x1, .f32⟩
  | .hbm, ⟨47, _⟩ => ⟨S32x2048x1, .f32⟩
  | .hbm, ⟨48, _⟩ => ⟨S32x2048x1, .f32⟩
  | .hbm, ⟨49, _⟩ => ⟨S32x2048x1024, .f32⟩
  | .hbm, ⟨50, _⟩ => ⟨S32x2048x1024, .f32⟩
  | .hbm, ⟨51, _⟩ => ⟨S1x1x1024, .f32⟩
  | .hbm, ⟨52, _⟩ => ⟨S32x2048x1024, .f32⟩
  | .hbm, ⟨53, _⟩ => ⟨S32x2048x1024, .f32⟩
  | .hbm, ⟨54, _⟩ => ⟨S32x2048x1024, .f32⟩
  | .hbm, ⟨55, _⟩ => ⟨S32x2048x1024, .f32⟩
  | .hbm, ⟨56, _⟩ => ⟨S_, .f32⟩
  | .hbm, ⟨57, _⟩ => ⟨S32x2048, .f32⟩
  | .hbm, ⟨58, _⟩ => ⟨S32x2048x1, .f32⟩
  | .hbm, ⟨59, _⟩ => ⟨S_, .f32⟩
  | .hbm, ⟨60, _⟩ => ⟨S32x2048x1, .f32⟩
  | .hbm, ⟨61, _⟩ => ⟨S32x2048x1, .f32⟩
  | .hbm, ⟨62, _⟩ => ⟨S_, .f32⟩
  | .hbm, ⟨63, _⟩ => ⟨S32x2048x1, .f32⟩
  | .hbm, ⟨64, _⟩ => ⟨S32x2048x1, .f32⟩
  | .hbm, ⟨65, _⟩ => ⟨S32x2048x1, .f32⟩
  | .hbm, ⟨66, _⟩ => ⟨S32x2048x1024, .f32⟩
  | .hbm, ⟨67, _⟩ => ⟨S32x2048x1024, .f32⟩
  | .hbm, ⟨68, _⟩ => ⟨S1x1x1024, .f32⟩
  | .hbm, ⟨69, _⟩ => ⟨S32x2048x1024, .f32⟩
  | .hbm, ⟨70, _⟩ => ⟨S32x2048x1024, .f32⟩
  | .hbm, ⟨71, _⟩ => ⟨S32x2048x4096, .f32⟩
  | .hbm, ⟨72, _⟩ => ⟨S_, .f32⟩
  | .hbm, ⟨73, _⟩ => ⟨S32x2048x4096, .f32⟩
  | .hbm, ⟨74, _⟩ => ⟨S32x2048x4096, .f32⟩
  | .hbm, ⟨75, _⟩ => ⟨S32x2048x4096, .f32⟩
  | .hbm, ⟨76, _⟩ => ⟨S32x2048x1024, .f32⟩
  | .hbm, ⟨77, _⟩ => ⟨S32x2048x1024, .f32⟩
  | .hbm, ⟨78, _⟩ => ⟨S_, .f32⟩
  | .hbm, ⟨79, _⟩ => ⟨S32x2048, .f32⟩
  | .hbm, ⟨80, _⟩ => ⟨S32x2048x1, .f32⟩
  | .hbm, ⟨81, _⟩ => ⟨S_, .f32⟩
  | .hbm, ⟨82, _⟩ => ⟨S32x2048x1, .f32⟩
  | .hbm, ⟨83, _⟩ => ⟨S32x2048x1, .f32⟩
  | .hbm, ⟨84, _⟩ => ⟨S_, .f32⟩
  | .hbm, ⟨85, _⟩ => ⟨S32x2048x1, .f32⟩
  | .hbm, ⟨86, _⟩ => ⟨S32x2048x1, .f32⟩
  | .hbm, ⟨87, _⟩ => ⟨S32x2048x1, .f32⟩
  | .hbm, ⟨88, _⟩ => ⟨S32x2048x1024, .f32⟩
  | .hbm, ⟨89, _⟩ => ⟨S32x2048x1024, .f32⟩
  | .hbm, ⟨90, _⟩ => ⟨S1x1x1024, .f32⟩
  | .hbm, ⟨91, _⟩ => ⟨S32x2048x1024, .f32⟩
  | .hbm, ⟨92, _⟩ => ⟨S32x2048x1024, .f32⟩
  | .hbm, ⟨93, _⟩ => ⟨S32x2048x1024, .f32⟩
  | .hbm, ⟨94, _⟩ => ⟨S32x2048x1024, .f32⟩
  | .hbm, ⟨95, _⟩ => ⟨S32x2048x1024, .f32⟩
  | .hbm, ⟨96, _⟩ => ⟨S32x2048x1024, .f32⟩
  | .hbm, ⟨97, _⟩ => ⟨S32x2048x1024, .f32⟩
  | .hbm, ⟨98, _⟩ => ⟨S_, .f32⟩
  | .hbm, ⟨99, _⟩ => ⟨S32x2048x1024, .f32⟩
  | .hbm, ⟨100, _⟩ => ⟨S32x2048x1024, .f32⟩
  | .hbm, ⟨101, _⟩ => ⟨S_, .f32⟩
  | .hbm, ⟨102, _⟩ => ⟨S32x2048x1024, .f32⟩
  | .hbm, ⟨103, _⟩ => ⟨S32x2048x1024, .f32⟩
  | .hbm, ⟨104, _⟩ => ⟨S32x2048x1024, .f32⟩
  | .hbm, ⟨105, _⟩ => ⟨S32x2048x1024, .f32⟩
  | .hbm, ⟨106, _⟩ => ⟨S_, .f32⟩
  | .hbm, ⟨107, _⟩ => ⟨S32x2048, .f32⟩
  | .hbm, ⟨108, _⟩ => ⟨S32x2048x1, .f32⟩
  | .hbm, ⟨109, _⟩ => ⟨S_, .f32⟩
  | .hbm, ⟨110, _⟩ => ⟨S32x2048x1, .f32⟩
  | .hbm, ⟨111, _⟩ => ⟨S32x2048x1, .f32⟩
  | .hbm, ⟨112, _⟩ => ⟨S_, .f32⟩
  | .hbm, ⟨113, _⟩ => ⟨S32x2048x1, .f32⟩
  | .hbm, ⟨114, _⟩ => ⟨S32x2048x1, .f32⟩
  | .hbm, ⟨115, _⟩ => ⟨S32x2048x1, .f32⟩
  | .hbm, ⟨116, _⟩ => ⟨S32x2048x1024, .f32⟩
  | .hbm, ⟨117, _⟩ => ⟨S32x2048x1024, .f32⟩
  | .hbm, ⟨118, _⟩ => ⟨S1x1x1024, .f32⟩
  | .hbm, ⟨119, _⟩ => ⟨S32x2048x1024, .f32⟩
  | .hbm, ⟨120, _⟩ => ⟨S32x2048x1024, .f32⟩
  | .hbm, ⟨121, _⟩ => ⟨S32x2048x1024, .f32⟩
  | _, _ => ⟨S32x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_cst : Ref sig .tc := ⟨.hbm, 25, rfl⟩
abbrev main_v6 : Ref sig .tc := ⟨.hbm, 26, rfl⟩
abbrev main_v7 : Ref sig .tc := ⟨.hbm, 27, rfl⟩
abbrev main_cst_0 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_cst_1 : Ref sig .tc := ⟨.hbm, 39, rfl⟩
abbrev main_v18 : Ref sig .tc := ⟨.hbm, 40, rfl⟩
abbrev main_v19 : Ref sig .tc := ⟨.hbm, 41, rfl⟩
abbrev main_cst_2 : Ref sig .tc := ⟨.hbm, 42, rfl⟩
abbrev main_v20 : Ref sig .tc := ⟨.hbm, 43, rfl⟩
abbrev main_v21 : Ref sig .tc := ⟨.hbm, 44, rfl⟩
abbrev main_cst_3 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_cst_4 : Ref sig .tc := ⟨.hbm, 56, rfl⟩
abbrev main_v32 : Ref sig .tc := ⟨.hbm, 57, rfl⟩
abbrev main_v33 : Ref sig .tc := ⟨.hbm, 58, rfl⟩
abbrev main_cst_5 : Ref sig .tc := ⟨.hbm, 59, rfl⟩
abbrev main_v34 : Ref sig .tc := ⟨.hbm, 60, rfl⟩
abbrev main_v35 : Ref sig .tc := ⟨.hbm, 61, rfl⟩
abbrev main_cst_6 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_call0_cst : Ref sig .tc := ⟨.hbm, 72, rfl⟩
abbrev main_call0_v0 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_cst_7 : Ref sig .tc := ⟨.hbm, 78, rfl⟩
abbrev main_v49 : Ref sig .tc := ⟨.hbm, 79, rfl⟩
abbrev main_v50 : Ref sig .tc := ⟨.hbm, 80, rfl⟩
abbrev main_cst_8 : Ref sig .tc := ⟨.hbm, 81, rfl⟩
abbrev main_v51 : Ref sig .tc := ⟨.hbm, 82, rfl⟩
abbrev main_v52 : Ref sig .tc := ⟨.hbm, 83, rfl⟩
abbrev main_cst_9 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_cst_10 : Ref sig .tc := ⟨.hbm, 98, rfl⟩
abbrev main_v66 : Ref sig .tc := ⟨.hbm, 99, rfl⟩
abbrev main_v67 : Ref sig .tc := ⟨.hbm, 100, rfl⟩
abbrev main_cst_11 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_cst_12 : Ref sig .tc := ⟨.hbm, 106, rfl⟩
abbrev main_v72 : Ref sig .tc := ⟨.hbm, 107, rfl⟩
abbrev main_v73 : Ref sig .tc := ⟨.hbm, 108, rfl⟩
abbrev main_cst_13 : Ref sig .tc := ⟨.hbm, 109, rfl⟩
abbrev main_v74 : Ref sig .tc := ⟨.hbm, 110, rfl⟩
abbrev main_v75 : Ref sig .tc := ⟨.hbm, 111, rfl⟩
abbrev main_cst_14 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩

abbrev nD : Nat := 1
abbrev τ : Topo := Topo.v7x

variable {F : FTy → Type} [FloatOps F]
-- ==== Project.lean ====
abbrev S32x2048x1024 : Shape := ⟨3, ![32, 2048, 1024]⟩
abbrev S1024 : Shape := ⟨1, ![1024]⟩
abbrev S1024x4096 : Shape := ⟨2, ![1024, 4096]⟩
abbrev S1x1024 : Shape := ⟨2, ![1, 1024]⟩
abbrev S1024x512 : Shape := ⟨2, ![1024, 512]⟩
abbrev S512x1024 : Shape := ⟨2, ![512, 1024]⟩
abbrev S1024x2048 : Shape := ⟨2, ![1024, 2048]⟩
abbrev S4x256x32x8x128 : Shape := ⟨5, ![4, 256, 32, 8, 128]⟩
abbrev S32x512x2048 : Shape := ⟨3, ![32, 512, 2048]⟩
abbrev S32x2048x512 : Shape := ⟨3, ![32, 2048, 512]⟩
abbrev S32x8x1x512 : Shape := ⟨4, ![32, 8, 1, 512]⟩
abbrev S1x1024x1024 : Shape := ⟨3, ![1, 1024, 1024]⟩
abbrev S4x128x1x8x128 : Shape := ⟨5, ![4, 128, 1, 8, 128]⟩
abbrev S1x512x1024 : Shape := ⟨3, ![1, 512, 1024]⟩
abbrev S1x1024x512 : Shape := ⟨3, ![1, 1024, 512]⟩
abbrev S1x4x1x512 : Shape := ⟨4, ![1, 4, 1, 512]⟩
abbrev S1x256x1024 : Shape := ⟨3, ![1, 256, 1024]⟩
abbrev S256x1024 : Shape := ⟨2, ![256, 1024]⟩
abbrev S256 : Shape := ⟨1, ![256]⟩
abbrev S256x1 : Shape := ⟨2, ![256, 1]⟩
abbrev S256x2048 : Shape := ⟨2, ![256, 2048]⟩
abbrev S256x512 : Shape := ⟨2, ![256, 512]⟩
abbrev S256x128 : Shape := ⟨2, ![256, 128]⟩
abbrev S32x8x128 : Shape := ⟨3, ![32, 8, 128]⟩
abbrev S1x32x1x8x128 : Shape := ⟨5, ![1, 32, 1, 8, 128]⟩
abbrev S1x256x512 : Shape := ⟨3, ![1, 256, 512]⟩
abbrev S512 : Shape := ⟨1, ![512]⟩
abbrev S1x512 : Shape := ⟨2, ![1, 512]⟩
abbrev S1x1x1x512 : Shape := ⟨4, ![1, 1, 1, 512]⟩
abbrev S512x256 : Shape := ⟨2, ![512, 256]⟩
abbrev S1x512x256 : Shape := ⟨3, ![1, 512, 256]⟩

abbrev nBuf : Space → Nat
  | .hbm => 19
  | .vmem => 22
  | .smem => 0
  | _ => 0

abbrev bufTy : (tb : Table) → Fin (tcTables nBuf tb) → BufTy
  | .hbm, ⟨0, _⟩ => ⟨S32x2048x1024, .f32⟩
  | .hbm, ⟨1, _⟩ => ⟨S1024, .f32⟩
  | .hbm, ⟨2, _⟩ => ⟨S1024x4096, .f32⟩
  | .hbm, ⟨3, _⟩ => ⟨S1024x4096, .bf16⟩
  | .hbm, ⟨4, _⟩ => ⟨S1x1024, .f32⟩
  | .hbm, ⟨5, _⟩ => ⟨S1024x512, .bf16⟩
  | .hbm, ⟨6, _⟩ => ⟨S1024x512, .bf16⟩
  | .hbm, ⟨7, _⟩ => ⟨S512x1024, .bf16⟩
  | .hbm, ⟨8, _⟩ => ⟨S1024x512, .bf16⟩
  | .hbm, ⟨9, _⟩ => ⟨S1024x512, .bf16⟩
  | .hbm, ⟨10, _⟩ => ⟨S512x1024, .bf16⟩
  | .hbm, ⟨11, _⟩ => ⟨S1024x2048, .bf16⟩
  | .hbm, ⟨12, _⟩ => ⟨S4x256x32x8x128, .f32⟩
  | .hbm, ⟨13, _⟩ => ⟨S32x512x2048, .bf16⟩
  | .hbm, ⟨14, _⟩ => ⟨S32x2048x512, .bf16⟩
  | .hbm, ⟨15, _⟩ => ⟨S32x512x2048, .bf16⟩
  | .hbm, ⟨16, _⟩ => ⟨S32x2048x1024, .bf16⟩
  | .hbm, ⟨17, _⟩ => ⟨S32x2048x1024, .bf16⟩
  | .hbm, ⟨18, _⟩ => ⟨S32x8x1x512, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024, .f32⟩
  | .local _ .vmem, ⟨3, _⟩ => ⟨S1024x512, .bf16⟩
  | .local _ .vmem, ⟨4, _⟩ => ⟨S512x1024, .bf16⟩
  | .local _ .vmem, ⟨5, _⟩ => ⟨S1024x512, .bf16⟩
  | .local _ .vmem, ⟨6, _⟩ => ⟨S512x1024, .bf16⟩
  | .local _ .vmem, ⟨7, _⟩ => ⟨S1024x2048, .bf16⟩
  | .local _ .vmem, ⟨8, _⟩ => ⟨S4x128x1x8x128, .f32⟩
  | .local _ .vmem, ⟨9, _⟩ => ⟨S4x128x1x8x128, .f32⟩
  | .local _ .vmem, ⟨10, _⟩ => ⟨S1x512x1024, .bf16⟩
  | .local _ .vmem, ⟨11, _⟩ => ⟨S1x512x1024, .bf16⟩
  | .local _ .vmem, ⟨12, _⟩ => ⟨S1x1024x512, .bf16⟩
  | .local _ .vmem, ⟨13, _⟩ => ⟨S1x1024x512, .bf16⟩
  | .local _ .vmem, ⟨14, _⟩ => ⟨S1x512x1024, .bf16⟩
  | .local _ .vmem, ⟨15, _⟩ => ⟨S1x512x1024, .bf16⟩
  | .local _ .vmem, ⟨16, _⟩ => ⟨S1x1024x1024, .bf16⟩
  | .local _ .vmem, ⟨17, _⟩ => ⟨S1x1024x1024, .bf16⟩
  | .local _ .vmem, ⟨18, _⟩ => ⟨S1x1024x1024, .bf16⟩
  | .local _ .vmem, ⟨19, _⟩ => ⟨S1x1024x1024, .bf16⟩
  | .local _ .vmem, ⟨20, _⟩ => ⟨S1x4x1x512, .f32⟩
  | .local _ .vmem, ⟨21, _⟩ => ⟨S1x4x1x512, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9_0 : Ref sig .tc := ⟨.hbm, 12, rfl⟩
abbrev main_v9_1 : Ref sig .tc := ⟨.hbm, 13, rfl⟩
abbrev main_v9_2 : Ref sig .tc := ⟨.hbm, 14, rfl⟩
abbrev main_v9_3 : Ref sig .tc := ⟨.hbm, 15, rfl⟩
abbrev main_v9_4 : Ref sig .tc := ⟨.hbm, 16, rfl⟩
abbrev main_v9_5 : Ref sig .tc := ⟨.hbm, 17, rfl⟩
abbrev main_v9_6 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21

abbrev nD : Nat := 1
abbrev τ : Topo := Topo.v7x

variable {F : FTy → Type} [FloatOps F]

abbrev grid0 : Pipeline.Grid := ⟨2, ![32, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg1.toNat, arg0.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S4x128x1x8x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1024x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x1024x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x4x1x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== ProjectReferenceIdeal.lean ====
abbrev S32x2048x1024 : Shape := ⟨3, ![32, 2048, 1024]⟩
abbrev S1024 : Shape := ⟨1, ![1024]⟩
abbrev S1024x4096 : Shape := ⟨2, ![1024, 4096]⟩
abbrev S_ : Shape := ⟨0, ![]⟩
abbrev S32x2048 : Shape := ⟨2, ![32, 2048]⟩
abbrev S32x2048x1 : Shape := ⟨3, ![32, 2048, 1]⟩
abbrev S1x1x1024 : Shape := ⟨3, ![1, 1, 1024]⟩
abbrev S32x2048x4096 : Shape := ⟨3, ![32, 2048, 4096]⟩
abbrev S32x2048x512 : Shape := ⟨3, ![32, 2048, 512]⟩
abbrev S32x256x8x4x128 : Shape := ⟨5, ![32, 256, 8, 4, 128]⟩
abbrev S4x256x32x8x128 : Shape := ⟨5, ![4, 256, 32, 8, 128]⟩
abbrev S32x8x256x512 : Shape := ⟨4, ![32, 8, 256, 512]⟩
abbrev S32x8x512 : Shape := ⟨3, ![32, 8, 512]⟩
abbrev S32x8x1x512 : Shape := ⟨4, ![32, 8, 1, 512]⟩
abbrev S32x512x2048 : Shape := ⟨3, ![32, 512, 2048]⟩

abbrev nBuf : Space → Nat
  | .hbm => 61
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S1024, .f32⟩
  | .hbm, ⟨2, _⟩ => ⟨S1024x4096, .f32⟩
  | .hbm, ⟨3, _⟩ => ⟨S32x2048x1024, .f32⟩
  | .hbm, ⟨4, _⟩ => ⟨S_, .f32⟩
  | .hbm, ⟨5, _⟩ => ⟨S32x2048, .f32⟩
  | .hbm, ⟨6, _⟩ => ⟨S32x2048x1, .f32⟩
  | .hbm, ⟨7, _⟩ => ⟨S_, .f32⟩
  | .hbm, ⟨8, _⟩ => ⟨S32x2048x1, .f32⟩
  | .hbm, ⟨9, _⟩ => ⟨S32x2048x1, .f32⟩
  | .hbm, ⟨10, _⟩ => ⟨S_, .f32⟩
  | .hbm, ⟨11, _⟩ => ⟨S32x2048x1, .f32⟩
  | .hbm, ⟨12, _⟩ => ⟨S32x2048x1, .f32⟩
  | .hbm, ⟨13, _⟩ => ⟨S32x2048x1, .f32⟩
  | .hbm, ⟨14, _⟩ => ⟨S32x2048x1024, .f32⟩
  | .hbm, ⟨15, _⟩ => ⟨S32x2048x1024, .f32⟩
  | .hbm, ⟨16, _⟩ => ⟨S1x1x1024, .f32⟩
  | .hbm, ⟨17, _⟩ => ⟨S32x2048x1024, .f32⟩
  | .hbm, ⟨18, _⟩ => ⟨S32x2048x1024, .f32⟩
  | .hbm, ⟨19, _⟩ => ⟨S32x2048x4096, .f32⟩
  | .hbm, ⟨20, _⟩ => ⟨S32x2048x512, .f32⟩
  | .hbm, ⟨21, _⟩ => ⟨S32x2048x512, .f32⟩
  | .hbm, ⟨22, _⟩ => ⟨S32x2048x512, .f32⟩
  | .hbm, ⟨23, _⟩ => ⟨S32x2048x512, .f32⟩
  | .hbm, ⟨24, _⟩ => ⟨S32x2048x1024, .f32⟩
  | .hbm, ⟨25, _⟩ => ⟨S32x2048x1024, .f32⟩
  | .hbm, ⟨26, _⟩ => ⟨S32x2048x1024, .f32⟩
  | .hbm, ⟨27, _⟩ => ⟨S_, .f32⟩
  | .hbm, ⟨28, _⟩ => ⟨S32x2048x1024, .f32⟩
  | .hbm, ⟨29, _⟩ => ⟨S32x2048x1024, .f32⟩
  | .hbm, ⟨30, _⟩ => ⟨S_, .f32⟩
  | .hbm, ⟨31, _⟩ => ⟨S32x2048x1024, .f32⟩
  | .hbm, ⟨32, _⟩ => ⟨S32x2048x1024, .f32⟩
  | .hbm, ⟨33, _⟩ => ⟨S32x2048x1024, .f32⟩
  | .hbm, ⟨34, _⟩ => ⟨S32x2048x1024, .f32⟩
  | .hbm, ⟨35, _⟩ => ⟨S32x2048x1024, .f32⟩
  | .hbm, ⟨36, _⟩ => ⟨S_, .f32⟩
  | .hbm, ⟨37, _⟩ => ⟨S32x2048x1024, .f32⟩
  | .hbm, ⟨38, _⟩ => ⟨S32x2048x1024, .f32⟩
  | .hbm, ⟨39, _⟩ => ⟨S_, .f32⟩
  | .hbm, ⟨40, _⟩ => ⟨S32x2048x1024, .f32⟩
  | .hbm, ⟨41, _⟩ => ⟨S32x2048x1024, .f32⟩
  | .hbm, ⟨42, _⟩ => ⟨S32x256x8x4x128, .f32⟩
  | .hbm, ⟨43, _⟩ => ⟨S4x256x32x8x128, .f32⟩
  | .hbm, ⟨44, _⟩ => ⟨S32x8x256x512, .f32⟩
  | .hbm, ⟨45, _⟩ => ⟨S_, .f32⟩
  | .hbm, ⟨46, _⟩ => ⟨S32x8x512, .f32⟩
  | .hbm, ⟨47, _⟩ => ⟨S32x8x1x512, .f32⟩
  | .hbm, ⟨48, _⟩ => ⟨S_, .f32⟩
  | .hbm, ⟨49, _⟩ => ⟨S32x8x1x512, .f32⟩
  | .hbm, ⟨50, _⟩ => ⟨S32x8x1x512, .f32⟩
  | .hbm, ⟨51, _⟩ => ⟨S_, .f32⟩
  | .hbm, ⟨52, _⟩ => ⟨S32x2048x512, .f32⟩
  | .hbm, ⟨53, _⟩ => ⟨S32x2048x512, .f32⟩
  | .hbm, ⟨54, _⟩ => ⟨S32x512x2048, .f32⟩
  | .hbm, ⟨55, _⟩ => ⟨S32x512x2048, .bf16⟩
  | .hbm, ⟨56, _⟩ => ⟨S32x2048x512, .bf16⟩
  | .hbm, ⟨57, _⟩ => ⟨S32x512x2048, .f32⟩
  | .hbm, ⟨58, _⟩ => ⟨S32x512x2048, .bf16⟩
  | .hbm, ⟨59, _⟩ => ⟨S32x2048x1024, .bf16⟩
  | .hbm, ⟨60, _⟩ => ⟨S32x2048x1024, .bf16⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_2 : Ref sig .tc := ⟨.hbm, 27, rfl⟩
abbrev main_v21 : Ref sig .tc := ⟨.hbm, 28, rfl⟩
abbrev main_v22 : Ref sig .tc := ⟨.hbm, 29, rfl⟩
abbrev main_cst_3 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_4 : Ref sig .tc := ⟨.hbm, 36, rfl⟩
abbrev main_v28 : Ref sig .tc := ⟨.hbm, 37, rfl⟩
abbrev main_v29 : Ref sig .tc := ⟨.hbm, 38, rfl⟩
abbrev main_cst_5 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst_6 : Ref sig .tc := ⟨.hbm, 45, rfl⟩
abbrev main_v35 : Ref sig .tc := ⟨.hbm, 46, rfl⟩
abbrev main_v36 : Ref sig .tc := ⟨.hbm, 47, rfl⟩
abbrev main_cst_7 : Ref sig .tc := ⟨.hbm, 48, rfl⟩
abbrev main_v37 : Ref sig .tc := ⟨.hbm, 49, rfl⟩
abbrev main_v38 : Ref sig .tc := ⟨.hbm, 50, rfl⟩
abbrev main_cst_8 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩

abbrev nD : Nat := 1
abbrev τ : Topo := Topo.v7x

variable {F : FTy → Type} [FloatOps F]
-- ==== Proof.Moba.Tile.lean ====
/-
  What one grid point of the attention kernel computes, written once for every query block and head.

  A grid point holds four heads (two pairs of 64 channels) of one batch entry: `x0` the queries with the channels down the
  rows, `x1` the keys, `x2` the values with the channels down the rows, `x3` the keys' block means. A query block `i` of a
  head meets the key blocks `i, i-1, …, 0` in that order, with a running maximum and a running weighted sum.
-/
module

public import proofs.«01_k».proof.Proof.Gen.KernelIdeal.Frame

@[expose] public section

noncomputable section

namespace Cert.Moba

open Cert.KernelIdeal Cert.KernelIdeal.Gen Idealize.ShloMosaic

variable {F : FTy → Type} [FloatOps F] [Named F]

/-! ## The rectangles a tile reads and writes -/

/-- The 128 query rows of head pair `p` at query block `i` lie in the query window. -/
theorem inb_q (i : Fin 8) (p : Fin 2) :
    ∀ a, (![0, 128 * p.val, 256 * i.val] : Fin 3 → Nat) a + S1x128x256.size a ≤ S1x256x2048.size a := by
  revert i p; decide
/-- The rows of key block `j` and the lanes of head pair `p` lie in the key window. -/
theorem inb_k (j : Fin 8) (p : Fin 2) :
    ∀ a, (![0, 256 * j.val, 128 * p.val] : Fin 3 → Nat) a + S1x256x128.size a ≤ S1x2048x256.size a := by
  revert j p; decide
/-- The 64 value rows of head `2 p + e` at key block `j` lie in the value window. -/
theorem inb_v (j : Fin 8) (p e : Fin 2) :
    ∀ a, (![0, 128 * p.val + 64 * e.val, 256 * j.val] : Fin 3 → Nat) a + S1x64x256.size a ≤ S1x256x2048.size a := by
  revert j p e; decide
/-- The 128 lanes of head pair `p` of the block means. -/
theorem slices_km (p : Fin 2) : S16x256.Slices ![0, 128 * p.val] S16x128 := by
  revert p; decide
/-- Row `n` of the eight gate rows. -/
theorem slices_gate (n : Fin 8) : S8x256.Slices ![n.val, 0] S1x256 := by
  revert n; decide

/-! ## The operands -/

/-- Which half of its pair's 128 rows a row lies in. -/
def headRow : IVec S128x256 32 := k0_pay5 (iota .tc S128x256 32 [0] iota_S128x256_d0_w32) 64#32 k0_pay3 k0_pay4
/-- The block number of each gate row. -/
def blkRow : IVec S8x256 32 := iota .tc S8x256 32 [0] iota_S8x256_d0_w32

/-- The block means of the keys, eight rows, under them eight rows of zeros. -/
def means (x3 : Vec F S1x8x1x256 .f32) : FVec F S16x256 .bf16 :=
  k0_pay2 (View.ld x3 r0_0) (View.ld x3 r0_1) (View.ld x3 r0_2) (View.ld x3 r0_3) (View.ld x3 r0_4) (View.ld x3 r0_5)
    (View.ld x3 r0_6) (View.ld x3 r0_7)

/-- The queries of head pair `p` at query block `i`: channels down the rows. -/
def qTile (x0 : Vec F S1x256x2048 .f32) (i : Fin 8) (p : Fin 2) : FVec F S128x256 .f32 :=
  shapeCast S128x256 (View.ld x0 (Rect.unit (s := S1x256x2048) ![0, 128 * p.val, 256 * i.val] S1x128x256.size (inb_q i p))) shapeCasts_S1x128x256_S128x256
/-- The keys of head pair `p` at key block `j`: keys down the rows. -/
def kTile (x1 : Vec F S1x2048x256 .bf16) (p : Fin 2) (j : Fin 8) : FVec F S256x128 .bf16 :=
  shapeCast S256x128 (View.ld x1 (Rect.unit (s := S1x2048x256) ![0, 256 * j.val, 128 * p.val] S1x256x128.size (inb_k j p))) shapeCasts_S1x256x128_S256x128
/-- The values of head `2 p + e` at key block `j`: channels down the rows. -/
def vTile (x2 : Vec F S1x256x2048 .bf16) (p e : Fin 2) (j : Fin 8) : FVec F S64x256 .bf16 :=
  shapeCast S64x256 (View.ld x2 (Rect.unit (s := S1x256x2048) ![0, 128 * p.val + 64 * e.val, 256 * j.val] S1x64x256.size (inb_v j p e))) shapeCasts_S1x64x256_S64x256

/-- The scaled queries of head `2 p + e` at query block `i`, with zeros in the other head's rows. -/
def qh (x0 : Vec F S1x256x2048 .f32) (i : Fin 8) (p e : Fin 2) : FVec F S128x256 .bf16 :=
  select (cmpi .eq headRow (broadcast S128x256 (BitVec.ofNat 32 e.val)))
    (truncf .bf16 (mulf (qTile x0 i p)
      (broadcast S128x256 (Named.named (F := F) κ "q_scale" 0x3E38AA3B#32))) bitsLt_bf16_f32)
    (broadcast S128x256 (Scalar.ofBits (F := F) .bf16 0x0000#16))

/-- The scores of the 256 keys of block `j` against the 256 queries: keys down the rows. -/
def score (x0 : Vec F S1x256x2048 .f32) (x1 : Vec F S1x2048x256 .bf16) (i : Fin 8) (p e : Fin 2) (j : Fin 8) : FVec F S256x256 .f32 :=
  matmul dot_S256x128_S128x256_S256x256_1_0_0_1_n_n none
    (kTile x1 p j)
    (qh x0 i p e) (constant S256x256 .f32 0x00000000#32)

/-- The values of head `2 p + e` at key block `j`, and under them sixteen rows of ones. -/
def vals (x2 : Vec F S1x256x2048 .bf16) (p e : Fin 2) (j : Fin 8) : FVec F S80x256 .bf16 :=
  concatenate S80x256 0 [⟨S64x256, vTile x2 p e j⟩,
    ⟨S16x256, k0_pay7 (F := F)⟩] concatenates_S64x256_S16x256_S80x256_d0

/-! ## The choice of blocks -/

/-- The gate of each past block (rows) for each query (columns), and minus infinity at the other blocks. -/
def gate (x0 : Vec F S1x256x2048 .f32) (x3 : Vec F S1x8x1x256 .f32) (i : Fin 8) (p e : Fin 2) : FVec F S8x256 .f32 :=
  select (cmpi .slt blkRow (broadcast S8x256 (BitVec.ofNat 32 i.val)))
    (extractStridedSlice S8x256 ![0, 0] (matmul dot_S16x128_S128x256_S16x256_1_0_0_1_n_n none
      (extractStridedSlice S16x128 ![0, 128 * p.val] (means x3 : FVec F S16x256 .bf16) (slices_km p)) (qh x0 i p e) (constant S16x256 .f32 0x00000000#32)) slices_S16x256_o0_0_S8x256)
    (broadcast S8x256 (Scalar.ofBits (F := F) .f32 0xFF800000#32))

/-- From the gates `g`: 0 for the queries that choose block `n`, minus infinity for the others. -/
def bias (g : FVec F S8x256 .f32) (n : Fin 8) : FVec F S1x256 .f32 :=
  select (cmpf .olt (shapeCast S1x256 (multiReduction .add [0] S256
      (sitofp (F := F) .f32 (extui 32 (ori (cmpf .ogt g (broadcastTo S8x256 (extractStridedSlice S1x256 ![n.val, 0] g (slices_gate n)) broadcasts_S1x256_S8x256))
        (andi (cmpf .oeq g (broadcastTo S8x256 (extractStridedSlice S1x256 ![n.val, 0] g (slices_gate n)) broadcasts_S1x256_S8x256))
          (cmpi .slt blkRow (broadcast S8x256 (BitVec.ofNat 32 n.val))))) natLt_1_32))
      0x00000000#32 reduces_S8x256_S256 (.inl rfl) rfl) shapeCasts_S256_S1x256) (broadcast S1x256 (Scalar.ofBits (F := F) .f32 0x40400000#32)))
    (broadcast S1x256 (Scalar.ofBits (F := F) .f32 0x00000000#32)) (broadcast S1x256 (Named.named (F := F) κ "mask" 0xF149F2CA#32))

/-! ## The running maximum and the running sum -/

/-- The largest score of each query (column). -/
def top (s : FVec F S256x256 .f32) : FVec F S1x256 .f32 :=
  shapeCast S1x256 (multiReduction .maximumf [0] S256 s 0xFF800000#32 reduces_S256x256_S256 (.inl rfl) rfl) shapeCasts_S256_S1x256

/-- The scores of a query block against its own keys: minus infinity at the later keys. -/
def own (s : FVec F S256x256 .f32) : FVec F S256x256 .f32 :=
  select k0_pay6 s (broadcast S256x256 (Named.named (F := F) κ "mask" 0xF149F2CA#32))

/-- The weighted sum of values `v` under the weights `2 ^ (s - m)`. -/
def weigh (v : FVec F S80x256 .bf16) (s : FVec F S256x256 .f32) (m : FVec F S1x256 .f32) : FVec F S80x256 .f32 :=
  matmul dot_S80x256_S256x256_S80x256_1_0_0_1_n_n none v
    (truncf .bf16 (exp2 (subf s (broadcastTo S256x256 m broadcasts_S1x256_S256x256))) bitsLt_bf16_f32) (constant S80x256 .f32 0x00000000#32)

/-- The old sum `a` taken from the maximum `m` to the maximum `m'`, and the new part `o`. -/
def carry (a : FVec F S80x256 .f32) (m m' : FVec F S1x256 .f32) (o : FVec F S80x256 .f32) : FVec F S80x256 .f32 :=
  addf (mulf a (broadcastTo S80x256 (exp2 (subf m m')) broadcasts_S1x256_S80x256)) o

section
variable (d : FVec F S256x256 .f32) (vd : FVec F S80x256 .bf16) (s : Fin 8 → FVec F S256x256 .f32) (v : Fin 8 → FVec F S80x256 .bf16)
  (b : Fin 8 → FVec F S1x256 .f32)

/-- The running maximum after the own block's scores `d` and the blocks of the list, last met first. -/
def runMax : List (Fin 8) → FVec F S1x256 .f32
  | [] => top d
  | j :: l => maximumf (runMax l) (top (s j))
/-- The running sum likewise, the own block's values `vd`. -/
def runSum : List (Fin 8) → FVec F S80x256 .f32
  | [] => weigh vd d (top d)
  | j :: l => carry (runSum l) (runMax d s l) (runMax d s (j :: l)) (weigh (v j) (s j) (runMax d s (j :: l)))
/-- The running maximum where the blocks are chosen by the biases `b`. -/
def runMaxB : List (Fin 8) → FVec F S1x256 .f32
  | [] => top d
  | j :: l => maximumf (runMaxB l) (addf (top (s j)) (b j))
/-- The running sum where the blocks are chosen by the biases `b`. -/
def runSumB : List (Fin 8) → FVec F S80x256 .f32
  | [] => weigh vd d (top d)
  | j :: l => carry (runSumB l) (runMaxB d s b l) (runMaxB d s b (j :: l)) (weigh (v j) (s j) (subf (runMaxB d s b (j :: l)) (b j)))
end

/-- The blocks before block `i`, last met first. -/
def past : Fin 8 → List (Fin 8) :=
  ![[], [0], [0, 1], [0, 1, 2], [0, 1, 2, 3], [0, 1, 2, 3, 4], [0, 1, 2, 3, 4, 5], [0, 1, 2, 3, 4, 5, 6]]

/-- The final sum of head `2 p + e` at query block `i`: rows 0 to 63 the weighted values, row 64 the weights' sum. Up to
    block 3 every past block is chosen and there are no biases. -/
def unit (x0 : Vec F S1x256x2048 .f32) (x1 : Vec F S1x2048x256 .bf16) (x2 : Vec F S1x256x2048 .bf16) (x3 : Vec F S1x8x1x256 .f32)
    (i : Fin 8) (p e : Fin 2) : FVec F S80x256 .f32 :=
  bif Nat.ble i.val 3 then runSum (own (score x0 x1 i p e i)) (vals x2 p e i) (score x0 x1 i p e) (vals x2 p e) (past i)
  else runSumB (own (score x0 x1 i p e i)) (vals x2 p e i) (score x0 x1 i p e) (vals x2 p e) (bias (gate x0 x3 i p e)) (past i)

/-- The weighted values over the weights' sum. -/
def quot (a : FVec F S80x256 .f32) : FVec F S64x256 .f32 :=
  divf (extractStridedSlice S64x256 ![0, 0] a slices_S80x256_o0_0_S64x256)
    (broadcastTo S64x256 (extractStridedSlice S1x256 ![64, 0] a slices_S80x256_o64_0_S1x256) broadcasts_S1x256_S64x256)

/-- What the kernel stores for query block `i` and head pair `p`. -/
def tile (x0 : Vec F S1x256x2048 .f32) (x1 : Vec F S1x2048x256 .bf16) (x2 : Vec F S1x256x2048 .bf16) (x3 : Vec F S1x8x1x256 .f32)
    (i : Fin 8) (p : Fin 2) : FVec F S1x256x128 .bf16 :=
  shapeCast S1x256x128 (truncf .bf16 (transpose S256x128 [1, 0]
    (concatenate S128x256 0 [⟨S64x256, quot (unit x0 x1 x2 x3 i p 0)⟩, ⟨S64x256, quot (unit x0 x1 x2 x3 i p 1)⟩] concatenates_S64x256_S64x256_S128x256_d0)
    transposes_S128x256_p1_0_S256x128) bitsLt_bf16_f32) shapeCasts_S256x128_S1x256x128

end Cert.Moba

end
-- ==== Proof.Moba.Consts.lean ====
/-
  The float constants of the two programs as extended reals.
-/
module

public import proofs.«01_k».proof.KernelIdeal
public import Idealize.ShloMosaic.PureOps.IdealRules

@[expose] public section

noncomputable section

namespace Cert.Moba

open Idealize.ShloMosaic

/-- The named mask is minus infinity. -/
theorem mask_eq : Named.named (F := Ideal) (φ := .f32) Cert.KernelIdeal.κ "mask" 0xF149F2CA#32 = (⊥ : EReal) :=
  IdealRules.named_const.ideal_named_scalar _ _ _ _ rfl

/-- The factor that the kernel multiplies the queries by: `1 / 8`, and the step from `exp` to powers of two. -/
def scale : ℝ := 8⁻¹ * (Real.log 2)⁻¹

/-- The factor is positive. -/
theorem scale_pos : 0 < scale := mul_pos (by norm_num) (inv_pos.mpr (Real.log_pos (by norm_num)))

/-- The named scale is the factor. -/
theorem scale_eq : Named.named (F := Ideal) (φ := .f32) Cert.KernelIdeal.κ "q_scale" 0x3E38AA3B#32 = (scale : EReal) :=
  IdealRules.named_const.ideal_named_scalar _ _ _ _ rfl

/-- `-inf`. -/
theorem bits_neg_inf : Ideal.ofBits .f32 0xFF800000#32 = (⊥ : EReal) := by
  simp [Ideal.ofBits, Ideal.ieee, -EReal.coe_mul]
/-- `inf`. -/
theorem bits_inf : Ideal.ofBits .f32 0x7F800000#32 = (⊤ : EReal) := by
  simp [Ideal.ofBits, Ideal.ieee, -EReal.coe_mul]
/-- `0.0`. -/
theorem bits_zero : Ideal.ofBits .f32 0x00000000#32 = (0 : EReal) := by
  simp [Ideal.ofBits, Ideal.ieee, -EReal.coe_mul]
/-- `0.0` of the half precision. -/
theorem bits_zero_half : Ideal.ofBits .bf16 0x0000#16 = (0 : EReal) := by
  simp [Ideal.ofBits, Ideal.ieee, -EReal.coe_mul]
/-- `1.0` of the half precision. -/
theorem bits_one_half : Ideal.ofBits .bf16 0x3F80#16 = (1 : EReal) := by
  simp [Ideal.ofBits, Ideal.ieee, -EReal.coe_mul]; norm_num
/-- `3.0`. -/
theorem bits_three : Ideal.ofBits .f32 0x40400000#32 = ((3 : ℝ) : EReal) := by
  simp [Ideal.ofBits, Ideal.ieee, -EReal.coe_mul]; norm_num
/-- `256.0`. -/
theorem bits_256 : Ideal.ofBits .f32 0x43800000#32 = ((256 : ℝ) : EReal) := by
  simp [Ideal.ofBits, Ideal.ieee, -EReal.coe_mul]; norm_num
/-- `0.125`. -/
theorem bits_eighth : Ideal.ofBits .f32 0x3E000000#32 = ((8⁻¹ : ℝ) : EReal) := by
  simp [Ideal.ofBits, Ideal.ieee, -EReal.coe_mul]; norm_num

end Cert.Moba

end
-- ==== Proof.Moba.Rank.lean ====
/-
  Sorting keys from the greatest down, equal keys in the order of their places, puts an entry among the first `k` exactly
  when fewer than `k` entries come before it.
-/
module

public import Idealize.ShloMosaic.PureOps.Ideal
public import Idealize.ShloMosaic.Lib.SortFacts

@[expose] public section

noncomputable section

namespace Cert.Moba

open Idealize.ShloMosaic

variable {n : Nat} (g : Fin n → EReal)

/-- Entry `a` comes before entry `b`: a greater key, or an equal key at an earlier place. -/
def Ahead (a b : Fin n) : Prop := g b < g a ∨ g a = g b ∧ a < b

instance (a b : Fin n) : Decidable (Ahead g a b) := Classical.dec _

/-- Nothing comes before itself. -/
theorem not_ahead_self (a : Fin n) : ¬ Ahead g a a := by
  rintro (h | ⟨-, h⟩)
  · exact lt_irrefl _ h
  · exact lt_irrefl _ h

/-- Of two entries at most one comes before the other. -/
theorem not_ahead_of_ahead {a b : Fin n} (h : Ahead g a b) : ¬ Ahead g b a := by
  rintro (h' | ⟨e', h'⟩) <;> rcases h with h | ⟨e, h⟩
  · exact lt_asymm h h'
  · exact absurd e (ne_of_gt h').symm
  · exact absurd e' (ne_of_gt h).symm
  · exact lt_asymm h h'

/-- Whatever comes after `b` comes after `a`, when `b`'s key is no greater than `a`'s and `a` stands earlier. -/
theorem ahead_of_le {a b x : Fin n} (hk : g b ≤ g a) (hx : a < x) (h : Ahead g b x) : Ahead g a x := by
  have hle : g x ≤ g b := by
    rcases h with h | ⟨e, -⟩
    · exact h.le
    · exact e.ge
  rcases lt_or_eq_of_le (hle.trans hk) with h' | h'
  · exact Or.inl h'
  · exact Or.inr ⟨h'.symm, hx⟩

/-- Inserting a place that stands earlier than all of a list keeps the list in order. -/
theorem pairwise_insert (a : Fin n) (l : List (Fin n)) (ha : ∀ b ∈ l, a < b) (hl : l.Pairwise (Ahead g)) :
    (insertBefore (fun k k' => decide (g k' < g k)) a l).Pairwise (Ahead g) := by
  induction l with
  | nil => exact List.pairwise_singleton _ _
  | cons b l ih =>
    rw [List.pairwise_cons] at hl
    unfold insertBefore
    split
    next hb =>
      have hb := of_decide_eq_true hb
      refine List.pairwise_cons.mpr ⟨fun x hx => ?_, ih (fun c hc => ha c (List.mem_cons_of_mem b hc)) hl.2⟩
      rcases List.mem_cons.mp ((perm_insertBefore _ a l).mem_iff.mp hx) with rfl | hx
      · exact Or.inl hb
      · exact hl.1 x hx
    next hb =>
      have hb : g b ≤ g a := not_lt.mp fun h => hb (decide_eq_true h)
      have hab : a < b := ha b List.mem_cons_self
      refine List.pairwise_cons.mpr ⟨fun x hx => ?_, List.pairwise_cons.mpr hl⟩
      rcases List.mem_cons.mp hx with rfl | hx
      · rcases lt_or_eq_of_le hb with h | h
        · exact Or.inl h
        · exact Or.inr ⟨h.symm, hab⟩
      · exact ahead_of_le g hb (ha x (List.mem_cons_of_mem b hx)) (hl.1 x hx)

/-- The sort of a list of places in ascending order is in order. -/
theorem pairwise_sort (l : List (Fin n)) (hl : l.Pairwise (· < ·)) :
    (stableSort (fun k k' => decide (g k' < g k)) l).Pairwise (Ahead g) := by
  induction l with
  | nil => exact List.Pairwise.nil
  | cons a l ih =>
    rw [List.pairwise_cons] at hl
    unfold stableSort
    exact pairwise_insert g a _ (fun b hb => hl.1 b ((perm_stableSort _ l).mem_iff.mp hb)) (ih hl.2)

/-- An earlier position of the sort holds an entry that comes before the one at a later position. -/
theorem sorted_ahead {p q : Fin n} (h : q < p) :
    Ahead g (sortedFrom (fun k k' => decide (g k' < g k)) q) (sortedFrom (fun k k' => decide (g k' < g k)) p) := by
  have hp := List.pairwise_iff_get.mp (pairwise_sort g (List.finRange n) (List.pairwise_lt_finRange n))
  exact hp (q.cast (length_sortPositions n _).symm) (p.cast (length_sortPositions n _).symm) h

/-- The entry at position `p` has exactly `p` entries before it. -/
theorem card_ahead (p : Fin n) :
    (Finset.univ.filter fun x => Ahead g x (sortedFrom (fun k k' => decide (g k' < g k)) p)).card = p.val := by
  have e : (Finset.univ.filter fun x => Ahead g x (sortedFrom (fun k k' => decide (g k' < g k)) p))
      = (Finset.Iio p).image (sortedFrom (fun k k' => decide (g k' < g k))) := by
    ext x
    simp only [Finset.mem_filter, Finset.mem_univ, true_and, Finset.mem_image, Finset.mem_Iio]
    constructor
    · intro h
      obtain ⟨q, rfl⟩ := sortedFrom_surjective (fun k k' => decide (g k' < g k)) x
      refine ⟨q, ?_, rfl⟩
      rcases lt_trichotomy q p with hq | rfl | hq
      · exact hq
      · exact absurd h (not_ahead_self g _)
      · exact absurd h (not_ahead_of_ahead g (sorted_ahead g hq))
    · rintro ⟨q, hq, rfl⟩
      exact sorted_ahead g hq
  rw [e, Finset.card_image_of_injective _ (sortedFrom_injective _), Fin.card_Iio]

/-- An entry is at one of the first `k` positions exactly when fewer than `k` entries come before it. -/
theorem exists_position_iff (k : Nat) (x : Fin n) :
    (∃ p : Fin n, p.val < k ∧ sortedFrom (fun k k' => decide (g k' < g k)) p = x)
      ↔ (Finset.univ.filter fun y => Ahead g y x).card < k := by
  constructor
  · rintro ⟨p, hp, rfl⟩
    rw [card_ahead]; exact hp
  · intro h
    obtain ⟨p, rfl⟩ := sortedFrom_surjective (fun k k' => decide (g k' < g k)) x
    rw [card_ahead] at h
    exact ⟨p, h, rfl⟩

end Cert.Moba

end
-- ==== Proof.Moba.Ops.lean ====
/-
  The pieces of a tile at an index, over the extended reals.
-/
module

public import proofs.«01_k».proof.Proof.Moba.Tile
public import proofs.«01_k».proof.Proof.Moba.Consts
public import proofs.«01_k».proof.Proof.Moba.Rank
public import Idealize.ShloMosaic.Lib.Pointwise
public import Idealize.ShloMosaic.Lib.Pipeline.ValueKit

@[expose] public section

set_option maxRecDepth 16384

noncomputable section

namespace Cert.Moba

open Cert.KernelIdeal Cert.KernelIdeal.Gen Idealize.ShloMosaic

/-! ## Places -/

/-- Channel `x` of head `2 p + e` among the 256 channels of a grid point. -/
def chan (p e : Fin 2) (x : Fin 64) : Fin 256 := ⟨128 * p.val + 64 * e.val + x.val, by omega⟩
/-- Place `c` of block `j` among the 2048 places. -/
def place (j : Fin 8) (c : Fin 256) : Fin 2048 := ⟨256 * j.val + c.val, by omega⟩
/-- Channel `x` of the head in half `e` of its pair. -/
def half (e : Fin 2) (x : Fin 64) : Fin 128 := ⟨64 * e.val + x.val, by omega⟩

/-- A sum over a pair's 128 channels that has only one head's terms. -/
theorem sum_half (e : Fin 2) (f : Fin 128 → EReal) (h : ∀ x, x.val / 64 ≠ e.val → f x = 0) :
    ∑ x, f x = ∑ x, f (half e x) := by
  have s : ∑ x, f x = ∑ x, f (half 0 x) + ∑ x, f (half 1 x) := by
    rw [show (∑ x, f x) = ∑ x : Fin (64 + 64), f x from rfl, Fin.sum_univ_add]
    refine congrArg₂ (· + ·) ?_ rfl
    exact Finset.sum_congr rfl fun x _ => congrArg f (Fin.ext (by show x.val = 64 * 0 + x.val; omega))
  have z : ∀ e' : Fin 2, e' ≠ e → ∑ x, f (half e' x) = 0 := fun e' he =>
    Finset.sum_eq_zero fun x _ => h _ fun hx => he (Fin.ext (by
      rw [← hx]; show e'.val = (64 * e'.val + x.val) / 64; omega))
  rw [s]
  rcases ((by decide : ∀ e : Fin 2, e = 0 ∨ e = 1) e) with rfl | rfl
  · rw [z 1 (by decide), add_zero]
  · rw [z 0 (by decide), zero_add]

/-! ## The loads -/

/-- A query tile reads its channel and place. -/
theorem qTile_apply (x0 : Vec Ideal S1x256x2048 .f32) (i : Fin 8) (p e : Fin 2) (x : Fin 64) (c : Fin 256) :
    qTile x0 i p (ix2 (half e x) c) = x0 (ix3 0 (chan p e x) (place i c)) := by
  have h : ∀ (y : FVec Ideal S1x128x256 .f32) (r : Fin 128),
      shapeCast S128x256 y shapeCasts_S1x128x256_S128x256 (ix2 r c) = y (ix3 0 r c) := fun y r => by pointwise []
  refine (h _ _).trans (View.ld_unit_apply_of _ _ _ _ _ _ fun a => ?_)
  fin_cases a
  · rfl
  · show 128 * p.val + 64 * e.val + x.val = 128 * p.val + (64 * e.val + x.val); omega
  · rfl
/-- A key tile reads its place and channel. -/
theorem kTile_apply (x1 : Vec Ideal S1x2048x256 .bf16) (p e : Fin 2) (j : Fin 8) (r : Fin 256) (x : Fin 64) :
    kTile x1 p j (ix2 r (half e x)) = x1 (ix3 0 (place j r) (chan p e x)) := by
  have h : ∀ (y : FVec Ideal S1x256x128 .bf16) (c : Fin 128),
      shapeCast S256x128 y shapeCasts_S1x256x128_S256x128 (ix2 r c) = y (ix3 0 r c) := fun y c => by pointwise []
  refine (h _ _).trans (View.ld_unit_apply_of _ _ _ _ _ _ fun a => ?_)
  fin_cases a
  · rfl
  · rfl
  · show 128 * p.val + 64 * e.val + x.val = 128 * p.val + (64 * e.val + x.val); omega
/-- A value tile reads its channel and place. -/
theorem vTile_apply (x2 : Vec Ideal S1x256x2048 .bf16) (p e : Fin 2) (j : Fin 8) (r : Fin 64) (c : Fin 256) :
    vTile x2 p e j (ix2 r c) = x2 (ix3 0 (chan p e r) (place j c)) := by
  have h : ∀ (y : FVec Ideal S1x64x256 .bf16) (r : Fin 64),
      shapeCast S64x256 y shapeCasts_S1x64x256_S64x256 (ix2 r c) = y (ix3 0 r c) := fun y r => by pointwise []
  refine (h _ _).trans (View.ld_unit_apply_of _ _ _ _ _ _ fun a => ?_)
  fin_cases a <;> rfl

/-- The first 64 rows are head 0's and the others head 1's. -/
theorem headRow_apply (r : Fin 128) (c : Fin 256) : headRow (ix2 r c) = BitVec.ofNat 32 (r.val / 64) := by
  have h0 : headRow (ix2 r c) = headRow (ix2 r 0) := by pointwise [headRow, k0_pay5, k0_pay3, k0_pay4]
  rw [h0]
  clear h0
  revert r
  decide +kernel

/-- The 128 query rows: one head's scaled queries, zeros at the other head. -/
theorem qh_apply (x0 : Vec Ideal S1x256x2048 .f32) (i : Fin 8) (p e : Fin 2) (r : Fin 128) (c : Fin 256) :
    qh x0 i p e (ix2 r c) = if r.val / 64 = e.val then qTile x0 i p (ix2 r c) * (scale : EReal) else 0 := by
  have h : qh x0 i p e (ix2 r c) = Scalar.select (IntOp.cmpi .eq (headRow (ix2 r c)) (BitVec.ofNat 32 e.val))
      (qTile x0 i p (ix2 r c) * Named.named (F := Ideal) (φ := .f32) κ "q_scale" 0x3E38AA3B#32) 0 := by
    pointwise [qh]
  rw [h, headRow_apply, scale_eq]
  have hc : IntOp.cmpi .eq (BitVec.ofNat 32 (r.val / 64)) (BitVec.ofNat 32 e.val) = BitVec.ofBool (decide (r.val / 64 = e.val)) := by
    show BitVec.ofBool (BitVec.ofNat 32 (r.val / 64) == BitVec.ofNat 32 e.val) = _
    congr 1
    have : ∀ (r : Fin 128) (e : Fin 2), (BitVec.ofNat 32 (r.val / 64) == BitVec.ofNat 32 e.val) = decide (r.val / 64 = e.val) := by
      decide +kernel
    exact this r e
  rw [hc]
  by_cases hr : r.val / 64 = e.val <;> simp [hr, Scalar.select]

/-- The one head's part of the queries is scaled. -/
theorem qh_half (x0 : Vec Ideal S1x256x2048 .f32) (i : Fin 8) (p e : Fin 2) (x : Fin 64) (c : Fin 256) :
    qh x0 i p e (ix2 (half e x) c) = x0 (ix3 0 (chan p e x) (place i c)) * (scale : EReal) := by
  rw [qh_apply, if_pos (by show (64 * e.val + x.val) / 64 = e.val; omega), qTile_apply]

/-- A score is the scaled product of a key and a query over the head's 64 channels. -/
theorem score_apply (x0 : Vec Ideal S1x256x2048 .f32) (x1 : Vec Ideal S1x2048x256 .bf16) (i : Fin 8) (p e : Fin 2) (j : Fin 8)
    (r c : Fin 256) : score x0 x1 i p e j (ix2 r c)
      = ∑ x, x1 (ix3 0 (place j r) (chan p e x)) * (x0 (ix3 0 (chan p e x) (place i c)) * (scale : EReal)) := by
  have h : score x0 x1 i p e j (ix2 r c) = ∑ x, kTile x1 p j (ix2 r x) * qh x0 i p e (ix2 x c) := by pointwise [score]
  rw [h, sum_half e _ fun x hx => by rw [qh_apply, if_neg hx, mul_zero]]
  exact Finset.sum_congr rfl fun x _ => by rw [kTile_apply, qh_half]

/-- Rows 0 to 63 hold the values. -/
theorem vals_apply (x2 : Vec Ideal S1x256x2048 .bf16) (p e : Fin 2) (j : Fin 8) (d : Fin 64) (c : Fin 256) :
    vals x2 p e j (ix2 (⟨d.val, by omega⟩ : Fin 80) c) = x2 (ix3 0 (chan p e d) (place j c)) := by
  have h : ∀ r : Fin 80, vals x2 p e j (ix2 r c) = if h : r.val < 64 then vTile x2 p e j (ix2 ⟨r.val, h⟩ c) else 1 := fun r => by
    pointwise [vals, k0_pay7]
  rw [h, dif_pos d.isLt, vTile_apply]
/-- Row 64 holds ones. -/
theorem vals_one (x2 : Vec Ideal S1x256x2048 .bf16) (p e : Fin 2) (j : Fin 8) (c : Fin 256) :
    vals x2 p e j (ix2 (64 : Fin 80) c) = 1 := by
  have h : ∀ r : Fin 80, vals x2 p e j (ix2 r c) = if h : r.val < 64 then vTile x2 p e j (ix2 ⟨r.val, h⟩ c) else 1 := fun r => by
    pointwise [vals, k0_pay7]
  rw [h, dif_neg (by decide)]

/-! ## The choice -/

/-- The first eight rows of the block means. -/
theorem means_apply (x3 : Vec Ideal S1x8x1x256 .f32) (n : Fin 8) (c : Fin 256) :
    means x3 (ix2 (⟨n.val, by omega⟩ : Fin 16) c) = x3 (ix4 0 n 0 c) := by
  pointwise [means, k0_pay2]
  fin_cases n <;> rfl

/-- A small number is itself, read signed. -/
theorem toInt_small (a : Nat) (ha : a < 2048) : (BitVec.ofNat 32 a).toInt = a := by
  rw [BitVec.toInt_eq_toNat_cond, BitVec.toNat_ofNat, Nat.mod_eq_of_lt (by omega), if_pos (by omega)]
/-- A signed comparison of two small numbers. -/
theorem cmpi_slt_small (a b : Nat) (ha : a < 2048) (hb : b < 2048) :
    IntOp.cmpi .slt (BitVec.ofNat 32 a) (BitVec.ofNat 32 b) = BitVec.ofBool (decide (a < b)) := by
  show BitVec.ofBool ((BitVec.ofNat 32 a).slt (BitVec.ofNat 32 b)) = _
  congr 1
  rw [BitVec.slt_eq_decide, toInt_small a ha, toInt_small b hb]
  simp
/-- Likewise for "at most". -/
theorem cmpi_sle_small (a b : Nat) (ha : a < 2048) (hb : b < 2048) :
    IntOp.cmpi .sle (BitVec.ofNat 32 a) (BitVec.ofNat 32 b) = BitVec.ofBool (decide (a ≤ b)) := by
  show BitVec.ofBool ((BitVec.ofNat 32 a).sle (BitVec.ofNat 32 b)) = _
  congr 1
  rw [BitVec.sle_eq_decide, toInt_small a ha, toInt_small b hb]
  simp
/-- A selection by a decided bit. -/
theorem select_ofBool {α : Type} (P : Prop) [Decidable P] (a b : α) :
    Scalar.select (BitVec.ofBool (decide P)) a b = if P then a else b := by
  by_cases h : P <;> simp [h, Scalar.select]

/-- A gate is the scaled product of a block's mean key and the query; the blocks from `i` on have minus infinity. -/
theorem gate_apply (x0 : Vec Ideal S1x256x2048 .f32) (x3 : Vec Ideal S1x8x1x256 .f32) (i : Fin 8) (p e : Fin 2) (n : Fin 8)
    (c : Fin 256) : gate x0 x3 i p e (ix2 n c)
      = if n.val < i.val then ∑ x, x3 (ix4 0 n 0 (chan p e x)) * (x0 (ix3 0 (chan p e x) (place i c)) * (scale : EReal))
        else ⊥ := by
  have h : gate x0 x3 i p e (ix2 n c) = Scalar.select (IntOp.cmpi .slt (BitVec.ofNat 32 n.val) (BitVec.ofNat 32 i.val))
      (∑ x : Fin 128, means x3 (ix2 (⟨n.val, by omega⟩ : Fin 16) (⟨128 * p.val + x.val, by omega⟩ : Fin 256)) * qh x0 i p e (ix2 x c))
      (Ideal.ofBits .f32 0xFF800000#32) := by
    pointwise [gate, blkRow]
  rw [h, cmpi_slt_small _ _ (by omega) (by omega), select_ofBool, bits_neg_inf,
    sum_half e _ fun x hx => by rw [qh_apply, if_neg hx, mul_zero]]
  congr 1
  refine Finset.sum_congr rfl fun x _ => ?_
  rw [qh_half, means_apply]
  congr 2
  exact congrArg (ix4 0 n 0) (Fin.ext (by
    show 128 * p.val + (64 * e.val + x.val) = 128 * p.val + 64 * e.val + x.val; omega))

/-- A decided bit counts one or nothing. -/
theorem sitofp_ofBool (P : Prop) [Decidable P] :
    FloatOps.sitofp (F := Ideal) .f32 (BitVec.setWidth 32 (BitVec.ofBool (decide P))) = if P then (1 : EReal) else 0 := by
  by_cases h : P
  · rw [decide_eq_true h, if_pos h]
    show (((BitVec.setWidth 32 (BitVec.ofBool true)).toInt : ℝ) : EReal) = 1
    rw [show (BitVec.setWidth 32 (BitVec.ofBool true)).toInt = 1 by decide]; norm_num
  · rw [decide_eq_false h, if_neg h]
    show (((BitVec.setWidth 32 (BitVec.ofBool false)).toInt : ℝ) : EReal) = 0
    rw [show (BitVec.setWidth 32 (BitVec.ofBool false)).toInt = 0 by decide]; norm_num

/-- The bias is nothing for the queries that have fewer than three blocks ahead of this one. -/
theorem bias_apply (g : FVec Ideal S8x256 .f32) (n : Fin 8) (c : Fin 256) :
    bias g n (ix2 0 c)
      = if (Finset.univ.filter fun x => Ahead (fun y : Fin 8 => (g (ix2 y c) : EReal)) x n).card < 3 then (0 : EReal) else ⊥ := by
  have h : bias g n (ix2 0 c) = if ∑ x : Fin 8, FloatOps.sitofp (F := Ideal) .f32 (BitVec.setWidth 32
      (IntOp.ori (BitVec.ofBool (decide ((g (ix2 n c) : EReal) < g (ix2 x c)))) (IntOp.andi (BitVec.ofBool (decide ((g (ix2 x c) : EReal) = g (ix2 n c))))
        (IntOp.cmpi .slt (BitVec.ofNat 32 x.val) (BitVec.ofNat 32 n.val))))) < Ideal.ofBits .f32 0x40400000#32 then (0 : EReal)
      else Named.named (F := Ideal) (φ := .f32) κ "mask" 0xF149F2CA#32 := by
    pointwise [bias, blkRow]
  have hs : ∀ x : Fin 8, FloatOps.sitofp (F := Ideal) .f32 (BitVec.setWidth 32
      (IntOp.ori (BitVec.ofBool (decide ((g (ix2 n c) : EReal) < g (ix2 x c)))) (IntOp.andi (BitVec.ofBool (decide ((g (ix2 x c) : EReal) = g (ix2 n c))))
        (IntOp.cmpi .slt (BitVec.ofNat 32 x.val) (BitVec.ofNat 32 n.val)))))
      = if Ahead (fun y : Fin 8 => (g (ix2 y c) : EReal)) x n then (1 : EReal) else 0 := fun x => by
    rw [cmpi_slt_small _ _ (by omega) (by omega), ← sitofp_ofBool]
    congr 2
    have hb : ∀ a b d : Bool, IntOp.ori (BitVec.ofBool a) (IntOp.andi (BitVec.ofBool b) (BitVec.ofBool d)) = BitVec.ofBool (a || (b && d)) := by
      decide
    rw [hb]
    congr 1
    by_cases h1 : (g (ix2 n c) : EReal) < g (ix2 x c) <;> by_cases h2 : (g (ix2 x c) : EReal) = g (ix2 n c) <;>
      by_cases h3 : x < n <;> simp [Ahead, h1, h2, h3]
  rw [h, Finset.sum_congr rfl fun x _ => hs x, Finset.sum_boole, bits_three, mask_eq]
  congr 1
  refine propext ?_
  rw [← EReal.coe_coe_eq_natCast, EReal.coe_lt_coe_iff]
  exact Nat.cast_lt_ofNat

/-! ## The running pair -/

/-- The largest of a column. -/
theorem top_apply (s : FVec Ideal S256x256 .f32) (c : Fin 256) :
    top s (ix2 0 c) = Finset.fold max ⊥ (fun x : Fin 256 => (s (ix2 x c) : EReal)) Finset.univ := by
  rw [← bits_neg_inf]
  pointwise [top]
/-- The own block keeps the scores of the keys up to the query. -/
theorem own_apply (s : FVec Ideal S256x256 .f32) (r c : Fin 256) :
    own s (ix2 r c) = if r.val ≤ c.val then (s (ix2 r c) : EReal) else ⊥ := by
  have h : own s (ix2 r c) = Scalar.select (IntOp.cmpi .sle (BitVec.ofNat 32 r.val) (BitVec.ofNat 32 c.val)) (s (ix2 r c))
      (Named.named (F := Ideal) (φ := .f32) κ "mask" 0xF149F2CA#32) := by
    pointwise [own, k0_pay6]
  rw [h, cmpi_sle_small _ _ (by omega) (by omega), select_ofBool, mask_eq]
/-- A weighted sum at an index. -/
theorem weigh_apply (v : FVec Ideal S80x256 .bf16) (s : FVec Ideal S256x256 .f32) (m : FVec Ideal S1x256 .f32) (r : Fin 80) (c : Fin 256) :
    weigh v s m (ix2 r c) = ∑ x : Fin 256, (v (ix2 r x) : EReal) * Ideal.exp2 (s (ix2 x c) - m (ix2 0 c)) := by
  pointwise [weigh]
  rfl
/-- The old sum at the new maximum and the new part, at an index. -/
theorem carry_apply (a o : FVec Ideal S80x256 .f32) (m m' : FVec Ideal S1x256 .f32) (r : Fin 80) (c : Fin 256) :
    carry a m m' o (ix2 r c) = a (ix2 r c) * Ideal.exp2 (m (ix2 0 c) - m' (ix2 0 c)) + o (ix2 r c) := by
  pointwise [carry]
  rfl
/-- A channel's sum over the sum of the weights. -/
theorem quot_apply (a : FVec Ideal S80x256 .f32) (d : Fin 64) (c : Fin 256) :
    quot a (ix2 d c) = Ideal.div (a (ix2 (⟨d.val, by omega⟩ : Fin 80) c)) (a (ix2 (64 : Fin 80) c)) := by
  pointwise [quot]
/-- What is stored for a channel of a head. -/
theorem tile_apply (x0 : Vec Ideal S1x256x2048 .f32) (x1 : Vec Ideal S1x2048x256 .bf16) (x2 : Vec Ideal S1x256x2048 .bf16)
    (x3 : Vec Ideal S1x8x1x256 .f32) (i : Fin 8) (p e : Fin 2) (c : Fin 256) (d : Fin 64) :
    tile x0 x1 x2 x3 i p (ix3 0 c (half e d)) = quot (unit x0 x1 x2 x3 i p e) (ix2 d c) := by
  have h : ∀ r : Fin 128, tile x0 x1 x2 x3 i p (ix3 0 c r) = if h : r.val < 64 then quot (unit x0 x1 x2 x3 i p 0) (ix2 ⟨r.val, h⟩ c)
      else quot (unit x0 x1 x2 x3 i p 1) (ix2 (⟨r.val - 64, by omega⟩ : Fin 64) c) := fun r => by
    pointwise [tile]
  rw [h]
  rcases ((by decide : ∀ e : Fin 2, e = 0 ∨ e = 1) e) with rfl | rfl
  · rw [dif_pos (by show 64 * 0 + d.val < 64; omega)]
    exact congrArg (fun t => quot (unit x0 x1 x2 x3 i p 0) (ix2 t c)) (Fin.ext (by show 64 * 0 + d.val = d.val; omega))
  · rw [dif_neg (by show ¬ 64 * 1 + d.val < 64; omega)]
    exact congrArg (fun t => quot (unit x0 x1 x2 x3 i p 1) (ix2 t c)) (Fin.ext (by show 64 * 1 + d.val - 64 = d.val; omega))

end Cert.Moba

end
-- ==== Proof.Moba.Store.lean ====
/-
  What a grid point leaves in its output block: each query block of each pair of heads its tile.
-/
module

public import proofs.«01_k».proof.Proof.Moba.Ops
public import Idealize.ShloMosaic.Lib.Pipeline.ValueKit

@[expose] public section

set_option maxRecDepth 16384

noncomputable section

namespace Cert.Moba

open Cert.KernelIdeal Cert.KernelIdeal.Gen Idealize.ShloMosaic

variable {F : FTy → Type} [FloatOps F] [Named F]

/-- The tiles lie in the block. -/
theorem tile_inb (n : Fin 16) : ∀ a : Fin S1x2048x256.rank, (![0, 256 * (n.val / 2), 128 * (1 - n.val % 2)] : Fin 3 → Nat) a + S1x256x128.size a ≤ S1x2048x256.size a := by
  revert n; decide

set_option maxHeartbeats 4000000 in
/-- A grid point's stores are the sixteen tiles. -/
theorem out_tiles (x0 : Vec F S1x256x2048 .f32) (x1 : Vec F S1x2048x256 .bf16) (x2 : Vec F S1x256x2048 .bf16) (x3 : Vec F S1x8x1x256 .f32) :
    out0_4 x0 x1 x2 x3 = View.canon (List.ofFn fun n : Fin 16 =>
      ⟨Rect.unit (s := S1x2048x256) ![0, 256 * (n.val / 2), 128 * (1 - n.val % 2)] S1x256x128.size (tile_inb n),
        tile x0 x1 x2 x3 (⟨n.val / 2, by omega⟩ : Fin 8) (⟨1 - n.val % 2, by omega⟩ : Fin 2)⟩) := rfl

/-- A grid point's output at a place of a query block and a channel of a head: the tile there. -/
theorem out_at (x0 : Vec F S1x256x2048 .f32) (x1 : Vec F S1x2048x256 .bf16) (x2 : Vec F S1x256x2048 .bf16) (x3 : Vec F S1x8x1x256 .f32)
    (i : Fin 8) (c : Fin 256) (p e : Fin 2) (d : Fin 64) :
    out0_4 x0 x1 x2 x3 (ix3 0 (place i c) (chan p e d)) = tile x0 x1 x2 x3 i p (ix3 0 c (half e d)) := by
  rw [out_tiles]
  canon_tiles x h
  · have h1' : 256 * i.val + c.val = 256 * (k.val / 2) + (x 1).val := h1
    have h2' : 128 * p.val + 64 * e.val + d.val = 128 * (1 - k.val % 2) + (x 2).val := h2
    have hi : (⟨k.val / 2, by omega⟩ : Fin 8) = i := Fin.ext (by show k.val / 2 = i.val; omega)
    have hp : (⟨1 - k.val % 2, by omega⟩ : Fin 2) = p := Fin.ext (by show 1 - k.val % 2 = p.val; omega)
    have hx : x = ix3 0 c (half e d) := by
      funext a
      fin_cases a
      · exact Fin.ext (by show (x 0).val = 0; omega)
      · exact Fin.ext (by show (x 1).val = c.val; omega)
      · exact Fin.ext (by show (x 2).val = 64 * e.val + d.val; omega)
    rw [hi, hp, hx]
  · refine ⟨⟨2 * i.val + (1 - p.val), by omega⟩, fun a => ?_⟩
    fin_cases a
    · exact ⟨Nat.zero_le _, Nat.zero_lt_one⟩
    · show 256 * ((2 * i.val + (1 - p.val)) / 2) ≤ 256 * i.val + c.val ∧ 256 * i.val + c.val < 256 * ((2 * i.val + (1 - p.val)) / 2) + 256
      omega
    · show 128 * (1 - (2 * i.val + (1 - p.val)) % 2) ≤ 128 * p.val + 64 * e.val + d.val
        ∧ 128 * p.val + 64 * e.val + d.val < 128 * (1 - (2 * i.val + (1 - p.val)) % 2) + 128
      omega

end Cert.Moba

end
-- ==== Proof.Moba.Blocks.lean ====
/-
  The blocks a grid point of the attention finds: the queries and values transposed, the keys, and the keys' block means.
-/
module

public import proofs.«01_k».proof.Proof.Moba.Ops
public import proofs.«01_k».proof.Proof.Gen.KernelIdeal.Value
public import Idealize.ShloMosaic.Lib.Claim

@[expose] public section

set_option maxRecDepth 16384

noncomputable section

namespace Cert.Moba

open Cert.KernelIdeal Cert.KernelIdeal.Gen Idealize.ShloMosaic Idealize.ShloMosaic.TcCoe

variable (m : (ℓ : Loc nD τ sig) → Buf (Elt Ideal) ℓ) (c : Dev nD)

/-- The head of one of the 512 channels. -/
abbrev headOf (y : Fin 512) : Fin 8 := ⟨y.val / 64, by omega⟩
/-- Its place in the head. -/
abbrev inHead (y : Fin 512) : Fin 64 := ⟨y.val % 64, by omega⟩

section
variable (x : FVec Ideal S32x2048x8x64 .f32) (b : Fin 32) (y : Fin 512) (t : Fin 2048) (n : Fin 8)

/-- An array of heads with its channels in one row. -/
theorem flat_apply : (shapeCast S32x2048x512 x shapeCasts_S32x2048x8x64_S32x2048x512 (ix3 b t y) : EReal) = x (ix4 b t (headOf y) (inHead y)) := by
  pointwise []

/-- The same with the channels before the places. -/
theorem turned_apply : (transpose S32x512x2048 [0, 2, 1] (shapeCast S32x2048x512 x shapeCasts_S32x2048x8x64_S32x2048x512)
    transposes_S32x2048x512_S32x512x2048_0_2_1 (ix3 b y t) : EReal) = x (ix4 b t (headOf y) (inHead y)) := by
  pointwise []

/-- The mean over each block of 256 places. -/
theorem blockMeans_apply : (Host.divf (broadcastInDim S32x8x1x512 ![0, 1, 3] bcast_S32x8x512_S32x8x1x512_0_1_3
      (Host.reduceAdd (shapeCast S32x8x256x512 (shapeCast S32x2048x512 x shapeCasts_S32x2048x8x64_S32x2048x512) shapeCasts_S32x2048x512_S32x8x256x512)
        (constant S_ .f32 0x00000000#32) reducesTo_S32x8x256x512_S32x8x512_d2 h_S_))
      (broadcastInDim S32x8x1x512 ![] bcast_S_S32x8x1x512 (constant S_ .f32 0x43800000#32)) (ix4 b n 0 y) : EReal)
    = Ideal.div (∑ z : Fin 256, x (ix4 b (⟨n.val * 256 + z.val, by omega⟩ : Fin 2048) (headOf y) (inHead y))) (Ideal.ofBits .f32 0x43800000#32) := by
  pointwise []

end

section
variable (b : Fin 32) (y : Fin 512) (t : Fin 2048) (n : Fin 8)

/-- The transposed queries. -/
theorem entry0 : (V m c main_v1 (ix3 b y t) : EReal) = m ((c : Thread nD τ).loc main_arg0) (ix4 b t (headOf y) (inHead y)) := by
  entry_read
  exact turned_apply _ b y t

/-- The keys. -/
theorem entry1 : (V m c main_v11 (ix3 b t y) : EReal) = m ((c : Thread nD τ).loc main_arg1) (ix4 b t (headOf y) (inHead y)) := by
  entry_read
  exact flat_apply _ b y t

/-- The transposed values. -/
theorem entry2 : (V m c main_v4 (ix3 b y t) : EReal) = m ((c : Thread nD τ).loc main_arg2) (ix4 b t (headOf y) (inHead y)) := by
  entry_read
  exact turned_apply _ b y t

/-- The mean keys. -/
theorem entry3 : (V m c main_v10 (ix4 b n 0 y) : EReal)
    = Ideal.div (∑ z : Fin 256, m ((c : Thread nD τ).loc main_arg1) (ix4 b (⟨n.val * 256 + z.val, by omega⟩ : Fin 2048) (headOf y) (inHead y)))
      (Ideal.ofBits .f32 0x43800000#32) := by
  entry_read
  exact blockMeans_apply _ b y n

end

/-- The blocks' places at a grid point: its batch entry and its group of four heads. -/
theorem places : ∀ t : Fin cfg0.N,
    win0_0.index t = ![(grid0.coords t 0).val, (grid0.coords t 1).val, 0]
    ∧ win0_1.index t = ![(grid0.coords t 0).val, 0, (grid0.coords t 1).val]
    ∧ win0_2.index t = ![(grid0.coords t 0).val, (grid0.coords t 1).val, 0]
    ∧ win0_3.index t = ![(grid0.coords t 0).val, 0, 0, (grid0.coords t 1).val]
    ∧ win0_4.index t = ![(grid0.coords t 0).val, 0, (grid0.coords t 1).val] := by
  decide +kernel

/-- The coordinates of a grid point. -/
theorem coords_lt : ∀ t : Fin cfg0.N, (grid0.coords t 0).val < 32 ∧ (grid0.coords t 1).val < 2 := by
  decide +kernel

section
variable (g : Fin cfg0.N) (r : Fin 256) (t : Fin 2048) (n : Fin 8)

/-- The batch entry of a grid point. -/
def batch : Fin 32 := ⟨(grid0.coords g 0).val, (coords_lt g).1⟩
/-- A channel of a grid point's block among the 512. -/
def channel : Fin 512 := ⟨(grid0.coords g 1).val * 256 + r.val, by have := (coords_lt g).2; omega⟩

/-- The queries' block. -/
theorem block0 : (iblk m c 0 g (ix3 0 r t) : EReal) = V m c main_v1 (ix3 (batch g) (channel g r) t) := by
  obtain ⟨p0, p1, p2, p3, p4⟩ := places g
  blk_ext [iblk, p0, batch, channel]

/-- The keys' block. -/
theorem block1 : (iblk m c 1 g (ix3 0 t r) : EReal) = V m c main_v11 (ix3 (batch g) t (channel g r)) := by
  obtain ⟨p0, p1, p2, p3, p4⟩ := places g
  blk_ext [iblk, p1, batch, channel]

/-- The values' block. -/
theorem block2 : (iblk m c 2 g (ix3 0 r t) : EReal) = V m c main_v4 (ix3 (batch g) (channel g r) t) := by
  obtain ⟨p0, p1, p2, p3, p4⟩ := places g
  blk_ext [iblk, p2, batch, channel]

/-- The mean keys' block. -/
theorem block3 : (iblk m c 3 g (ix4 0 n 0 r) : EReal) = V m c main_v10 (ix4 (batch g) n 0 (channel g r)) := by
  obtain ⟨p0, p1, p2, p3, p4⟩ := places g
  blk_ext [iblk, p3, batch, channel]

end

end Cert.Moba

end
-- ==== Proof.Moba.Sums.lean ====
/-
  Sums of extended reals under finite non-negative weights, powers of two, and largest values.
-/
module

public import Idealize.ShloMosaic.PureOps.Ideal

@[expose] public section

noncomputable section

namespace Cert.Moba

open Idealize.ShloMosaic

/-- A finite non-negative factor goes into a sum. -/
theorem sum_mul_coe {ι : Type} (s : Finset ι) (f : ι → EReal) (k : ℝ) (hk : 0 ≤ k) :
    (∑ x ∈ s, f x) * (k : EReal) = ∑ x ∈ s, f x * (k : EReal) := by
  classical
  induction s using Finset.induction_on with
  | empty => simp
  | insert a s ha ih =>
    rw [Finset.sum_insert ha, Finset.sum_insert ha, ← ih]
    exact EReal.right_distrib_of_nonneg_of_ne_top (EReal.coe_nonneg.mpr hk) (EReal.coe_ne_top k) _ _

/-- A sum of reals is a real. -/
theorem coe_sum {ι : Type} (s : Finset ι) (f : ι → ℝ) : ((∑ x ∈ s, f x : ℝ) : EReal) = ∑ x ∈ s, (f x : EReal) := by
  classical
  induction s using Finset.induction_on with
  | empty => simp
  | insert a s ha ih => rw [Finset.sum_insert ha, Finset.sum_insert ha, EReal.coe_add, ih]

/-- The power of two of a real; nothing of minus infinity. -/
def pw (x : EReal) : ℝ := if x = ⊥ then 0 else (2 : ℝ) ^ x.toReal

/-- The power of two of minus infinity. -/
theorem pw_bot : pw ⊥ = 0 := if_pos rfl
/-- The power of two of a real. -/
theorem pw_coe (r : ℝ) : pw (r : EReal) = (2 : ℝ) ^ r := by rw [pw, if_neg (EReal.coe_ne_bot r), EReal.toReal_coe]

/-- A power of two relative to a real maximum. -/
theorem exp2_sub (x : EReal) (hx : x ≠ ⊤) (m : ℝ) : Ideal.exp2 (x - (m : EReal)) = ((pw x * (2 : ℝ) ^ (-m) : ℝ) : EReal) := by
  induction x using EReal.rec with
  | bot => rw [pw_bot, zero_mul, EReal.bot_sub, Ideal.exp2_bot]; rfl
  | top => exact absurd rfl hx
  | coe r =>
    rw [pw_coe, ← EReal.coe_sub, Ideal.exp2_coe, sub_eq_add_neg]
    exact congrArg _ (Real.rpow_add (by norm_num) r (-m))

/-- The largest of finitely many values, none plus infinity and not all minus infinity, is a real. -/
theorem fold_max_coe {ι : Type} (s : Finset ι) (f : ι → EReal) (h : ∀ x ∈ s, f x ≠ ⊤) (x0 : ι) (hs : x0 ∈ s) (h0 : f x0 ≠ ⊥) :
    ∃ m : ℝ, Finset.fold max ⊥ f s = (m : EReal) := by
  have ht : Finset.fold max ⊥ f s < ⊤ := Finset.fold_max_lt _ |>.mpr ⟨bot_lt_top, fun x hx => lt_top_iff_ne_top.mpr (h x hx)⟩
  have hb : ⊥ < Finset.fold max ⊥ f s := Finset.lt_fold_max _ |>.mpr (Or.inr ⟨x0, hs, bot_lt_iff_ne_bot.mpr h0⟩)
  exact ⟨_, (EReal.coe_toReal ht.ne hb.ne').symm⟩

/-- A common positive factor leaves a quotient. -/
theorem div_mul_coe (N : EReal) (W k : ℝ) (hW : 0 < W) (hk : 0 < k) :
    Ideal.div (N * (k : EReal)) ((W : EReal) * (k : EReal)) = N * ((1 / W : ℝ) : EReal) := by
  rw [← EReal.coe_mul, Ideal.div_coe (mul_pos hW hk).ne', mul_assoc, ← EReal.coe_mul,
    show k * (1 / (W * k)) = 1 / W by field_simp]

/-- A sum over the 2048 places is a sum over the eight blocks of sums over a block's places. -/
theorem sum_blocks {M : Type} [AddCommMonoid M] (f : Fin 2048 → M) :
    ∑ t, f t = ∑ j : Fin 8, ∑ x : Fin 256, f ⟨256 * j.val + x.val, by omega⟩ := by
  rw [← Fintype.sum_prod_type' (f := fun (j : Fin 8) (x : Fin 256) => f ⟨256 * j.val + x.val, by omega⟩)]
  refine (Fintype.sum_equiv (finProdFinEquiv (m := 8) (n := 256)) _ _ fun jx => ?_).symm
  exact congrArg f (Fin.ext (by show 256 * jx.1.val + jx.2.val = jx.2.val + 256 * jx.1.val; omega))

end Cert.Moba

end
-- ==== Proof.Moba.Online.lean ====
/-
  The running maximum and sum of a query column come out as the plain weighted sum: the maximum cancels.
-/
module

public import proofs.«01_k».proof.Proof.Moba.Ops
public import proofs.«01_k».proof.Proof.Moba.Sums

@[expose] public section

noncomputable section

namespace Cert.Moba

open Cert.KernelIdeal Cert.KernelIdeal.Gen Idealize.ShloMosaic

section
variable (d : FVec Ideal S256x256 .f32) (vd : FVec Ideal S80x256 .bf16) (s : Fin 8 → FVec Ideal S256x256 .f32)
  (v : Fin 8 → FVec Ideal S80x256 .bf16) (b : Fin 8 → FVec Ideal S1x256 .f32) (c : Fin 256)

/-- The weighted sum of a row of values under the powers of two of a column of scores. -/
def mass (v : FVec Ideal S80x256 .bf16) (s : FVec Ideal S256x256 .f32) (r : Fin 80) (c : Fin 256) : EReal :=
  ∑ x : Fin 256, (v (ix2 r x) : EReal) * ((pw (s (ix2 x c)) : ℝ) : EReal)

/-- A weighted sum relative to a real maximum. -/
theorem weigh_eq (v : FVec Ideal S80x256 .bf16) (s : FVec Ideal S256x256 .f32) (m : FVec Ideal S1x256 .f32) (r : Fin 80) (c : Fin 256)
    (hs : ∀ x, (s (ix2 x c) : EReal) ≠ ⊤) (μ : ℝ) (hm : (m (ix2 0 c) : EReal) = (μ : EReal)) :
    (weigh v s m (ix2 r c) : EReal) = mass v s r c * (((2 : ℝ) ^ (-μ) : ℝ) : EReal) := by
  rw [weigh_apply, mass, sum_mul_coe _ _ _ (Real.rpow_nonneg (by norm_num) _)]
  refine Finset.sum_congr rfl fun x _ => ?_
  rw [hm, exp2_sub _ (hs x), EReal.coe_mul, mul_assoc]

/-- A weighted sum relative to plus infinity is nothing. -/
theorem weigh_top (v : FVec Ideal S80x256 .bf16) (s : FVec Ideal S256x256 .f32) (m : FVec Ideal S1x256 .f32) (r : Fin 80) (c : Fin 256)
    (hm : (m (ix2 0 c) : EReal) = ⊤) : (weigh v s m (ix2 r c) : EReal) = 0 := by
  rw [weigh_apply]
  refine Finset.sum_eq_zero fun x _ => ?_
  rw [hm, EReal.sub_top, Ideal.exp2_bot, mul_zero]

/-- What block `j` adds: its weighted sum when it is chosen, nothing otherwise. -/
def share (j : Fin 8) (r : Fin 80) : EReal := if (b j (ix2 0 c) : EReal) = 0 then mass (v j) (s j) r c else 0

variable (hd : ∀ x, (d (ix2 x c) : EReal) ≠ ⊤) (hd0 : ∃ x, (d (ix2 x c) : EReal) ≠ ⊥)
  (hs : ∀ j x, ∃ r : ℝ, (s j (ix2 x c) : EReal) = (r : EReal)) (hb : ∀ j, (b j (ix2 0 c) : EReal) = 0 ∨ (b j (ix2 0 c) : EReal) = ⊥)
include hd hd0 hs hb

/-- With the blocks of a list met, the running maximum is a real `m`, and the running sum is the plain weighted sum of the own
    block and the chosen blocks, times `2 ^ (-m)`. -/
theorem runB_eq (l : List (Fin 8)) : ∃ m : ℝ, (runMaxB d s b l (ix2 0 c) : EReal) = (m : EReal) ∧ ∀ r,
    (runSumB d vd s v b l (ix2 r c) : EReal)
      = (mass vd d r c + (l.map fun j => share s v b c j r).sum) * (((2 : ℝ) ^ (-m) : ℝ) : EReal) := by
  induction l with
  | nil =>
    obtain ⟨x0, h0⟩ := hd0
    obtain ⟨m, hm⟩ := fold_max_coe Finset.univ (fun x : Fin 256 => (d (ix2 x c) : EReal)) (fun x _ => hd x) x0 (Finset.mem_univ _) h0
    have hm' : (top d (ix2 0 c) : EReal) = (m : EReal) := (top_apply d c).trans hm
    refine ⟨m, hm', fun r => ?_⟩
    rw [List.map_nil, List.sum_nil, add_zero]
    exact weigh_eq vd d (top d) r c hd m hm'
  | cons j l ih =>
    obtain ⟨m, hm, hr⟩ := ih
    have hst : ∀ x, (s j (ix2 x c) : EReal) ≠ ⊤ := fun x => by obtain ⟨r, h⟩ := hs j x; rw [h]; exact EReal.coe_ne_top r
    have hsb : (s j (ix2 0 c) : EReal) ≠ ⊥ := by obtain ⟨r, h⟩ := hs j 0; rw [h]; exact EReal.coe_ne_bot r
    obtain ⟨t, ht⟩ := fold_max_coe Finset.univ (fun x : Fin 256 => (s j (ix2 x c) : EReal)) (fun x _ => hst x) 0 (Finset.mem_univ _) hsb
    have ht' : (top (s j) (ix2 0 c) : EReal) = (t : EReal) := (top_apply (s j) c).trans ht
    have hmax : (runMaxB d s b (j :: l) (ix2 0 c) : EReal) = max (runMaxB d s b l (ix2 0 c) : EReal) (top (s j) (ix2 0 c) + b j (ix2 0 c)) := rfl
    have hm'' : ∃ m' : ℝ, (runMaxB d s b (j :: l) (ix2 0 c) : EReal) = (m' : EReal) := by
      rw [hmax, hm, ht']
      rcases hb j with h | h
      · rw [h, add_zero]; exact ⟨max m t, (EReal.coe_strictMono.monotone.map_max).symm⟩
      · rw [h, EReal.add_bot, max_eq_left bot_le]; exact ⟨m, rfl⟩
    obtain ⟨m', hm'⟩ := hm''
    refine ⟨m', hm', fun r => ?_⟩
    have hstep : (runSumB d vd s v b (j :: l) (ix2 r c) : EReal)
        = runSumB d vd s v b l (ix2 r c) * Ideal.exp2 (runMaxB d s b l (ix2 0 c) - runMaxB d s b (j :: l) (ix2 0 c))
          + weigh (v j) (s j) (subf (runMaxB d s b (j :: l)) (b j)) (ix2 r c) := carry_apply _ _ _ _ r c
    have hold : (runSumB d vd s v b l (ix2 r c) : EReal) * Ideal.exp2 (runMaxB d s b l (ix2 0 c) - runMaxB d s b (j :: l) (ix2 0 c))
        = (mass vd d r c + (l.map fun j => share s v b c j r).sum) * (((2 : ℝ) ^ (-m') : ℝ) : EReal) := by
      rw [hr, hm, hm', exp2_sub _ (EReal.coe_ne_top m), pw_coe, mul_assoc, ← EReal.coe_mul, ← mul_assoc,
        ← Real.rpow_add (by norm_num), neg_add_cancel, Real.rpow_zero, one_mul]
    have hnew : (weigh (v j) (s j) (subf (runMaxB d s b (j :: l)) (b j)) (ix2 r c) : EReal)
        = share s v b c j r * (((2 : ℝ) ^ (-m') : ℝ) : EReal) := by
      have hsub : (subf (runMaxB d s b (j :: l)) (b j) (ix2 0 c) : EReal) = runMaxB d s b (j :: l) (ix2 0 c) - b j (ix2 0 c) := rfl
      unfold share
      rcases hb j with h | h
      · rw [if_pos h]
        exact weigh_eq _ _ _ r c hst m' (by rw [hsub, h, hm', sub_zero])
      · rw [if_neg (by rw [h]; exact EReal.bot_ne_zero), zero_mul]
        exact weigh_top _ _ _ r c (by rw [hsub, h, hm']; rfl)
    have hdist : ∀ A B : EReal, A * (((2 : ℝ) ^ (-m') : ℝ) : EReal) + B * (((2 : ℝ) ^ (-m') : ℝ) : EReal)
        = (A + B) * (((2 : ℝ) ^ (-m') : ℝ) : EReal) := fun A B =>
      (EReal.right_distrib_of_nonneg_of_ne_top (EReal.coe_nonneg.mpr (Real.rpow_nonneg (by norm_num) _)) (EReal.coe_ne_top _) A B).symm
    rw [hstep, hold, hnew, hdist, List.map_cons, List.sum_cons, add_assoc, add_comm (share s v b c j r)]

omit hd hd0 hs hb

/-- Without biases the pair runs as under biases that are all nothing. -/
theorem run_eq_runB (hb : ∀ j, (b j (ix2 0 c) : EReal) = 0) (l : List (Fin 8)) :
    (runMax d s l (ix2 0 c) : EReal) = runMaxB d s b l (ix2 0 c)
      ∧ ∀ r, (runSum d vd s v l (ix2 r c) : EReal) = runSumB d vd s v b l (ix2 r c) := by
  induction l with
  | nil => exact ⟨rfl, fun r => rfl⟩
  | cons j l ih =>
    have h1 : (runMax d s (j :: l) (ix2 0 c) : EReal) = runMaxB d s b (j :: l) (ix2 0 c) := by
      show max (runMax d s l (ix2 0 c) : EReal) (top (s j) (ix2 0 c)) = max (runMaxB d s b l (ix2 0 c) : EReal) (top (s j) (ix2 0 c) + b j (ix2 0 c))
      rw [ih.1, hb, add_zero]
    refine ⟨h1, fun r => ?_⟩
    have hl : (runSum d vd s v (j :: l) (ix2 r c) : EReal)
        = runSum d vd s v l (ix2 r c) * Ideal.exp2 (runMax d s l (ix2 0 c) - runMax d s (j :: l) (ix2 0 c))
          + weigh (v j) (s j) (runMax d s (j :: l)) (ix2 r c) := carry_apply _ _ _ _ r c
    have hr : (runSumB d vd s v b (j :: l) (ix2 r c) : EReal)
        = runSumB d vd s v b l (ix2 r c) * Ideal.exp2 (runMaxB d s b l (ix2 0 c) - runMaxB d s b (j :: l) (ix2 0 c))
          + weigh (v j) (s j) (subf (runMaxB d s b (j :: l)) (b j)) (ix2 r c) := carry_apply _ _ _ _ r c
    have hsub : (subf (runMaxB d s b (j :: l)) (b j) (ix2 0 c) : EReal) = runMaxB d s b (j :: l) (ix2 0 c) - b j (ix2 0 c) := rfl
    rw [hl, hr, ih.1, ih.2, h1, weigh_apply, weigh_apply, hsub, hb, sub_zero, h1]

end

end Cert.Moba

end
-- ==== Proof.Moba.Unit.lean ====
/-
  What a tile holds for one query of one head: the values of the seen keys, weighted by the powers of two of their scores,
  over the sum of those weights.
-/
module

public import proofs.«01_k».proof.Proof.Moba.Online

@[expose] public section

noncomputable section

namespace Cert.Moba

open Cert.KernelIdeal Cert.KernelIdeal.Gen Idealize.ShloMosaic

/-! ## Which keys a query sees -/

/-- Query place `c` of block `i` sees key place `x` of block `j`: in its own block up to itself, and in an earlier block that
    has fewer than three blocks ahead of it by the gates `g`. -/
def Seen (i : Fin 8) (c : Fin 256) (g : Fin 8 → EReal) (j : Fin 8) (x : Fin 256) : Prop :=
  (j = i ∧ x.val ≤ c.val) ∨ (j.val < i.val ∧ (Finset.univ.filter fun y => Ahead g y j).card < 3)

open Classical in
/-- The weight of a key: the power of two of its score when it is seen. -/
def weight (i : Fin 8) (c : Fin 256) (g : Fin 8 → EReal) (S : Fin 8 → Fin 256 → ℝ) (j : Fin 8) (x : Fin 256) : ℝ :=
  if Seen i c g j x then (2 : ℝ) ^ S j x else 0

/-- A seen key's weight. -/
theorem weight_seen (i : Fin 8) (c : Fin 256) (g : Fin 8 → EReal) (S : Fin 8 → Fin 256 → ℝ) (j : Fin 8) (x : Fin 256)
    (h : Seen i c g j x) : weight i c g S j x = (2 : ℝ) ^ S j x := if_pos h
/-- Any other key's weight. -/
theorem weight_unseen (i : Fin 8) (c : Fin 256) (g : Fin 8 → EReal) (S : Fin 8 → Fin 256 → ℝ) (j : Fin 8) (x : Fin 256)
    (h : ¬ Seen i c g j x) : weight i c g S j x = 0 := if_neg h

/-- Up to block 3 every earlier block has fewer than three blocks ahead of it. -/
theorem card_ahead_small (i j : Fin 8) (g : Fin 8 → EReal) (hi : i.val ≤ 3) (hj : j.val < i.val)
    (hgb : ∀ n : Fin 8, i.val ≤ n.val → g n = ⊥) (hgr : ∀ n : Fin 8, n.val < i.val → g n ≠ ⊥) :
    (Finset.univ.filter fun y => Ahead g y j).card < 3 := by
  have hsub : (Finset.univ.filter fun y => Ahead g y j) ⊆ (Finset.univ.filter fun y : Fin 8 => y.val < i.val ∧ y ≠ j) := by
    intro y hy
    have hy := (Finset.mem_filter.mp hy).2
    refine Finset.mem_filter.mpr ⟨Finset.mem_univ _, ?_, ?_⟩
    · by_contra hyi
      rcases hy with h | ⟨h, -⟩
      · rw [hgb y (not_lt.mp hyi)] at h; exact not_lt_bot h
      · rw [hgb y (not_lt.mp hyi)] at h; exact hgr j hj h.symm
    · rintro rfl; exact not_ahead_self g y hy
  refine lt_of_le_of_lt (Finset.card_le_card hsub) ?_
  have : ∀ i j : Fin 8, i.val ≤ 3 → j.val < i.val → (Finset.univ.filter fun y : Fin 8 => y.val < i.val ∧ y ≠ j).card < 3 := by decide
  exact this i j hi hj

/-- A sum along the past blocks is a sum over all blocks with nothing at the others. -/
theorem sum_past (i : Fin 8) (f : Fin 8 → EReal) : ((past i).map f).sum = ∑ j : Fin 8, if j.val < i.val then f j else 0 := by
  fin_cases i <;> simp [past, Fin.sum_univ_eight, add_assoc]

/-! ## The final sum of a query column -/

section
variable (x0 : Vec Ideal S1x256x2048 .f32) (x1 : Vec Ideal S1x2048x256 .bf16) (x2 : Vec Ideal S1x256x2048 .bf16)
  (x3 : Vec Ideal S1x8x1x256 .f32) (i : Fin 8) (p e : Fin 2) (c : Fin 256) (S : Fin 8 → Fin 256 → ℝ) (g : Fin 8 → EReal)

/-- The biases in force: none up to block 3. -/
def biases : Fin 8 → FVec Ideal S1x256 .f32 := if i.val ≤ 3 then fun _ _ => (0 : EReal) else bias (gate x0 x3 i p e)

variable (hS : ∀ j x, (score x0 x1 i p e j (ix2 x c) : EReal) = (S j x : EReal))
  (hg : ∀ n, (gate x0 x3 i p e (ix2 n c) : EReal) = g n)
  (hgb : ∀ n : Fin 8, i.val ≤ n.val → g n = ⊥) (hgr : ∀ n : Fin 8, n.val < i.val → g n ≠ ⊥)

include hg in
/-- Past block 3 the biases are the gates' choice. -/
theorem biases_apply (hi : ¬ i.val ≤ 3) (j : Fin 8) : (biases x0 x3 i p e j (ix2 0 c) : EReal)
    = if (Finset.univ.filter fun y => Ahead g y j).card < 3 then (0 : EReal) else ⊥ := by
  rw [biases, if_neg hi, bias_apply, funext hg]

include hg in
/-- A bias is nothing or minus infinity. -/
theorem biases_cases (j : Fin 8) : (biases x0 x3 i p e j (ix2 0 c) : EReal) = 0 ∨ (biases x0 x3 i p e j (ix2 0 c) : EReal) = ⊥ := by
  by_cases hi : i.val ≤ 3
  · rw [biases, if_pos hi]; exact Or.inl rfl
  · rw [biases_apply x0 x3 i p e c g hg hi]
    split
    · exact Or.inl rfl
    · exact Or.inr rfl

include hg hgb hgr in
/-- The bias of an earlier block is nothing exactly when fewer than three blocks are ahead of it. -/
theorem biases_eq_zero_iff (j : Fin 8) (hj : j.val < i.val) :
    (biases x0 x3 i p e j (ix2 0 c) : EReal) = 0 ↔ (Finset.univ.filter fun y => Ahead g y j).card < 3 := by
  by_cases hi : i.val ≤ 3
  · rw [biases, if_pos hi]
    exact ⟨fun _ => card_ahead_small i j g hi hj hgb hgr, fun _ => rfl⟩
  · rw [biases_apply x0 x3 i p e c g hg hi]
    constructor
    · intro h
      by_contra hn
      rw [if_neg hn] at h
      exact EReal.bot_ne_zero h
    · intro h; rw [if_pos h]

/-- The final sum runs under the biases in force. -/
theorem unit_eq_runB (r : Fin 80) : (unit x0 x1 x2 x3 i p e (ix2 r c) : EReal)
    = runSumB (own (score x0 x1 i p e i)) (vals x2 p e i) (score x0 x1 i p e) (vals x2 p e) (biases x0 x3 i p e) (past i) (ix2 r c) := by
  by_cases hi : i.val ≤ 3
  · have h : unit x0 x1 x2 x3 i p e = runSum (own (score x0 x1 i p e i)) (vals x2 p e i) (score x0 x1 i p e) (vals x2 p e) (past i) := by
      rw [unit, Nat.ble_eq_true_of_le hi]; rfl
    rw [h]
    exact (run_eq_runB _ _ _ _ _ c (fun j => by rw [biases, if_pos hi]) (past i)).2 r
  · have h : unit x0 x1 x2 x3 i p e = runSumB (own (score x0 x1 i p e i)) (vals x2 p e i) (score x0 x1 i p e) (vals x2 p e)
        (bias (gate x0 x3 i p e)) (past i) := by
      rw [unit, Bool.eq_false_iff.mpr fun h => hi (Nat.le_of_ble_eq_true h)]; rfl
    rw [h, biases, if_neg hi]

include hS hg hgb hgr in
/-- The own block's and the chosen blocks' sums are one sum over all keys. -/
theorem mass_eq (r : Fin 80) : mass (vals x2 p e i) (own (score x0 x1 i p e i)) r c
      + ((past i).map fun j => share (score x0 x1 i p e) (vals x2 p e) (biases x0 x3 i p e) c j r).sum
    = ∑ j : Fin 8, ∑ x : Fin 256, (vals x2 p e j (ix2 r x) : EReal) * ((weight i c g S j x : ℝ) : EReal) := by
  rw [sum_past, show mass (vals x2 p e i) (own (score x0 x1 i p e i)) r c
      = ∑ j : Fin 8, if j = i then mass (vals x2 p e j) (own (score x0 x1 i p e j)) r c else 0 by simp, ← Finset.sum_add_distrib]
  refine Finset.sum_congr rfl fun j _ => ?_
  by_cases hj : j = i
  · rw [if_pos hj, if_neg (by rw [hj]; exact lt_irrefl _), add_zero]
    refine Finset.sum_congr rfl fun x _ => ?_
    have hw : weight i c g S j x = pw (own (score x0 x1 i p e j) (ix2 x c)) := by
      rw [own_apply, hS]
      by_cases hx : x.val ≤ c.val
      · rw [weight_seen i c g S j x (Or.inl ⟨hj, hx⟩), if_pos hx, pw_coe]
      · rw [weight_unseen, if_neg hx, pw_bot]
        rintro (h | h)
        · exact hx h.2
        · rw [hj] at h; exact lt_irrefl _ h.1
    rw [hw]
  · rw [if_neg hj, zero_add]
    have hseen : ∀ x, Seen i c g j x ↔ j.val < i.val ∧ (Finset.univ.filter fun y => Ahead g y j).card < 3 := fun x =>
      ⟨fun h => h.resolve_left fun h => hj h.1, Or.inr⟩
    by_cases hji : j.val < i.val
    · rw [if_pos hji, share]
      by_cases hb : (biases x0 x3 i p e j (ix2 0 c) : EReal) = 0
      · rw [if_pos hb]
        have hk := (biases_eq_zero_iff x0 x3 i p e c g hg hgb hgr j hji).mp hb
        refine Finset.sum_congr rfl fun x _ => ?_
        rw [weight_seen i c g S j x ((hseen x).mpr ⟨hji, hk⟩), hS, pw_coe]
      · rw [if_neg hb]
        have hk := fun h => hb ((biases_eq_zero_iff x0 x3 i p e c g hg hgb hgr j hji).mpr h)
        refine (Finset.sum_eq_zero fun x _ => ?_).symm
        rw [weight_unseen i c g S j x fun h => hk ((hseen x).mp h).2, EReal.coe_zero, mul_zero]
    · rw [if_neg hji]
      refine (Finset.sum_eq_zero fun x _ => ?_).symm
      rw [weight_unseen i c g S j x fun h => hji ((hseen x).mp h).1, EReal.coe_zero, mul_zero]

/-- The weights' sum is positive: a query sees itself. -/
theorem weight_sum_pos : 0 < ∑ j : Fin 8, ∑ x : Fin 256, weight i c g S j x := by
  have h0 : ∀ j x, 0 ≤ weight i c g S j x := fun j x => by
    rw [weight]; split
    · exact Real.rpow_nonneg (by norm_num) _
    · exact le_refl _
  have hi : 0 < weight i c g S i c := by
    rw [weight_seen i c g S i c (Or.inl ⟨rfl, le_refl _⟩)]; exact Real.rpow_pos_of_pos (by norm_num) _
  refine Finset.sum_pos' (fun j _ => Finset.sum_nonneg fun x _ => h0 j x) ⟨i, Finset.mem_univ _, ?_⟩
  exact Finset.sum_pos' (fun x _ => h0 i x) ⟨c, Finset.mem_univ _, hi⟩

include hS hg hgb hgr in
/-- A tile's value for a query of a head: the weighted values over the weights' sum. -/
theorem tile_eq (d : Fin 64) : (tile x0 x1 x2 x3 i p (ix3 0 c (half e d)) : EReal)
    = (∑ j : Fin 8, ∑ x : Fin 256, (x2 (ix3 0 (chan p e d) (place j x)) : EReal) * ((weight i c g S j x : ℝ) : EReal))
      * ((1 / ∑ j : Fin 8, ∑ x : Fin 256, weight i c g S j x : ℝ) : EReal) := by
  have hown : ∀ x, (own (score x0 x1 i p e i) (ix2 x c) : EReal) ≠ ⊤ := fun x => by
    rw [own_apply, hS]
    split
    · exact EReal.coe_ne_top _
    · exact bot_ne_top
  have hown0 : ∃ x, (own (score x0 x1 i p e i) (ix2 x c) : EReal) ≠ ⊥ :=
    ⟨c, by rw [own_apply, hS, if_pos (le_refl _)]; exact EReal.coe_ne_bot _⟩
  obtain ⟨m, -, hr⟩ := runB_eq (own (score x0 x1 i p e i)) (vals x2 p e i) (score x0 x1 i p e) (vals x2 p e) (biases x0 x3 i p e) c
    hown hown0 (fun j x => ⟨S j x, hS j x⟩) (biases_cases x0 x3 i p e c g hg) (past i)
  have hu : ∀ r, (unit x0 x1 x2 x3 i p e (ix2 r c) : EReal)
      = (∑ j : Fin 8, ∑ x : Fin 256, (vals x2 p e j (ix2 r x) : EReal) * ((weight i c g S j x : ℝ) : EReal))
        * (((2 : ℝ) ^ (-m) : ℝ) : EReal) := fun r => by
    rw [unit_eq_runB, hr, mass_eq x0 x1 x2 x3 i p e c S g hS hg hgb hgr]
  have hW : (∑ j : Fin 8, ∑ x : Fin 256, (vals x2 p e j (ix2 (64 : Fin 80) x) : EReal) * ((weight i c g S j x : ℝ) : EReal))
      = ((∑ j : Fin 8, ∑ x : Fin 256, weight i c g S j x : ℝ) : EReal) := by
    rw [coe_sum]
    refine Finset.sum_congr rfl fun j _ => ?_
    rw [coe_sum]
    exact Finset.sum_congr rfl fun x _ => by rw [vals_one, one_mul]
  have hk : (0 : ℝ) < (2 : ℝ) ^ (-m) := Real.rpow_pos_of_pos (by norm_num) _
  have hpos := weight_sum_pos i c S g
  have hN : (∑ j : Fin 8, ∑ x : Fin 256, (vals x2 p e j (ix2 (⟨d.val, by omega⟩ : Fin 80) x) : EReal) * ((weight i c g S j x : ℝ) : EReal))
      = ∑ j : Fin 8, ∑ x : Fin 256, (x2 (ix3 0 (chan p e d) (place j x)) : EReal) * ((weight i c g S j x : ℝ) : EReal) :=
    Finset.sum_congr rfl fun j _ => Finset.sum_congr rfl fun x _ => by rw [vals_apply]
  refine (tile_apply x0 x1 x2 x3 i p e c d).trans ((quot_apply _ d c).trans ?_)
  rw [hu, hu, hW, hN]
  exact div_mul_coe _ _ _ hpos hk

end

end Cert.Moba

end
-- ==== Proof.Moba.Attend.lean ====
/-
  The attention as both programs compute it, from real queries and keys: the weights of the seen keys, and the weighted values.
-/
module

public import proofs.«01_k».proof.Proof.Moba.Unit

@[expose] public section

noncomputable section

namespace Cert.Moba

open Idealize.ShloMosaic

/-- Whether one entry comes before another depends only on how the keys compare. -/
theorem ahead_congr {n : Nat} (g g' : Fin n → EReal) (h : ∀ a b, g a < g b ↔ g' a < g' b) (a b : Fin n) : Ahead g a b ↔ Ahead g' a b := by
  have he : g a = g b ↔ g' a = g' b := by
    constructor
    · intro e
      exact le_antisymm (not_lt.mp fun hl => absurd e (ne_of_gt ((h b a).mpr hl))) (not_lt.mp fun hl => absurd e (ne_of_lt ((h a b).mpr hl)))
    · intro e
      exact le_antisymm (not_lt.mp fun hl => absurd e (ne_of_gt ((h b a).mp hl))) (not_lt.mp fun hl => absurd e (ne_of_lt ((h a b).mp hl)))
  unfold Ahead
  rw [h b a, he]

section
variable (Q K : Fin 32 → Fin 2048 → Fin 8 → Fin 64 → ℝ) (b : Fin 32) (h : Fin 8) (T : Fin 2048)

/-- The product of the key at place `t` and the query at place `T`. -/
def dots (t : Fin 2048) : ℝ := ∑ y, K b t h y * Q b T h y
/-- The mean key of block `n`. -/
def meanKey (n : Fin 8) (y : Fin 64) : ℝ := (∑ x : Fin 256, K b (place n x) h y) * (1 / 256)
/-- The product of a block's mean key and the query. -/
def gates (n : Fin 8) : ℝ := ∑ y, meanKey K b h n y * Q b T h y
/-- The gates of the blocks before `i`, minus infinity at the others. -/
def pastGates (i : Fin 8) (n : Fin 8) : EReal := if n.val < i.val then (gates Q K b h T n : EReal) else ⊥
/-- The kernel's gates: scaled. -/
def scaledGates (i : Fin 8) (n : Fin 8) : EReal := if n.val < i.val then ((gates Q K b h T n * scale : ℝ) : EReal) else ⊥

/-- Scaling the gates leaves their order. -/
theorem scaledGates_lt (i a c : Fin 8) : scaledGates Q K b h T i a < scaledGates Q K b h T i c ↔ pastGates Q K b h T i a < pastGates Q K b h T i c := by
  unfold scaledGates pastGates
  split <;> split
  · rw [EReal.coe_lt_coe_iff, EReal.coe_lt_coe_iff]; exact mul_lt_mul_iff_of_pos_right scale_pos
  · exact iff_of_false not_lt_bot not_lt_bot
  · exact iff_of_true (EReal.bot_lt_coe _) (EReal.bot_lt_coe _)
  · exact Iff.rfl

/-- So a query sees the same keys by either. -/
theorem seen_scaled (i : Fin 8) (c : Fin 256) (j : Fin 8) (x : Fin 256) :
    Seen i c (scaledGates Q K b h T i) j x ↔ Seen i c (pastGates Q K b h T i) j x := by
  unfold Seen
  rw [Finset.filter_congr fun y _ => ahead_congr _ _ (scaledGates_lt Q K b h T i) y j]

/-- The weight of each key for query place `c` of block `i`. -/
def weights (i : Fin 8) (c : Fin 256) : Fin 8 → Fin 256 → ℝ :=
  weight i c (pastGates Q K b h (place i c) i) fun j x => dots Q K b h (place i c) (place j x) * scale

/-- The weights' sum is positive. -/
theorem weights_pos (i : Fin 8) (c : Fin 256) : 0 < ∑ j, ∑ x, weights Q K b h i c j x := weight_sum_pos i c _ _

/-- The attention of a head at place `c` of block `i`: the values under the weights, over the weights' sum. -/
def attend (v : Fin 32 → Fin 2048 → Fin 8 → Fin 64 → EReal) (i : Fin 8) (c : Fin 256) (d : Fin 64) : EReal :=
  (∑ j : Fin 8, ∑ x : Fin 256, v b (place j x) h d * ((weights Q K b h i c j x : ℝ) : EReal))
    * ((1 / ∑ j : Fin 8, ∑ x : Fin 256, weights Q K b h i c j x : ℝ) : EReal)

end

end Cert.Moba

end
-- ==== Proof.Moba.Array.lean ====
/-
  The kernel's array: each head's attention.
-/
module

public import proofs.«01_k».proof.Proof.Moba.Store
public import proofs.«01_k».proof.Proof.Moba.Blocks
public import proofs.«01_k».proof.Proof.Moba.Attend

@[expose] public section

set_option maxRecDepth 16384

noncomputable section

namespace Cert.Moba

open Cert.KernelIdeal Cert.KernelIdeal.Gen Idealize.ShloMosaic Idealize.ShloMosaic.TcCoe

/-- Scaling the gates leaves the weights. -/
theorem weight_scaled (Q K : Fin 32 → Fin 2048 → Fin 8 → Fin 64 → ℝ) (b : Fin 32) (h : Fin 8) (T : Fin 2048) (i : Fin 8) (c : Fin 256)
    (S : Fin 8 → Fin 256 → ℝ) : weight i c (scaledGates Q K b h T i) S = weight i c (pastGates Q K b h T i) S := by
  funext j x
  have e := seen_scaled Q K b h T i c j x
  by_cases hs : Seen i c (pastGates Q K b h T i) j x
  · rw [weight_seen _ _ _ _ _ _ hs, weight_seen _ _ _ _ _ _ (e.mpr hs)]
  · rw [weight_unseen _ _ _ _ _ _ hs, weight_unseen _ _ _ _ _ _ (mt e.mp hs)]

/-- A tile whose blocks hold a head's queries, keys, values and mean keys is the head's attention. -/
theorem tile_attend (Q K : Fin 32 → Fin 2048 → Fin 8 → Fin 64 → ℝ) (v : Fin 32 → Fin 2048 → Fin 8 → Fin 64 → EReal) (b : Fin 32) (h : Fin 8)
    (x0 : Vec Ideal S1x256x2048 .f32) (x1 : Vec Ideal S1x2048x256 .bf16) (x2 : Vec Ideal S1x256x2048 .bf16) (x3 : Vec Ideal S1x8x1x256 .f32)
    (p e : Fin 2)
    (h0 : ∀ y t, (x0 (ix3 0 (chan p e y) t) : EReal) = (Q b t h y : EReal)) (h1 : ∀ y t, (x1 (ix3 0 t (chan p e y)) : EReal) = (K b t h y : EReal))
    (h2 : ∀ y t, (x2 (ix3 0 (chan p e y) t) : EReal) = v b t h y) (h3 : ∀ y n, (x3 (ix4 0 n 0 (chan p e y)) : EReal) = (meanKey K b h n y : EReal))
    (i : Fin 8) (c : Fin 256) (d : Fin 64) : (tile x0 x1 x2 x3 i p (ix3 0 c (half e d)) : EReal) = attend Q K b h v i c d := by
  have hS : ∀ j x, (score x0 x1 i p e j (ix2 x c) : EReal) = ((dots Q K b h (place i c) (place j x) * scale : ℝ) : EReal) := fun j x => by
    rw [score_apply, dots, Finset.sum_mul, coe_sum]
    exact Finset.sum_congr rfl fun y _ => by rw [h0, h1, ← EReal.coe_mul, ← EReal.coe_mul, mul_assoc]
  have hg : ∀ n, (gate x0 x3 i p e (ix2 n c) : EReal) = scaledGates Q K b h (place i c) i n := fun n => by
    rw [gate_apply, scaledGates]
    congr 1
    rw [gates, Finset.sum_mul, coe_sum]
    exact Finset.sum_congr rfl fun y _ => by rw [h0, h3, ← EReal.coe_mul, ← EReal.coe_mul, mul_assoc]
  have hgb : ∀ n : Fin 8, i.val ≤ n.val → scaledGates Q K b h (place i c) i n = ⊥ := fun n hn => if_neg (by omega)
  have hgr : ∀ n : Fin 8, n.val < i.val → scaledGates Q K b h (place i c) i n ≠ ⊥ := fun n hn => by
    rw [scaledGates, if_pos hn]; exact EReal.coe_ne_bot _
  refine (tile_eq x0 x1 x2 x3 i p e c _ _ hS hg hgb hgr d).trans ?_
  rw [weight_scaled]
  refine congrArg (· * _) ?_
  exact Finset.sum_congr rfl fun j _ => Finset.sum_congr rfl fun x _ => congrArg (· * _) (h2 d (place j x))

section
variable (Q K : Fin 32 → Fin 2048 → Fin 8 → Fin 64 → ℝ) (v : Fin 32 → Fin 2048 → Fin 8 → Fin 64 → EReal)

/-- The attention of every head, its channels in one row. -/
def attended : FVec Ideal S32x2048x512 .bf16 := fun z =>
  attend Q K (z 0) (headOf (z 2)) v (⟨(z 1).val / 256, by have := (z 1).isLt; change (z 1).val < 2048 at this; omega⟩ : Fin 8)
    (⟨(z 1).val % 256, by omega⟩ : Fin 256) (inHead (z 2))

/-- It at a place of a block and a channel of a head. -/
theorem attended_apply (z : S32x2048x512.Idx) (b : Fin 32) (h i : Fin 8) (c : Fin 256) (d : Fin 64)
    (z0 : (z 0).val = b.val) (z1 : (z 1).val = 256 * i.val + c.val) (z2 : (z 2).val = 64 * h.val + d.val) :
    (attended Q K v z : EReal) = attend Q K b h v i c d := by
  have e0 : z 0 = b := Fin.ext z0
  have e1 : (⟨(z 1).val / 256, by omega⟩ : Fin 8) = i := Fin.ext (by show (z 1).val / 256 = _; omega)
  have e2 : (⟨(z 1).val % 256, by omega⟩ : Fin 256) = c := Fin.ext (by show (z 1).val % 256 = _; omega)
  have e3 : headOf (z 2) = h := Fin.ext (by show (z 2).val / 64 = _; omega)
  have e4 : inHead (z 2) = d := Fin.ext (by show (z 2).val % 64 = _; omega)
  unfold attended
  rw [e0, e1, e2, e3, e4]

variable (m : (ℓ : Loc nD τ sig) → Buf (Elt Ideal) ℓ) (c : Dev nD)
  (hQ : ∀ b t h y, (m ((c : Thread nD τ).loc main_arg0) (ix4 b t h y) : EReal) = (Q b t h y : EReal))
  (hK : ∀ b t h y, (m ((c : Thread nD τ).loc main_arg1) (ix4 b t h y) : EReal) = (K b t h y : EReal))
  (hv : ∀ b t h y, (m ((c : Thread nD τ).loc main_arg2) (ix4 b t h y) : EReal) = v b t h y)
include hQ hK hv

/-- What a grid point writes: the attention of its heads. -/
theorem point_apply (g : Fin cfg0.N) (i : Fin 8) (r : Fin 256) (p e : Fin 2) (d : Fin 64) (h : Fin 8)
    (hh : h.val = 4 * (grid0.coords g 1).val + 2 * p.val + e.val) :
    (out0_4 (iblk m c 0 g) (iblk m c 1 g) (iblk m c 2 g) (iblk m c 3 g) (ix3 0 (place i r) (chan p e d)) : EReal) = attend Q K (batch g) h v i r d := by
  have hd : ∀ y : Fin 64, headOf (channel g (chan p e y)) = h := fun y => Fin.ext (by
    show ((grid0.coords g 1).val * 256 + (128 * p.val + 64 * e.val + y.val)) / 64 = h.val
    omega)
  have hy : ∀ y : Fin 64, inHead (channel g (chan p e y)) = y := fun y => Fin.ext (by
    show ((grid0.coords g 1).val * 256 + (128 * p.val + 64 * e.val + y.val)) % 64 = y.val
    omega)
  rw [out_at]
  refine tile_attend Q K v (batch g) h _ _ _ _ p e (fun y t => ?_) (fun y t => ?_) (fun y t => ?_) (fun y n => ?_) i r d
  · rw [block0, entry0, hd, hy, hQ]
  · rw [block1, entry1, hd, hy, hK]
  · rw [block2, entry2, hd, hy, hv]
  · rw [block3, entry3, hd, hy, bits_256, Ideal.div_coe (by norm_num), meanKey, EReal.coe_mul, coe_sum]
    congr 1
    refine Finset.sum_congr rfl fun z _ => ?_
    rw [← hK]
    exact congrArg (fun t => (m ((c : Thread nD τ).loc main_arg1) (ix4 (batch g) t h y) : EReal))
      (Fin.ext (by show n.val * 256 + z.val = 256 * n.val + z.val; omega))

/-- The kernel's array after the run. -/
theorem array_eq : (dats m 0 c).arrAt 4 cfg0.N = attended Q K v := by
  refine (dats m 0 c).arrAt_eq_of_covers 4 _ (by decide +kernel) fun t hf y => ?_
  obtain ⟨p0, p1, p2, p3, p4⟩ := places t
  have hy0 : (y 0).val < 1 := (y 0).isLt
  have hy1 : (y 1).val < 2048 := (y 1).isLt
  have hy2 : (y 2).val < 256 := (y 2).isLt
  have hc := (coords_lt t).2
  blk_simp
  rw [after0_4]
  have hy : y = ix3 0 (place (⟨(y 1).val / 256, by omega⟩ : Fin 8) (⟨(y 1).val % 256, by omega⟩ : Fin 256))
      (chan (⟨(y 2).val / 128, by omega⟩ : Fin 2) (⟨(y 2).val / 64 % 2, by omega⟩ : Fin 2) (⟨(y 2).val % 64, by omega⟩ : Fin 64)) := by
    funext a
    fin_cases a
    · exact Fin.ext (by show (y 0).val = 0; omega)
    · exact Fin.ext (by show (y 1).val = 256 * ((y 1).val / 256) + (y 1).val % 256; omega)
    · exact Fin.ext (by show (y 2).val = 128 * ((y 2).val / 128) + 64 * ((y 2).val / 64 % 2) + (y 2).val % 64; omega)
  refine (congrArg _ hy).trans ((point_apply Q K v m c hQ hK hv t _ _ _ _ _
    (⟨4 * (grid0.coords t 1).val + 2 * ((y 2).val / 128) + (y 2).val / 64 % 2, by omega⟩ : Fin 8) rfl).trans (attended_apply Q K v _ _ _ _ _ _ ?_ ?_ ?_).symm)
  · blk_simp [p4]
    rfl
  · blk_simp [p4]
    show (y 1).val = 256 * ((y 1).val / 256) + (y 1).val % 256
    omega
  · blk_simp [p4]
    show (grid0.coords t 1).val * 256 + (y 2).val = 64 * (4 * (grid0.coords t 1).val + 2 * ((y 2).val / 128) + (y 2).val / 64 % 2) + (y 2).val % 64
    omega

end

end Cert.Moba

end
-- ==== Proof.Moba.Stages.lean ====
/-
  The reference's stages, each an array of the arrays before it.
-/
module

public import proofs.«01_k».proof.Proof.Gen.ReferenceIdeal.Run
public import Idealize.ShloMosaic.PureOps.Ideal

@[expose] public section

noncomputable section

namespace Cert.Moba.Ref

open Cert.ReferenceIdeal Cert.ReferenceIdeal.Gen Idealize.ShloMosaic Idealize.ShloMosaic.TcCoe

variable (q k v : FVec Ideal S32x2048x8x64 .f32)

/-- The block of each place. -/
def blk : IVec S2048 32 := Host.divsi (iotaInDim S2048 32 0) (broadcastInDim S2048 ![] bcast_S_S2048 (constantI S_ 32 256#32))

/-- The mean key of each block. -/
def kmean : FVec Ideal S32x8x8x64 .f32 :=
  Host.divf (Host.reduceAdd (transpose S32x8x8x256x64 [0, 3, 1, 2, 4] (shapeCast S32x8x256x8x64 k shapeCasts_S32x2048x8x64_S32x8x256x8x64)
      transposes_S32x8x256x8x64_S32x8x8x256x64_0_3_1_2_4) (constant S_ .f32 0x00000000#32) reducesTo_S32x8x8x256x64_S32x8x8x64_d3 h_S_)
    (broadcastInDim S32x8x8x64 ![] bcast_S_S32x8x8x64 (constant S_ .f32 0x43800000#32))

/-- Whether a block lies before a place's own. -/
def before : IVec S32x2048x8x8 1 :=
  broadcastInDim S32x2048x8x8 ![0, 1, 2, 3] bcast_S1x2048x1x8_S32x2048x8x8_0_1_2_3 (broadcastInDim S1x2048x1x8 ![1, 3] bcast_S2048x8_S1x2048x1x8_1_3
    (cmpi .slt (broadcastInDim S2048x8 ![0, 1] bcast_S1x8_S2048x8_0_1 (broadcastInDim S1x8 ![1] bcast_S8_S1x8_1 (iotaInDim S8 32 0)))
      (broadcastInDim S2048x8 ![0, 1] bcast_S2048x1_S2048x8_0_1 (broadcastInDim S2048x1 ![0] bcast_S2048_S2048x1_0 blk))))

/-- The gates: a query against the mean keys, minus infinity at the blocks not before its own. -/
def gate : FVec Ideal S32x2048x8x8 .f32 :=
  select before (transpose S32x2048x8x8 [0, 3, 1, 2] (Host.dotGeneral dot_S32x8x8x64_S32x2048x8x64_S32x8x8x2048_3_3_2_1_01_02 none (kmean k) q)
      transposes_S32x8x8x2048_S32x2048x8x8_0_3_1_2)
    (broadcastInDim S32x2048x8x8 ![] bcast_S_S32x2048x8x8 (id (constant S_ .f32 0xFF800000#32)))

/-- The three blocks with the greatest gates. -/
def sel : IVec S32x2048x8x3 32 :=
  (Host.topK S32x2048x8x3 3 (FloatOps.cmpfTotal .gt) (gate q k) sliceFits_S32x2048x8x8_S32x2048x8x3).2

/-- Whether such a block lies before the query's own. -/
def valid : IVec S32x2048x8x3 1 :=
  cmpi .slt (sel q k) (broadcastInDim S32x2048x8x3 ![0, 1, 2, 3] bcast_S1x2048x1x1_S32x2048x8x3_0_1_2_3
    (broadcastInDim S1x2048x1x1 ![1] bcast_S2048_S1x2048x1x1_1 blk))

/-- Whether a key's block is the query's choice of the given rank. -/
def hit : IVec S32x2048x8x2048x3 1 :=
  andi (cmpi .eq (broadcastInDim S32x2048x8x2048x3 ![0, 1, 2, 3, 4] bcast_S32x2048x8x1x3_S32x2048x8x2048x3_0_1_2_3_4
        (broadcastInDim S32x2048x8x1x3 ![0, 1, 2, 4] bcast_S32x2048x8x3_S32x2048x8x1x3_0_1_2_4 (sel q k)))
      (broadcastInDim S32x2048x8x2048x3 ![0, 1, 2, 3, 4] bcast_S1x1x1x2048x1_S32x2048x8x2048x3_0_1_2_3_4
        (broadcastInDim S1x1x1x2048x1 ![3] bcast_S2048_S1x1x1x2048x1_3 blk)))
    (broadcastInDim S32x2048x8x2048x3 ![0, 1, 2, 3, 4] bcast_S32x2048x8x1x3_S32x2048x8x2048x3_0_1_2_3_4
      (broadcastInDim S32x2048x8x1x3 ![0, 1, 2, 4] bcast_S32x2048x8x3_S32x2048x8x1x3_0_1_2_4 (valid q k)))

/-- Whether a key's block is one of the query's choices. -/
def picked : IVec S32x2048x8x2048 1 :=
  Host.reduce IntOp.ori (hit q k) (constantI S_ 1 0#1) reducesTo_S32x2048x8x2048x3_S32x2048x8x2048_d4 h_S_

/-- Whether a key is in the query's own block and not after it. -/
def near : IVec S32x2048x8x2048 1 :=
  broadcastInDim S32x2048x8x2048 ![0, 1, 2, 3] bcast_S1x2048x1x2048_S32x2048x8x2048_0_1_2_3
    (broadcastInDim S1x2048x1x2048 ![1, 3] bcast_S2048x2048_S1x2048x1x2048_1_3 (andi
      (cmpi .eq (broadcastInDim S2048x2048 ![0, 1] bcast_S1x2048_S2048x2048_0_1 (broadcastInDim S1x2048 ![1] bcast_S2048_S1x2048_1 blk))
        (broadcastInDim S2048x2048 ![0, 1] bcast_S2048x1_S2048x2048_0_1 (broadcastInDim S2048x1 ![0] bcast_S2048_S2048x1_0 blk)))
      (cmpi .sle (broadcastInDim S2048x2048 ![0, 1] bcast_S1x2048_S2048x2048_0_1 (broadcastInDim S1x2048 ![1] bcast_S2048_S1x2048_1 (iotaInDim S2048 32 0)))
        (broadcastInDim S2048x2048 ![0, 1] bcast_S2048x1_S2048x2048_0_1 (broadcastInDim S2048x1 ![0] bcast_S2048_S2048x1_0 (iotaInDim S2048 32 0))))))

/-- The products of keys and scaled queries. -/
def prod : FVec Ideal S32x2048x8x2048 .f32 :=
  transpose S32x2048x8x2048 [0, 3, 1, 2] (Host.dotGeneral dot_S32x2048x8x64_S32x2048x8x64_S32x8x2048x2048_3_3_1_1_02_02 none k
    (mulf q (broadcastInDim S32x2048x8x64 ![] bcast_S_S32x2048x8x64 (constant S_ .f32 0x3E000000#32)))) transposes_S32x8x2048x2048_S32x2048x8x2048_0_3_1_2

/-- The scores: minus infinity at the keys that a query does not see. -/
def score : FVec Ideal S32x2048x8x2048 .f32 :=
  select (ori (picked q k) near) (prod q k) (broadcastInDim S32x2048x8x2048 ![] bcast_S_S32x2048x8x2048 (id (constant S_ .f32 0xFF800000#32)))

/-- The largest score of each query. -/
def largest (s : FVec Ideal S32x2048x8x2048 .f32) : FVec Ideal S32x2048x8 .f32 :=
  maximumf (broadcastInDim S32x2048x8 ![] bcast_S_S32x2048x8 (constant S_ .f32 0xFF800000#32))
    (Host.reduce FloatOps.maximumf s (constant S_ .f32 0xFF800000#32) reducesTo_S32x2048x8x2048_S32x2048x8_d3 h_S_)

/-- The exponentials of the scores relative to the largest. -/
def exps (s : FVec Ideal S32x2048x8x2048 .f32) : FVec Ideal S32x2048x8x2048 .f32 :=
  Host.exp (subf s (broadcastInDim S32x2048x8x2048 ![0, 1, 2, 3] bcast_S32x2048x8x1_S32x2048x8x2048_0_1_2_3
    (broadcastInDim S32x2048x8x1 ![0, 1, 2] bcast_S32x2048x8_S32x2048x8x1_0_1_2 (largest s))))

/-- The attention weights. -/
def probs (x : FVec Ideal S32x2048x8x2048 .f32) : FVec Ideal S32x2048x8x2048 .f32 :=
  Host.divf x (broadcastInDim S32x2048x8x2048 ![0, 1, 2, 3] bcast_S32x2048x8x1_S32x2048x8x2048_0_1_2_3
    (broadcastInDim S32x2048x8x1 ![0, 1, 2] bcast_S32x2048x8_S32x2048x8x1_0_1_2
      (Host.reduceAdd x (constant S_ .f32 0x00000000#32) reducesTo_S32x2048x8x2048_S32x2048x8_d3 h_S_)))

/-- The weighted values. -/
def out (w : FVec Ideal S32x2048x8x2048 .f32) : FVec Ideal S32x2048x512 .bf16 :=
  truncf .bf16 (shapeCast S32x2048x512 (transpose S32x2048x8x64 [0, 3, 1, 2]
    (Host.dotGeneral dot_S32x2048x8x64_S32x2048x8x2048_S32x8x64x2048_1_3_3_1_02_02 none v w) transposes_S32x8x64x2048_S32x2048x8x64_0_3_1_2)
    shapeCasts_S32x2048x8x64_S32x2048x512) bitsLt_bf16_f32

set_option maxRecDepth 16384 in
/-- The reference's result is the last stage. -/
theorem res_eq (m : (ℓ : Loc nD τ sig) → Buf (Elt Ideal) ℓ) (c : Dev nD) : Value.res_out0 (F := Ideal) m c
    = out (m ((c.tc : Thread nD τ).loc main_arg2))
        (probs (exps (score (m ((c.tc : Thread nD τ).loc main_arg0)) (m ((c.tc : Thread nD τ).loc main_arg1))))) := rfl

end Cert.Moba.Ref

end
-- ==== Proof.Moba.RefSeen.lean ====
/-
  Which keys a query of the reference sees.
-/
module

public import proofs.«01_k».proof.Proof.Moba.Stages
public import proofs.«01_k».proof.Proof.Moba.Attend
public import Idealize.ShloMosaic.Lib.Pointwise
public import Idealize.ShloMosaic.Lib.Routing.OpsOrder

@[expose] public section

set_option maxRecDepth 16384

noncomputable section

namespace Cert.Moba.Ref

open Cert.ReferenceIdeal Cert.ReferenceIdeal.Gen Idealize.ShloMosaic Idealize.ShloMosaic.TcCoe

variable (q k v : FVec Ideal S32x2048x8x64 .f32)

/-! ## Which keys are seen -/

/-- The block of a place. -/
theorem blk_apply (i : Fin 8) (c : Fin 256) : blk (ix1 (place i c)) = BitVec.ofNat 32 i.val := by
  have h : ∀ t : Fin 2048, blk (ix1 t) = IntOp.divsi .host (BitVec.ofNat 32 t.val) 256#32 := fun t => by pointwise [blk]
  have hd : ∀ t : Fin 2048, IntOp.divsi .host (BitVec.ofNat 32 t.val) 256#32 = BitVec.ofNat 32 (t.val / 256) := by decide +kernel
  rw [h, hd]
  exact congrArg _ (show (256 * i.val + c.val) / 256 = i.val by omega)

/-- Two small numbers are equal words exactly when they are equal. -/
theorem cmpi_eq_small (a b : Nat) (ha : a < 2048) (hb : b < 2048) :
    IntOp.cmpi .eq (BitVec.ofNat 32 a) (BitVec.ofNat 32 b) = BitVec.ofBool (decide (a = b)) := by
  show BitVec.ofBool (BitVec.ofNat 32 a == BitVec.ofNat 32 b) = _
  congr 1
  rw [Bool.eq_iff_iff, beq_iff_eq, decide_eq_true_iff]
  constructor
  · intro h
    have h := congrArg BitVec.toNat h
    rw [BitVec.toNat_ofNat, BitVec.toNat_ofNat, Nat.mod_eq_of_lt (by omega), Nat.mod_eq_of_lt (by omega)] at h
    exact h
  · intro h; rw [h]

/-- A block is before a place's own when its number is less. -/
theorem before_apply (b : Fin 32) (i : Fin 8) (c : Fin 256) (h n : Fin 8) :
    before (ix4 b (place i c) h n) = BitVec.ofBool (decide (n.val < i.val)) := by
  have e : before (ix4 b (place i c) h n) = IntOp.cmpi .slt (BitVec.ofNat 32 n.val) (blk (ix1 (place i c))) := by pointwise [before]
  rw [e, blk_apply, cmpi_slt_small _ _ (by omega) (by omega)]

/-- A key is near when it is in the own block and not after the query. -/
theorem near_apply (b : Fin 32) (i : Fin 8) (c : Fin 256) (h : Fin 8) (j : Fin 8) (x : Fin 256) :
    near (ix4 b (place i c) h (place j x)) = BitVec.ofBool (decide (j = i ∧ x.val ≤ c.val)) := by
  have e : near (ix4 b (place i c) h (place j x)) = IntOp.andi (IntOp.cmpi .eq (blk (ix1 (place j x))) (blk (ix1 (place i c))))
      (IntOp.cmpi .sle (BitVec.ofNat 32 (place j x).val) (BitVec.ofNat 32 (place i c).val)) := by pointwise [near]
  have hb : ∀ a b : Bool, IntOp.andi (BitVec.ofBool a) (BitVec.ofBool b) = BitVec.ofBool (a && b) := by decide
  rw [e, blk_apply, blk_apply, cmpi_eq_small _ _ (by omega) (by omega), cmpi_sle_small _ _ (place j x).isLt (place i c).isLt, hb]
  congr 1
  rw [Bool.eq_iff_iff, Bool.and_eq_true, decide_eq_true_iff, decide_eq_true_iff, decide_eq_true_iff]
  show j.val = i.val ∧ 256 * j.val + x.val ≤ 256 * i.val + c.val ↔ _
  rw [Fin.ext_iff]
  omega

/-- The positions of the first three places of a row sorted. -/
theorem topK_apply (gt : EReal → EReal → BitVec 1) (G : S32x2048x8x8.Idx → EReal) (b : Fin 32) (t : Fin 2048) (h : Fin 8) (r : Fin 3) :
    (Host.topK S32x2048x8x3 3 gt G sliceFits_S32x2048x8x8_S32x2048x8x3).2 (ix4 b t h r)
      = BitVec.ofNat 32 (sortedFrom (fun y y' : Fin 8 => gt (G (ix4 b t h y)) (G (ix4 b t h y')) == 1#1) (⟨r.val, by omega⟩ : Fin 8)).val := by
  have hal : ∀ u y : Fin 8, (ix4 b t h u : S32x2048x8x8.Idx).along 3 y = ix4 b t h y := fun u y => by
    funext a
    fin_cases a <;> rfl
  have hj : ∀ y : S32x2048x8x8.Idx → BitVec 32, extractStridedSlice S32x2048x8x3 (fun _ => 0) y sliceFits_S32x2048x8x8_S32x2048x8x3 (ix4 b t h r)
      = y (ix4 b t h (⟨r.val, by omega⟩ : Fin 8)) := fun y => by
    refine congrArg y ?_
    funext a
    fin_cases a <;> exact Fin.ext (Nat.zero_add _)
  unfold Host.topK Host.sort2
  dsimp only
  rw [hj, dif_pos (show 3 < S32x2048x8x8.rank by decide)]
  have hfun : (fun y y' : Fin 8 => gt (G ((ix4 b t h (⟨r.val, by omega⟩ : Fin 8) : S32x2048x8x8.Idx).along 3 y)) (G ((ix4 b t h (⟨r.val, by omega⟩ : Fin 8) : S32x2048x8x8.Idx).along 3 y')) == 1#1)
      = fun y y' : Fin 8 => gt (G (ix4 b t h y)) (G (ix4 b t h y')) == 1#1 := by
    funext y y'
    rw [hal, hal]
  rw [← hfun]
  rfl

/-- The chosen blocks are the first places of the gates sorted. -/
theorem sel_apply (b : Fin 32) (t : Fin 2048) (h : Fin 8) (r : Fin 3) (g : Fin 8 → EReal) (hg : ∀ y, (gate q k (ix4 b t h y) : EReal) = g y) :
    sel q k (ix4 b t h r) = BitVec.ofNat 32 (sortedFrom (fun y y' : Fin 8 => decide (g y' < g y)) (⟨r.val, by omega⟩ : Fin 8)).val := by
  unfold sel
  refine (topK_apply (FloatOps.cmpfTotal (F := Ideal) (φ := .f32) .gt) _ b t h r).trans ?_
  congr 3
  funext y y'
  rw [hg, hg]
  show (BitVec.ofBool (decide _) == 1#1) = decide _
  by_cases hl : g y' < g y
  · rw [decide_eq_true hl]; rfl
  · rw [decide_eq_false hl]; rfl

/-- A place among the first three holds a number below a bound exactly as fewer than three lie ahead of it. -/
theorem among_first (g : Fin 8 → EReal) (i j : Fin 8) :
    (∃ r : Fin 3, (sortedFrom (fun y y' : Fin 8 => decide (g y' < g y)) (⟨r.val, by omega⟩ : Fin 8)) = j ∧ j.val < i.val)
      ↔ j.val < i.val ∧ (Finset.univ.filter fun y => Ahead g y j).card < 3 := by
  rw [← exists_position_iff]
  constructor
  · rintro ⟨r, h1, h2⟩
    exact ⟨h2, ⟨r.val, by omega⟩, r.isLt, h1⟩
  · rintro ⟨h2, p, hp, h1⟩
    exact ⟨⟨p.val, hp⟩, h1, h2⟩

open Classical in
/-- A key is picked when its block is before the query's and has fewer than three ahead of it. -/
theorem picked_apply (b : Fin 32) (i : Fin 8) (c : Fin 256) (h : Fin 8) (j : Fin 8) (x : Fin 256) (g : Fin 8 → EReal)
    (hg : ∀ y, (gate q k (ix4 b (place i c) h y) : EReal) = g y) :
    picked q k (ix4 b (place i c) h (place j x)) = BitVec.ofBool (decide (j.val < i.val ∧ (Finset.univ.filter fun y => Ahead g y j).card < 3)) := by
  have e : picked q k (ix4 b (place i c) h (place j x))
      = Finset.fold IntOp.ori (0#1) (fun r : Fin 3 => hit q k (ix5 b (place i c) h (place j x) r)) Finset.univ := by pointwise [picked]
  have hh : ∀ r : Fin 3, hit q k (ix5 b (place i c) h (place j x) r) = IntOp.andi (IntOp.cmpi .eq (sel q k (ix4 b (place i c) h r)) (blk (ix1 (place j x))))
      (IntOp.cmpi .slt (sel q k (ix4 b (place i c) h r)) (blk (ix1 (place i c)))) := fun r => by pointwise [hit, valid]
  have hb : ∀ a b : Bool, IntOp.andi (BitVec.ofBool a) (BitVec.ofBool b) = 1#1 ↔ a = true ∧ b = true := by decide
  have hit1 : ∀ r : Fin 3, hit q k (ix5 b (place i c) h (place j x) r) = 1#1
      ↔ (sortedFrom (fun y y' : Fin 8 => decide (g y' < g y)) (⟨r.val, by omega⟩ : Fin 8)) = j ∧ j.val < i.val := fun r => by
    rw [hh, sel_apply q k b _ h r g hg, blk_apply, blk_apply]
    generalize sortedFrom (fun y y' : Fin 8 => decide (g y' < g y)) (⟨r.val, by omega⟩ : Fin 8) = z
    rw [cmpi_eq_small _ _ (by omega) (by omega), cmpi_slt_small _ _ (by omega) (by omega), hb,
      decide_eq_true_iff, decide_eq_true_iff, Fin.ext_iff]
    constructor
    · rintro ⟨h1, h2⟩; exact ⟨h1, h1 ▸ h2⟩
    · rintro ⟨h1, h2⟩; exact ⟨h1, h1.symm ▸ h2⟩
  have hp : picked q k (ix4 b (place i c) h (place j x)) = 1#1 ↔ (j.val < i.val ∧ (Finset.univ.filter fun y => Ahead g y j).card < 3) := by
    rw [e, Routing.fold_ori, ← among_first]
    exact ⟨fun ⟨r, _, hr⟩ => ⟨r, (hit1 r).mp hr⟩, fun ⟨r, hr⟩ => ⟨r, Finset.mem_univ _, (hit1 r).mpr hr⟩⟩
  rcases BitVec.eq_zero_or_eq_one (picked q k (ix4 b (place i c) h (place j x))) with h0 | h1
  · rw [h0, decide_eq_false]; · rfl
    intro hc
    have := hp.mpr hc
    rw [h0] at this
    exact absurd this (by decide)
  · rw [h1, decide_eq_true (hp.mp h1)]; rfl

end Cert.Moba.Ref

end
-- ==== Proof.Moba.RefScore.lean ====
/-
  The reference's scores.
-/
module

public import proofs.«01_k».proof.Proof.Moba.RefSeen

@[expose] public section

set_option maxRecDepth 16384

noncomputable section

namespace Cert.Moba.Ref

open Cert.ReferenceIdeal Cert.ReferenceIdeal.Gen Idealize.ShloMosaic Idealize.ShloMosaic.TcCoe

variable (q k : FVec Ideal S32x2048x8x64 .f32)

/-! ## The values -/

section
variable (Q K : Fin 32 → Fin 2048 → Fin 8 → Fin 64 → ℝ)
  (hQ : ∀ b t h y, (q (ix4 b t h y) : EReal) = (Q b t h y : EReal)) (hK : ∀ b t h y, (k (ix4 b t h y) : EReal) = (K b t h y : EReal))
include hK

/-- The mean key is the mean of reals. -/
theorem kmean_apply (b : Fin 32) (h n : Fin 8) (y : Fin 64) : (kmean k (ix4 b h n y) : EReal) = (meanKey K b h n y : EReal) := by
  have e : (kmean k (ix4 b h n y) : EReal)
      = Ideal.div (∑ x : Fin 256, k (ix4 b (⟨n.val * 256 + x.val, by omega⟩ : Fin 2048) h y)) (Ideal.ofBits .f32 0x43800000#32) := by
    pointwise [kmean]
  rw [e, bits_256, Ideal.div_coe (by norm_num), meanKey, EReal.coe_mul, coe_sum]
  congr 1
  refine Finset.sum_congr rfl fun x _ => ?_
  rw [← hK]
  exact congrArg (fun t => (k (ix4 b t h y) : EReal)) (Fin.ext (by show n.val * 256 + x.val = 256 * n.val + x.val; omega))

include hQ

/-- The gates are the real gates of the earlier blocks. -/
theorem gate_apply (b : Fin 32) (i : Fin 8) (c : Fin 256) (h n : Fin 8) :
    (gate q k (ix4 b (place i c) h n) : EReal) = pastGates Q K b h (place i c) i n := by
  have e : (gate q k (ix4 b (place i c) h n) : EReal) = Scalar.select (before (ix4 b (place i c) h n))
      (∑ y : Fin 64, (kmean k (ix4 b h n y) : EReal) * q (ix4 b (place i c) h y)) (Ideal.ofBits .f32 0xFF800000#32) := by
    pointwise [gate]
    rfl
  rw [e, before_apply, select_ofBool, bits_neg_inf, pastGates]
  congr 1
  rw [gates, coe_sum]
  exact Finset.sum_congr rfl fun y _ => by rw [kmean_apply k K hK, hQ, EReal.coe_mul]

/-- The product of a key and the scaled query. -/
theorem prod_apply (b : Fin 32) (t : Fin 2048) (h : Fin 8) (t' : Fin 2048) :
    (prod q k (ix4 b t h t') : EReal) = ((dots Q K b h t t' * 8⁻¹ : ℝ) : EReal) := by
  have e : (prod q k (ix4 b t h t') : EReal)
      = ∑ y : Fin 64, (k (ix4 b t' h y) : EReal) * (q (ix4 b t h y) * Ideal.ofBits .f32 0x3E000000#32) := by
    pointwise [prod]
  rw [e, bits_eighth, dots, Finset.sum_mul, coe_sum]
  exact Finset.sum_congr rfl fun y _ => by rw [hQ, hK, ← EReal.coe_mul, ← EReal.coe_mul, mul_assoc]

open Classical in
/-- A score: the scaled product where the key is seen, minus infinity elsewhere. -/
theorem score_apply (b : Fin 32) (i : Fin 8) (c : Fin 256) (h : Fin 8) (j : Fin 8) (x : Fin 256) :
    (score q k (ix4 b (place i c) h (place j x)) : EReal)
      = if Seen i c (pastGates Q K b h (place i c) i) j x then ((dots Q K b h (place i c) (place j x) * 8⁻¹ : ℝ) : EReal) else ⊥ := by
  have e : (score q k (ix4 b (place i c) h (place j x)) : EReal) = Scalar.select
      (IntOp.ori (picked q k (ix4 b (place i c) h (place j x))) (near (ix4 b (place i c) h (place j x))))
      (prod q k (ix4 b (place i c) h (place j x)) : EReal) (Ideal.ofBits .f32 0xFF800000#32) := by
    pointwise [score]
    rfl
  have hb : ∀ a b : Bool, IntOp.ori (BitVec.ofBool a) (BitVec.ofBool b) = BitVec.ofBool (b || a) := by decide
  rw [e, picked_apply q k b i c h j x _ (gate_apply q k Q K hQ hK b i c h), near_apply, hb, bits_neg_inf, prod_apply q k Q K hQ hK,
    ← Bool.decide_or, select_ofBool]
  by_cases hs : Seen i c (pastGates Q K b h (place i c) i) j x
  · have hs' := hs
    unfold Seen at hs'
    rw [if_pos hs, if_pos hs']
  · have hs' := hs
    unfold Seen at hs'
    rw [if_neg hs, if_neg hs']

end

end Cert.Moba.Ref

end
-- ==== Proof.Moba.RefMax.lean ====
/-
  The reference's reduction along the keys.
-/
module

public import proofs.«01_k».proof.Proof.Moba.Stages
public import proofs.«01_k».proof.Proof.Moba.Consts
public import Idealize.ShloMosaic.Lib.Pointwise

@[expose] public section

set_option maxRecDepth 16384

noncomputable section

namespace Cert.Moba.Ref

open Cert.ReferenceIdeal Cert.ReferenceIdeal.Gen Idealize.ShloMosaic Idealize.ShloMosaic.TcCoe

/-- A reduction along the last axis. -/
theorem fold_last {α : Type} (op : α → α → α) [Std.Commutative op] [Std.Associative op] (s : S32x2048x8x2048.Idx → α) (init : S_.Idx → α)
    (b : Fin 32) (t : Fin 2048) (h : Fin 8) :
    Host.reduce op s init reducesTo_S32x2048x8x2048_S32x2048x8_d3 h_S_ (ix3 b t h)
      = Finset.fold op (init (Shape.Idx.first h_S_)) (fun x : Fin 2048 => s (ix4 b t h x)) Finset.univ := by
  pointwise []

/-- The largest score of a query. -/
theorem largest_apply (s : FVec Ideal S32x2048x8x2048 .f32) (b : Fin 32) (t : Fin 2048) (h : Fin 8) :
    (largest s (ix3 b t h) : EReal) = Finset.fold max ⊥ (fun x : Fin 2048 => (s (ix4 b t h x) : EReal)) Finset.univ := by
  have e : ∀ y : FVec Ideal S32x2048x8 .f32, (maximumf (broadcastInDim S32x2048x8 ![] bcast_S_S32x2048x8 (constant S_ .f32 0xFF800000#32)) y (ix3 b t h) : EReal)
      = max (Ideal.ofBits .f32 0xFF800000#32) (y (ix3 b t h)) := fun y => by pointwise []
  unfold largest
  rw [e, bits_neg_inf, max_eq_right bot_le]
  refine (fold_last (α := EReal) max s _ b t h).trans ?_
  rw [← bits_neg_inf]
  rfl

end Cert.Moba.Ref

end
-- ==== Proof.Moba.Reference.lean ====
/-
  The reference's result: the attention of each head.
-/
module

public import proofs.«01_k».proof.Proof.Moba.RefScore
public import proofs.«01_k».proof.Proof.Moba.RefMax
public import proofs.«01_k».proof.Proof.Moba.Sums

@[expose] public section

set_option maxRecDepth 16384

noncomputable section

namespace Cert.Moba.Ref

open Cert.ReferenceIdeal Cert.ReferenceIdeal.Gen Idealize.ShloMosaic Idealize.ShloMosaic.TcCoe

variable (q k v : FVec Ideal S32x2048x8x64 .f32)

/-- The power of two of the scaled product is the exponential of an eighth of the product. -/
theorem two_pow_scale (x : ℝ) : (2 : ℝ) ^ (x * scale) = Real.exp (x * 8⁻¹) := by
  rw [Real.rpow_def_of_pos (by norm_num), scale]
  congr 1
  have : Real.log 2 ≠ 0 := (Real.log_pos (by norm_num)).ne'
  field_simp

/-- An exponential: of the score less the largest. -/
theorem exps_at (s : FVec Ideal S32x2048x8x2048 .f32) (b : Fin 32) (t : Fin 2048) (h : Fin 8) (t' : Fin 2048) :
    (exps s (ix4 b t h t') : EReal) = Ideal.exp (s (ix4 b t h t') - largest s (ix3 b t h)) := by
  pointwise [exps]

/-- An attention weight: over the sum of its query's. -/
theorem probs_at (s : FVec Ideal S32x2048x8x2048 .f32) (b : Fin 32) (t : Fin 2048) (h : Fin 8) (t' : Fin 2048) :
    (probs s (ix4 b t h t') : EReal) = Ideal.div (s (ix4 b t h t')) (∑ x : Fin 2048, s (ix4 b t h x)) := by
  pointwise [probs]

/-- The values under given weights. -/
theorem out_at (w : FVec Ideal S32x2048x8x2048 .f32) (b : Fin 32) (t : Fin 2048) (y : Fin 512) : (out v w (ix3 b t y) : EReal)
    = ∑ t' : Fin 2048, (v (ix4 b t' (⟨y.val / 64, by omega⟩ : Fin 8) (⟨y.val % 64, by omega⟩ : Fin 64)) : EReal)
      * w (ix4 b t (⟨y.val / 64, by omega⟩ : Fin 8) t') := by
  pointwise [out]

section
variable (Q K : Fin 32 → Fin 2048 → Fin 8 → Fin 64 → ℝ)
  (hQ : ∀ b t h y, (q (ix4 b t h y) : EReal) = (Q b t h y : EReal)) (hK : ∀ b t h y, (k (ix4 b t h y) : EReal) = (K b t h y : EReal))
include hQ hK

/-- The exponentials of a query's scores are its weights, all times one positive factor. -/
theorem exps_apply (b : Fin 32) (i : Fin 8) (c : Fin 256) (h : Fin 8) : ∃ μ : ℝ, 0 < μ ∧ ∀ j x,
    (exps (score q k) (ix4 b (place i c) h (place j x)) : EReal) = (weights Q K b h i c j x : EReal) * (μ : EReal) := by
  have hplace : ∀ t : Fin 2048, ∃ j x, t = place j x := fun t =>
    ⟨⟨t.val / 256, by omega⟩, ⟨t.val % 256, by omega⟩, Fin.ext (by show t.val = 256 * (t.val / 256) + t.val % 256; omega)⟩
  obtain ⟨M, hM⟩ := fold_max_coe Finset.univ (fun t : Fin 2048 => (score q k (ix4 b (place i c) h t) : EReal))
    (fun t _ => by
      obtain ⟨j, x, rfl⟩ := hplace t
      show (score q k (ix4 b (place i c) h (place j x)) : EReal) ≠ ⊤
      rw [score_apply q k Q K hQ hK]
      split
      · exact EReal.coe_ne_top _
      · exact bot_ne_top)
    (place i c) (Finset.mem_univ _) (by
      show (score q k (ix4 b (place i c) h (place i c)) : EReal) ≠ ⊥
      rw [score_apply q k Q K hQ hK, if_pos (show Seen _ _ _ _ _ from Or.inl ⟨rfl, le_refl _⟩)]
      exact EReal.coe_ne_bot _)
  refine ⟨Real.exp (-M), Real.exp_pos _, fun j x => ?_⟩
  rw [exps_at, largest_apply, hM, score_apply q k Q K hQ hK]
  by_cases hs : Seen i c (pastGates Q K b h (place i c) i) j x
  · rw [if_pos hs, weights, weight_seen _ _ _ _ _ _ hs, two_pow_scale, ← EReal.coe_sub, Ideal.exp_coe, ← EReal.coe_mul, ← Real.exp_add,
      sub_eq_add_neg]
  · rw [if_neg hs, weights, weight_unseen _ _ _ _ _ _ hs, EReal.bot_sub, Ideal.exp_bot, EReal.coe_zero, zero_mul]

/-- The attention weights are the weights over their sum. -/
theorem probs_apply (b : Fin 32) (i : Fin 8) (c : Fin 256) (h : Fin 8) (j : Fin 8) (x : Fin 256) :
    (probs (exps (score q k)) (ix4 b (place i c) h (place j x)) : EReal)
      = (weights Q K b h i c j x : EReal) * ((1 / ∑ j : Fin 8, ∑ x : Fin 256, weights Q K b h i c j x : ℝ) : EReal) := by
  obtain ⟨μ, hμ, he⟩ := exps_apply q k Q K hQ hK b i c h
  have hs : (∑ t : Fin 2048, (exps (score q k) (ix4 b (place i c) h t) : EReal))
      = ((∑ j : Fin 8, ∑ x : Fin 256, weights Q K b h i c j x : ℝ) : EReal) * (μ : EReal) := by
    rw [sum_blocks, coe_sum, sum_mul_coe _ _ _ hμ.le]
    refine Finset.sum_congr rfl fun j _ => ?_
    rw [coe_sum, sum_mul_coe _ _ _ hμ.le]
    exact Finset.sum_congr rfl fun x _ => he j x
  rw [probs_at, hs, he]
  exact div_mul_coe _ _ _ (weights_pos Q K b h i c) hμ

/-- The reference's result: the attention of each head. -/
theorem out_apply (b : Fin 32) (i : Fin 8) (c : Fin 256) (h : Fin 8) (d : Fin 64) :
    (out v (probs (exps (score q k))) (ix3 b (place i c) (⟨64 * h.val + d.val, by omega⟩ : Fin 512)) : EReal)
      = attend Q K b h (fun b t h d => v (ix4 b t h d)) i c d := by
  have h1 : (⟨(64 * h.val + d.val) / 64, by omega⟩ : Fin 8) = h := Fin.ext (by show (64 * h.val + d.val) / 64 = h.val; omega)
  have h2 : (⟨(64 * h.val + d.val) % 64, by omega⟩ : Fin 64) = d := Fin.ext (by show (64 * h.val + d.val) % 64 = d.val; omega)
  have hW : (0 : ℝ) ≤ 1 / ∑ j : Fin 8, ∑ x : Fin 256, weights Q K b h i c j x := (one_div_pos.mpr (weights_pos Q K b h i c)).le
  rw [out_at, h1, h2, sum_blocks, attend, sum_mul_coe _ _ _ hW]
  refine Finset.sum_congr rfl fun j _ => ?_
  rw [sum_mul_coe _ _ _ hW]
  refine Finset.sum_congr rfl fun x _ => ?_
  exact (congrArg _ (probs_apply q k Q K hQ hK b i c h j x)).trans (mul_assoc _ _ _).symm

end

end Cert.Moba.Ref

end
-- ==== Proof.Moba.Equation.lean ====
/-
  The attention's two programs agree: both hold each head's attention.
-/
module

public import proofs.«01_k».proof.Defs
public import proofs.«01_k».proof.Proof.Moba.Array
public import proofs.«01_k».proof.Proof.Moba.Reference
public import Idealize.ShloMosaic.Lib.ReduceAll

@[expose] public section

set_option maxRecDepth 16384

noncomputable section

namespace Cert.Moba

open Idealize.ShloMosaic Idealize.ShloMosaic.TcCoe

/-- The side conditions the precondition states. -/
theorem preFacts : Cert.Pre_finite_q_k.Facts where
  bcast_S_S32x2048x8x64 := by decide
  reducesTo_S32x2048x8x64_S_d0_1_2_3 := by decide
  h_S_ := by decide

/-- A number whose absolute value is below infinity is real. -/
theorem real_of_abs (x : EReal) (h : FloatOps.cmpf (F := Ideal) (φ := .f32) .olt (max x (-x)) (Ideal.ofBits .f32 0x7F800000#32) = 1#1) :
    x = (x.toReal : EReal) := by
  rw [bits_inf] at h
  have hl : max x (-x) < (⊤ : EReal) := by
    by_contra hc
    have : FloatOps.cmpf (F := Ideal) (φ := .f32) .olt (max x (-x)) (⊤ : EReal) = BitVec.ofBool (decide (max x (-x) < (⊤ : EReal))) := rfl
    rw [this, decide_eq_false hc] at h
    exact absurd h (by decide)
  refine (EReal.coe_toReal (ne_of_lt ((le_max_left _ _).trans_lt hl)) ?_).symm
  intro hb
  rw [hb, EReal.neg_bot] at hl
  exact absurd ((le_max_right _ _).trans_lt hl) (lt_irrefl _)

open Cert.Pre_finite_q_k in
/-- Under the precondition the queries and keys are real. -/
theorem real_of_pre [Cert.Pre_finite_q_k.Facts] (q k v : FVec Ideal S32x2048x8x64 .f32) (h : Cert.Pre_finite_q_k.fn q k v = fun _ => 1#1) :
    (∀ i, (q i : EReal) = ((q i : EReal).toReal : EReal)) ∧ ∀ i, (k i : EReal) = ((k i : EReal).toReal : EReal) := by
  dsimp only [Cert.Pre_finite_q_k.fn] at h
  have h0 := congrFun h (Shape.Idx.first Facts.h_S_)
  have hand : ∀ a b : BitVec 1, IntOp.andi a b = 1#1 → a = 1#1 ∧ b = 1#1 := by decide
  obtain ⟨ha, hb⟩ := hand _ _ h0
  haveI : Subsingleton S_.Idx := ⟨fun a b => funext fun i => i.elim0⟩
  exact ⟨fun i => real_of_abs _ (Host.reduce_andi_all _ _ _ _ _ ha i), fun i => real_of_abs _ (Host.reduce_andi_all _ _ _ _ _ hb i)⟩

section
variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)

/-- The reference's result, of real queries and keys. -/
theorem reference_eq (Q K : Fin 32 → Fin 2048 → Fin 8 → Fin 64 → ℝ) (v : Fin 32 → Fin 2048 → Fin 8 → Fin 64 → EReal)
    (hQ : ∀ b t h y, (m' ((c.tc : Thread Cert.ReferenceIdeal.nD Cert.ReferenceIdeal.τ).loc Cert.ReferenceIdeal.main_arg0) (ix4 b t h y) : EReal) = (Q b t h y : EReal))
    (hK : ∀ b t h y, (m' ((c.tc : Thread Cert.ReferenceIdeal.nD Cert.ReferenceIdeal.τ).loc Cert.ReferenceIdeal.main_arg1) (ix4 b t h y) : EReal) = (K b t h y : EReal))
    (hv : ∀ b t h y, (m' ((c.tc : Thread Cert.ReferenceIdeal.nD Cert.ReferenceIdeal.τ).loc Cert.ReferenceIdeal.main_arg2) (ix4 b t h y) : EReal) = v b t h y) :
    Cert.ReferenceIdeal.Value.res_out0 m' c = attended Q K v := by
  rw [Ref.res_eq]
  funext z
  have z1 : (z 1).val < 2048 := (z 1).isLt
  have z2 : (z 2).val < 512 := (z 2).isLt
  have hz : z = ix3 (z 0) (place (⟨(z 1).val / 256, by omega⟩ : Fin 8) (⟨(z 1).val % 256, by omega⟩ : Fin 256))
      (⟨64 * (headOf (z 2)).val + (inHead (z 2)).val, by show 64 * ((z 2).val / 64) + (z 2).val % 64 < 512; omega⟩ : Fin 512) := by
    funext a
    fin_cases a
    · rfl
    · exact Fin.ext (by show (z 1).val = 256 * ((z 1).val / 256) + (z 1).val % 256; omega)
    · exact Fin.ext (by show (z 2).val = 64 * ((z 2).val / 64) + (z 2).val % 64; omega)
  refine (congrArg _ hz).trans ((Ref.out_apply _ _ _ Q K hQ hK (z 0) _ _ (headOf (z 2)) (inHead (z 2))).trans ?_)
  refine (congrArg (fun w => attend Q K (z 0) (headOf (z 2)) w _ _ _) ?_)
  funext b t h y
  exact hv b t h y

/-- The kernel's array is the reference's result. -/
theorem array_eq_reference [Cert.Pre_finite_q_k.Facts]
    (hp : Cert.Pre_finite_q_k.fn (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) = fun _ => 1#1)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) :
    (Cert.KernelIdeal.Gen.dats m 0 c).arrAt 4 Cert.KernelIdeal.cfg0.N = Cert.ReferenceIdeal.Value.res_out0 m' c := by
  obtain ⟨hq, hk⟩ := real_of_pre _ _ _ hp
  refine (array_eq (fun b t h y => ((m ((c.tc : Thread Cert.KernelIdeal.nD Cert.KernelIdeal.τ).loc Cert.KernelIdeal.main_arg0) (ix4 b t h y) : EReal)).toReal)
    (fun b t h y => ((m ((c.tc : Thread Cert.KernelIdeal.nD Cert.KernelIdeal.τ).loc Cert.KernelIdeal.main_arg1) (ix4 b t h y) : EReal)).toReal)
    (fun b t h y => (m ((c.tc : Thread Cert.KernelIdeal.nD Cert.KernelIdeal.τ).loc Cert.KernelIdeal.main_arg2) (ix4 b t h y) : EReal)) m c
    (fun b t h y => hq _) (fun b t h y => hk _) fun b t h y => rfl).trans (reference_eq m' c _ _ _ ?_ ?_ ?_).symm
  · intro b t h y; rw [h0]; exact hq _
  · intro b t h y; rw [h1]; exact hk _
  · intro b t h y; rw [h2]

end

end Cert.Moba

end
-- ==== Proof.Tail.Tile.lean ====
/-
  What one grid point of the call after the mixers computes, written once for its two sub-tiles of 256 tokens.

  A grid point holds 512 tokens of one batch entry: `x0` the state-space mixer's output in chunks of eight tokens and pieces of
  128 channels, `x1` the attention's output, `x2`, `x3` the branches' gates, `x4` the residual stream, `x5` the embedding;
  `x6` to `x18` are the weights. The feed-forward part's hidden channels come in four chunks of 1024.
-/
module

public import proofs.«01_k».proof.Proof.Gen.PostIdeal.Frame
public import Idealize.ShloMosaic.Lib.Pipeline.ValueKit

@[expose] public section

set_option maxRecDepth 16384

noncomputable section

namespace Cert.Tail

open Cert.PostIdeal Cert.PostIdeal.Gen Idealize.ShloMosaic

variable {F : FTy → Type} [FloatOps F]

/-! ## The loads -/

/-- A piece of 128 channels of a sub-tile lies in its window. -/
theorem inb_y (r : Fin 2) (o : Fin 4) :
    ∀ a, (![o.val, 32 * r.val, 0, 0, 0] : Fin 5 → Nat) a + S1x32x1x8x128.size a ≤ S4x64x1x8x128.size a := by
  revert r o; decide
/-- A sub-tile of 512 channels lies in its window. -/
theorem inb_narrow (r : Fin 2) : ∀ a, (![0, 256 * r.val, 0] : Fin 3 → Nat) a + S1x256x512.size a ≤ S1x512x512.size a := by
  revert r; decide
/-- A sub-tile of 1024 channels lies in its window. -/
theorem inb_wide (r : Fin 2) : ∀ a, (![0, 256 * r.val, 0] : Fin 3 → Nat) a + S1x256x1024.size a ≤ S1x512x1024.size a := by
  revert r; decide
/-- A sub-tile of 256 channels lies in its window. -/
theorem inb_emb (r : Fin 2) : ∀ a, (![0, 256 * r.val, 0] : Fin 3 → Nat) a + S1x256x256.size a ≤ S1x512x256.size a := by
  revert r; decide
/-- A chunk of the first matrix's columns lies in it. -/
theorem inb_up (i : Fin 4) : ∀ a, (![0, 1024 * i.val] : Fin 2 → Nat) a + S1024x1024.size a ≤ S1024x4096.size a := by
  revert i; decide
/-- A chunk of the second matrix's rows lies in it. -/
theorem inb_down (i : Fin 4) : ∀ a, (![1024 * i.val, 0] : Fin 2 → Nat) a + S1024x1024.size a ≤ S4096x1024.size a := by
  revert i; decide

/-- A piece of 128 channels of the state-space mixer's output. -/
def piece (x : Vec F S4x64x1x8x128 .f32) (r : Fin 2) (o : Fin 4) : FVec F S256x128 .f32 :=
  shapeCast S256x128 (shapeCast S32x8x128 (View.ld x (Rect.unit (s := S4x64x1x8x128) ![o.val, 32 * r.val, 0, 0, 0] S1x32x1x8x128.size (inb_y r o)))
    shapeCasts_S1x32x1x8x128_S32x8x128) shapeCasts_S32x8x128_S256x128
/-- The state-space mixer's output of a sub-tile. -/
def yTile (x : Vec F S4x64x1x8x128 .f32) (r : Fin 2) : FVec F S256x512 .f32 :=
  concatenate S256x512 1 [⟨S256x128, piece x r 0⟩, ⟨S256x128, piece x r 1⟩, ⟨S256x128, piece x r 2⟩, ⟨S256x128, piece x r 3⟩]
    concatenates_S256x128_S256x128_S256x128_S256x128_S256x512_d1
/-- A sub-tile of 512 channels. -/
def narrow (x : Vec F S1x512x512 .bf16) (r : Fin 2) : FVec F S256x512 .bf16 :=
  shapeCast S256x512 (View.ld x (Rect.unit (s := S1x512x512) ![0, 256 * r.val, 0] S1x256x512.size (inb_narrow r))) shapeCasts_S1x256x512_S256x512
/-- A sub-tile of a gate. -/
def gateTile (x : Vec F S1x512x1024 .bf16) (r : Fin 2) : FVec F S256x1024 .f32 :=
  extf .f32 (shapeCast S256x1024 (View.ld x (Rect.unit (s := S1x512x1024) ![0, 256 * r.val, 0] S1x256x1024.size (inb_wide r)))
    shapeCasts_S1x256x1024_S256x1024) bitsLt_bf16_f32
/-- A sub-tile of the residual stream. -/
def streamTile (x : Vec F S1x512x1024 .f32) (r : Fin 2) : FVec F S256x1024 .f32 :=
  shapeCast S256x1024 (View.ld x (Rect.unit (s := S1x512x1024) ![0, 256 * r.val, 0] S1x256x1024.size (inb_wide r))) shapeCasts_S1x256x1024_S256x1024
/-- A sub-tile of the embedding. -/
def embTile (x : Vec F S1x512x256 .f32) (r : Fin 2) : FVec F S256x256 .bf16 :=
  truncf .bf16 (shapeCast S256x256 (View.ld x (Rect.unit (s := S1x512x256) ![0, 256 * r.val, 0] S1x256x256.size (inb_emb r)))
    shapeCasts_S1x256x256_S256x256) bitsLt_bf16_f32
/-- A row of gains. -/
def gain (g : Vec F S1x1024 .f32) : FVec F S256x1024 .f32 :=
  broadcastTo S256x1024 (shapeCast S1x1024 (View.ld g r0_19) shapeCasts_S1x1024_S1x1024) broadcasts_S1x1024_S256x1024
/-- A chunk of the first matrix's columns. -/
def upTile (x : Vec F S1024x4096 .bf16) (i : Fin 4) : FVec F S1024x1024 .bf16 :=
  shapeCast S1024x1024 (View.ld x (Rect.unit (s := S1024x4096) ![0, 1024 * i.val] S1024x1024.size (inb_up i))) shapeCasts_S1024x1024_S1024x1024
/-- A chunk of the second matrix's rows. -/
def downTile (x : Vec F S4096x1024 .bf16) (i : Fin 4) : FVec F S1024x1024 .bf16 :=
  shapeCast S1024x1024 (View.ld x (Rect.unit (s := S4096x1024) ![1024 * i.val, 0] S1024x1024.size (inb_down i))) shapeCasts_S1024x1024_S1024x1024

/-! ## The operations -/

/-- A product with a matrix of 512 rows. -/
def mulNarrow (a : FVec F S256x512 .bf16) (w : Vec F S512x1024 .bf16) : FVec F S256x1024 .f32 :=
  matmul dot_S256x512_S512x1024_S256x1024_1_0_0_1_n_n none a (shapeCast S512x1024 (View.ld w r0_11) shapeCasts_S512x1024_S512x1024)
    (constant S256x1024 .f32 0x00000000#32)
/-- A product with a square tile. -/
def mulSquare (a : FVec F S256x1024 .bf16) (w : FVec F S1024x1024 .bf16) : FVec F S256x1024 .f32 :=
  matmul dot_S256x1024_S1024x1024_S256x1024_1_0_0_1_n_n none a w (constant S256x1024 .f32 0x00000000#32)
/-- A product with a whole square matrix. -/
def mulWhole (a : FVec F S256x1024 .bf16) (w : Vec F S1024x1024 .bf16) : FVec F S256x1024 .f32 :=
  mulSquare a (shapeCast S1024x1024 (View.ld w r0_15) shapeCasts_S1024x1024_S1024x1024)
/-- The embedding's projection. -/
def mulEmb (a : FVec F S256x256 .bf16) (w : Vec F S256x1024 .bf16) : FVec F S256x1024 .f32 :=
  matmul dot_S256x256_S256x1024_S256x1024_1_0_0_1_n_n none a (shapeCast S256x1024 (View.ld w r0_17) shapeCasts_S256x1024_S256x1024)
    (constant S256x1024 .f32 0x00000000#32)
/-- The gated unit. -/
def gluTile (y : FVec F S256x512 .f32) (w : Vec F S512x512 .bf16) (b : Vec F S1x512 .f32) : FVec F S256x512 .bf16 :=
  truncf .bf16 (mulf y (logistic (addf (matmul dot_S256x512_S512x512_S256x512_1_0_0_1_n_n none (truncf .bf16 y bitsLt_bf16_f32)
      (shapeCast S512x512 (View.ld w r0_8) shapeCasts_S512x512_S512x512) (constant S256x512 .f32 0x00000000#32))
    (broadcastTo S256x512 (shapeCast S1x512 (View.ld b r0_9) shapeCasts_S1x512_S1x512) broadcasts_S1x512_S256x512)))) bitsLt_bf16_f32
/-- The two branches with their gates. -/
def gatedTile (ga gb a b : FVec F S256x1024 .f32) : FVec F S256x1024 .bf16 := truncf .bf16 (addf (mulf ga a) (mulf gb b)) bitsLt_bf16_f32
/-- Each row over its root mean square. -/
def normTile (v : FVec F S256x1024 .f32) : FVec F S256x1024 .f32 :=
  mulf v (broadcastTo S256x1024 (rsqrt (addf (divf (shapeCast S256x1 (multiReduction .add [1] S256 (mulf v v) 0x00000000#32 reduces_S256x1024_S256
      (.inl rfl) rfl) shapeCasts_S256_S256x1) (broadcast S256x1 (Scalar.ofBits (F := F) .f32 0x44800000#32)))
    (broadcast S256x1 (Scalar.ofBits (F := F) .f32 0x358637BD#32)))) broadcasts_S256x1_S256x1024)
/-- The stream with a normalised part added. -/
def addNorm (s v : FVec F S256x1024 .f32) (g : Vec F S1x1024 .f32) : FVec F S256x1024 .f32 := addf s (mulf (normTile v) (gain g))
/-- A chunk of the hidden channels, squared above zero. -/
def hiddenTile (h : FVec F S256x1024 .bf16) (w : FVec F S1024x1024 .bf16) : FVec F S256x1024 .bf16 :=
  truncf .bf16 (mulf (maximumf (mulSquare h w) (broadcast S256x1024 (Scalar.ofBits (F := F) .f32 0x00000000#32)))
    (maximumf (mulSquare h w) (broadcast S256x1024 (Scalar.ofBits (F := F) .f32 0x00000000#32)))) bitsLt_bf16_f32
/-- The gated embedding. -/
def embedTile (e g : FVec F S256x1024 .f32) : FVec F S256x1024 .f32 := mulf e (logistic g)

/-! ## A sub-tile -/

section
variable (x0 : Vec F S4x64x1x8x128 .f32) (x1 : Vec F S1x512x512 .bf16) (x2 x3 : Vec F S1x512x1024 .bf16) (x4 : Vec F S1x512x1024 .f32)
  (x5 : Vec F S1x512x256 .f32) (x6 : Vec F S512x512 .bf16) (x7 : Vec F S1x512 .f32) (x8 x9 : Vec F S512x1024 .bf16) (x10 : Vec F S1024x1024 .bf16)
  (x11 x12 : Vec F S1x1024 .f32) (x13 : Vec F S1024x4096 .bf16) (x14 : Vec F S4096x1024 .bf16) (x15 : Vec F S1x1024 .f32) (x16 : Vec F S256x1024 .bf16)
  (x17 : Vec F S1024x1024 .bf16) (x18 : Vec F S1x1024 .f32) (r : Fin 2)

/-- The mix of the two branches. -/
def mixedTile : FVec F S256x1024 .f32 :=
  mulWhole (gatedTile (gateTile x2 r) (gateTile x3 r) (mulNarrow (gluTile (yTile x0 r) x6 x7) x8) (mulNarrow (narrow x1 r) x9)) x10
/-- The stream after the mixers. -/
def firstTile : FVec F S256x1024 .f32 := addNorm (streamTile x4 r) (mixedTile x0 x1 x2 x3 x6 x7 x8 x9 x10 r) x11
/-- The feed-forward part's input of a stream. -/
def preTile (s : FVec F S256x1024 .f32) : FVec F S256x1024 .bf16 := truncf .bf16 (mulf (normTile s) (gain x12)) bitsLt_bf16_f32
/-- A chunk of the feed-forward part. -/
def feedTile (h : FVec F S256x1024 .bf16) (i : Fin 4) : FVec F S256x1024 .f32 := mulSquare (hiddenTile h (upTile x13 i)) (downTile x14 i)
/-- The feed-forward part. -/
def fedTile (h : FVec F S256x1024 .bf16) : FVec F S256x1024 .f32 :=
  addf (addf (addf (feedTile x13 x14 h 0) (feedTile x13 x14 h 1)) (feedTile x13 x14 h 2)) (feedTile x13 x14 h 3)
/-- The stream after the feed-forward part. -/
def secondTile (s : FVec F S256x1024 .f32) : FVec F S256x1024 .f32 := addNorm s (fedTile x13 x14 (preTile x12 s)) x15
/-- The stream after the embedding. -/
def lastTile (s : FVec F S256x1024 .f32) : FVec F S256x1024 .f32 :=
  addNorm s (embedTile (mulEmb (embTile x5 r) x16) (mulWhole (truncf .bf16 s bitsLt_bf16_f32) x17)) x18
/-- What is stored for a sub-tile. -/
def tile : FVec F S1x256x1024 .f32 :=
  shapeCast S1x256x1024 (lastTile x5 x16 x17 x18 r (secondTile x12 x13 x14 x15 (firstTile x0 x1 x2 x3 x4 x6 x7 x8 x9 x10 x11 r)))
    shapeCasts_S256x1024_S1x256x1024

/-- The sub-tiles lie in the block. -/
theorem tile_inb (n : Fin 2) : ∀ a : Fin S1x512x1024.rank, (![0, 256 * (1 - n.val), 0] : Fin 3 → Nat) a + S1x256x1024.size a ≤ S1x512x1024.size a := by
  revert n; decide

set_option maxHeartbeats 4000000 in
/-- A grid point's stores are the two sub-tiles. -/
theorem out_tiles : out0_19 x0 x1 x2 x3 x4 x5 x6 x7 x8 x9 x10 x11 x12 x13 x14 x15 x16 x17 x18 = View.canon (List.ofFn fun n : Fin 2 =>
    ⟨Rect.unit (s := S1x512x1024) ![0, 256 * (1 - n.val), 0] S1x256x1024.size (tile_inb n),
      tile x0 x1 x2 x3 x4 x5 x6 x7 x8 x9 x10 x11 x12 x13 x14 x15 x16 x17 x18 (⟨1 - n.val, by omega⟩ : Fin 2)⟩) := rfl

/-- Token `c` of sub-tile `r`. -/
def place (r : Fin 2) (c : Fin 256) : Fin 512 := ⟨256 * r.val + c.val, by omega⟩

/-- A grid point's output at a token of a sub-tile: the sub-tile there. -/
theorem out_at (c : Fin 256) (n : Fin 1024) : out0_19 x0 x1 x2 x3 x4 x5 x6 x7 x8 x9 x10 x11 x12 x13 x14 x15 x16 x17 x18 (ix3 0 (place r c) n)
    = tile x0 x1 x2 x3 x4 x5 x6 x7 x8 x9 x10 x11 x12 x13 x14 x15 x16 x17 x18 r (ix3 0 c n) := by
  rw [out_tiles]
  canon_tiles x h
  · have h1' : 256 * r.val + c.val = 256 * (1 - k.val) + (x 1).val := h1
    have h2' : n.val = (x 2).val := h2
    have hr : (⟨1 - k.val, by omega⟩ : Fin 2) = r := Fin.ext (by show 1 - k.val = r.val; omega)
    have hx : x = ix3 0 c n := by
      funext a
      fin_cases a
      · exact Fin.ext (by show (x 0).val = 0; omega)
      · exact Fin.ext (by show (x 1).val = c.val; omega)
      · exact Fin.ext (by show (x 2).val = n.val; omega)
    rw [hr, hx]
  · refine ⟨⟨1 - r.val, by omega⟩, fun a => ?_⟩
    fin_cases a
    · exact ⟨Nat.zero_le _, Nat.zero_lt_one⟩
    · show 256 * (1 - (1 - r.val)) ≤ 256 * r.val + c.val ∧ 256 * r.val + c.val < 256 * (1 - (1 - r.val)) + 256
      omega
    · show 0 ≤ n.val ∧ n.val < 0 + 1024
      omega

end

end Cert.Tail

end
-- ==== Proof.Tail.Token.lean ====
/-
  What follows the two mixers, for one token, over the extended reals.
-/
module

public import Idealize.ShloMosaic.PureOps.Ideal

@[expose] public section

noncomputable section

namespace Cert.Tail

open Idealize.ShloMosaic

/-- The layer's weights after the mixers. -/
@[ext] structure Weights where
  /-- The gated unit of the state-space branch. -/
  glu : Fin 512 → Fin 512 → EReal
  /-- Its bias. -/
  bias : Fin 512 → EReal
  /-- The state-space branch's projection. -/
  branchA : Fin 512 → Fin 1024 → EReal
  /-- The attention branch's projection. -/
  branchB : Fin 512 → Fin 1024 → EReal
  /-- The projection of the two branches' mix. -/
  out : Fin 1024 → Fin 1024 → EReal
  /-- The gain after the mix. -/
  gainMix : Fin 1024 → EReal
  /-- The gain before the feed-forward part. -/
  gainPre : Fin 1024 → EReal
  /-- The feed-forward part's first matrix. -/
  up : Fin 1024 → Fin 4096 → EReal
  /-- The feed-forward part's second matrix. -/
  down : Fin 4096 → Fin 1024 → EReal
  /-- The gain after the feed-forward part. -/
  gainPost : Fin 1024 → EReal
  /-- The projection of the per-layer embedding. -/
  emb : Fin 256 → Fin 1024 → EReal
  /-- The embedding's gate. -/
  gate : Fin 1024 → Fin 1024 → EReal
  /-- The gain after the embedding. -/
  gainEmb : Fin 1024 → EReal

/-- What a token brings. -/
@[ext] structure Token where
  /-- The state-space mixer's output. -/
  y : Fin 512 → EReal
  /-- The attention's output. -/
  attn : Fin 512 → EReal
  /-- The state-space branch's gate. -/
  gateA : Fin 1024 → EReal
  /-- The attention branch's gate. -/
  gateB : Fin 1024 → EReal
  /-- The residual stream. -/
  x : Fin 1024 → EReal
  /-- The per-layer embedding. -/
  p : Fin 256 → EReal

/-- A row over its root mean square. -/
def norm (v : Fin 1024 → EReal) (n : Fin 1024) : EReal :=
  v n * Ideal.rsqrt (Ideal.div (∑ k, v k * v k) (Ideal.ofBits .f32 0x44800000#32) + Ideal.ofBits .f32 0x358637BD#32)

variable (w : Weights) (t : Token)

/-- The state-space branch's gated unit. -/
def glued (n : Fin 512) : EReal := t.y n * Ideal.logistic (∑ k, t.y k * w.glu k n + w.bias n)
/-- The two branches, each with its gate. -/
def gated (n : Fin 1024) : EReal := t.gateA n * (∑ k, glued w t k * w.branchA k n) + t.gateB n * ∑ k, t.attn k * w.branchB k n
/-- Their projection. -/
def mixed (n : Fin 1024) : EReal := ∑ k, gated w t k * w.out k n
/-- The stream after the mixers. -/
def first (n : Fin 1024) : EReal := t.x n + norm (mixed w t) n * w.gainMix n
/-- The feed-forward part's hidden row, before the square. -/
def hidden (j : Fin 4096) : EReal := max (∑ k, norm (first w t) k * w.gainPre k * w.up k j) 0
/-- The feed-forward part. -/
def fed (n : Fin 1024) : EReal := ∑ j, hidden w t j * hidden w t j * w.down j n
/-- The stream after the feed-forward part. -/
def second (n : Fin 1024) : EReal := first w t n + norm (fed w t) n * w.gainPost n
/-- The gated embedding. -/
def embedded (n : Fin 1024) : EReal := (∑ k, t.p k * w.emb k n) * Ideal.logistic (∑ k, second w t k * w.gate k n)
/-- The layer's output. -/
def final (n : Fin 1024) : EReal := second w t n + norm (embedded w t) n * w.gainEmb n

/-- Hidden channel `x` of chunk `i`. -/
def chunk (i : Fin 4) (x : Fin 1024) : Fin 4096 := ⟨1024 * i.val + x.val, by omega⟩

/-- A sum over the hidden channels, chunk by chunk. -/
theorem sum_chunks (f : Fin 4096 → EReal) :
    ∑ j, f j = ∑ x, f (chunk 0 x) + ∑ x, f (chunk 1 x) + ∑ x, f (chunk 2 x) + ∑ x, f (chunk 3 x) := by
  rw [show (∑ j, f j) = ∑ j : Fin (1024 + 1024 + 1024 + 1024), f j from rfl, Fin.sum_univ_add, Fin.sum_univ_add, Fin.sum_univ_add]
  refine congrArg₂ (· + ·) (congrArg₂ (· + ·) (congrArg₂ (· + ·) ?_ ?_) ?_) ?_
  all_goals exact Finset.sum_congr rfl fun x _ => congrArg f (Fin.ext (by simp [chunk]; try omega))

/-- `0.0`. -/
theorem bits_zero : Ideal.ofBits .f32 0x00000000#32 = (0 : EReal) := by
  simp [Ideal.ofBits, Ideal.ieee, -EReal.coe_mul]
/-- `1.0`. -/
theorem bits_one : Ideal.ofBits .f32 0x3F800000#32 = (1 : EReal) := by
  simp [Ideal.ofBits, Ideal.ieee, -EReal.coe_mul]; try norm_num

end Cert.Tail

end
-- ==== Proof.Tail.Ops.lean ====
/-
  A sub-tile at an index, over the extended reals: what follows the two mixers, for that token.
-/
module

public import proofs.«01_k».proof.Proof.Tail.Tile
public import proofs.«01_k».proof.Proof.Tail.Token
public import Idealize.ShloMosaic.Lib.Pointwise

@[expose] public section

set_option maxRecDepth 16384

noncomputable section

namespace Cert.Tail

open Cert.PostIdeal Cert.PostIdeal.Gen Idealize.ShloMosaic

/-! ## The loads -/

section
variable (r : Fin 2) (c : Fin 256)

/-- A piece reads its chunk, the token's place in it, and the lane. -/
theorem piece_apply (x : Vec Ideal S4x64x1x8x128 .f32) (o : Fin 4) (l : Fin 128) :
    (piece x r o (ix2 c l) : EReal) = x (ix5 o (⟨32 * r.val + c.val / 8, by omega⟩ : Fin 64) 0 (⟨c.val % 8, by omega⟩ : Fin 8) l) := by
  have h : ∀ y : FVec Ideal S1x32x1x8x128 .f32, (shapeCast S256x128 (shapeCast S32x8x128 y shapeCasts_S1x32x1x8x128_S32x8x128)
      shapeCasts_S32x8x128_S256x128 (ix2 c l) : EReal) = y (ix5 0 (⟨c.val / 8, by omega⟩ : Fin 32) 0 (⟨c.val % 8, by omega⟩ : Fin 8) l) := fun y => by
    pointwise []
  refine (h _).trans (View.ld_unit_apply_of _ _ _ _ _ _ fun a => ?_)
  fin_cases a
  · rfl
  · rfl
  · rfl
  · show c.val % 8 = 0 + c.val % 8; omega
  · show l.val = 0 + l.val; omega

/-- The state-space mixer's output of a token. -/
theorem yTile_apply (x : Vec Ideal S4x64x1x8x128 .f32) (k : Fin 512) :
    (yTile x r (ix2 c k) : EReal) = x (ix5 (⟨k.val / 128, by omega⟩ : Fin 4) (⟨32 * r.val + c.val / 8, by omega⟩ : Fin 64) 0
      (⟨c.val % 8, by omega⟩ : Fin 8) (⟨k.val % 128, by omega⟩ : Fin 128)) := by
  have h : ∀ p0 p1 p2 p3 : FVec Ideal S256x128 .f32, (concatenate S256x512 1 [⟨S256x128, p0⟩, ⟨S256x128, p1⟩, ⟨S256x128, p2⟩, ⟨S256x128, p3⟩]
      concatenates_S256x128_S256x128_S256x128_S256x128_S256x512_d1 (ix2 c k) : EReal)
      = if h0 : k.val < 128 then p0 (ix2 c ⟨k.val, h0⟩) else if h1 : k.val - 128 < 128 then p1 (ix2 c (⟨k.val - 128, h1⟩ : Fin 128))
        else if h2 : k.val - 128 - 128 < 128 then p2 (ix2 c (⟨k.val - 128 - 128, h2⟩ : Fin 128))
        else p3 (ix2 c (⟨k.val - 128 - 128 - 128, by omega⟩ : Fin 128)) := fun p0 p1 p2 p3 => by
    pointwise []
  refine (h _ _ _ _).trans ?_
  split_ifs with h0 h1 h2 <;> rw [piece_apply]
  · exact congrArg₂ (fun o l => (x (ix5 o _ 0 _ l) : EReal)) (Fin.ext (by show 0 = k.val / 128; omega)) (Fin.ext (by show k.val = k.val % 128; omega))
  · exact congrArg₂ (fun o l => (x (ix5 o _ 0 _ l) : EReal)) (Fin.ext (by show 1 = k.val / 128; omega)) (Fin.ext (by show k.val - 128 = k.val % 128; omega))
  · exact congrArg₂ (fun o l => (x (ix5 o _ 0 _ l) : EReal)) (Fin.ext (by show 2 = k.val / 128; omega)) (Fin.ext (by show k.val - 128 - 128 = k.val % 128; omega))
  · exact congrArg₂ (fun o l => (x (ix5 o _ 0 _ l) : EReal)) (Fin.ext (by show 3 = k.val / 128; omega)) (Fin.ext (by show k.val - 128 - 128 - 128 = k.val % 128; omega))

/-- The attention's output of a token. -/
theorem narrow_apply (x : Vec Ideal S1x512x512 .bf16) (k : Fin 512) : (narrow x r (ix2 c k) : EReal) = x (ix3 0 (place r c) k) := by
  have h : ∀ y : FVec Ideal S1x256x512 .bf16, (shapeCast S256x512 y shapeCasts_S1x256x512_S256x512 (ix2 c k) : EReal) = y (ix3 0 c k) := fun y => by
    pointwise []
  refine (h _).trans (View.ld_unit_apply_of _ _ _ _ _ _ fun a => ?_)
  fin_cases a
  · rfl
  · rfl
  · show k.val = 0 + k.val; omega
/-- A gate of a token. -/
theorem gateTile_apply (x : Vec Ideal S1x512x1024 .bf16) (k : Fin 1024) : (gateTile x r (ix2 c k) : EReal) = x (ix3 0 (place r c) k) := by
  have h : ∀ y : FVec Ideal S1x256x1024 .bf16, (extf .f32 (shapeCast S256x1024 y shapeCasts_S1x256x1024_S256x1024) bitsLt_bf16_f32 (ix2 c k) : EReal)
      = y (ix3 0 c k) := fun y => by
    pointwise []
  refine (h _).trans (View.ld_unit_apply_of _ _ _ _ _ _ fun a => ?_)
  fin_cases a
  · rfl
  · rfl
  · show k.val = 0 + k.val; omega
/-- The residual stream of a token. -/
theorem streamTile_apply (x : Vec Ideal S1x512x1024 .f32) (k : Fin 1024) : (streamTile x r (ix2 c k) : EReal) = x (ix3 0 (place r c) k) := by
  have h : ∀ y : FVec Ideal S1x256x1024 .f32, (shapeCast S256x1024 y shapeCasts_S1x256x1024_S256x1024 (ix2 c k) : EReal)
      = y (ix3 0 c k) := fun y => by
    pointwise []
  refine (h _).trans (View.ld_unit_apply_of _ _ _ _ _ _ fun a => ?_)
  fin_cases a
  · rfl
  · rfl
  · show k.val = 0 + k.val; omega
/-- The embedding of a token. -/
theorem embTile_apply (x : Vec Ideal S1x512x256 .f32) (k : Fin 256) : (embTile x r (ix2 c k) : EReal) = x (ix3 0 (place r c) k) := by
  have h : ∀ y : FVec Ideal S1x256x256 .f32, (truncf .bf16 (shapeCast S256x256 y shapeCasts_S1x256x256_S256x256) bitsLt_bf16_f32 (ix2 c k) : EReal)
      = y (ix3 0 c k) := fun y => by
    pointwise []
  refine (h _).trans (View.ld_unit_apply_of _ _ _ _ _ _ fun a => ?_)
  fin_cases a
  · rfl
  · rfl
  · show k.val = 0 + k.val; omega
/-- A gain. -/
theorem gain_apply (g : Vec Ideal S1x1024 .f32) (k : Fin 1024) : (gain g (ix2 c k) : EReal) = g (ix2 0 k) := by
  have h : ∀ y : FVec Ideal S1x1024 .f32, (broadcastTo S256x1024 (shapeCast S1x1024 y shapeCasts_S1x1024_S1x1024) broadcasts_S1x1024_S256x1024 (ix2 c k) : EReal)
      = y (ix2 0 k) := fun y => by
    pointwise []
  refine (h _).trans (View.ld_unit_apply_of _ _ _ _ _ _ fun a => ?_)
  fin_cases a
  · rfl
  · show k.val = 0 + k.val; omega
end

/-- A chunk of the first matrix. -/
theorem upTile_apply (x : Vec Ideal S1024x4096 .bf16) (i : Fin 4) (k n : Fin 1024) : (upTile x i (ix2 k n) : EReal) = x (ix2 k (chunk i n)) := by
  have h : ∀ y : FVec Ideal S1024x1024 .bf16, (shapeCast S1024x1024 y shapeCasts_S1024x1024_S1024x1024 (ix2 k n) : EReal) = y (ix2 k n) := fun y => by
    pointwise []
  refine (h _).trans (View.ld_unit_apply_of _ _ _ _ _ _ fun a => ?_)
  fin_cases a
  · show k.val = 0 + k.val; omega
  · rfl
/-- A chunk of the second matrix. -/
theorem downTile_apply (x : Vec Ideal S4096x1024 .bf16) (i : Fin 4) (k n : Fin 1024) : (downTile x i (ix2 k n) : EReal) = x (ix2 (chunk i k) n) := by
  have h : ∀ y : FVec Ideal S1024x1024 .bf16, (shapeCast S1024x1024 y shapeCasts_S1024x1024_S1024x1024 (ix2 k n) : EReal) = y (ix2 k n) := fun y => by
    pointwise []
  refine (h _).trans (View.ld_unit_apply_of _ _ _ _ _ _ fun a => ?_)
  fin_cases a
  · rfl
  · show n.val = 0 + n.val; omega

/-! ## The operations -/

section
variable (c : Fin 256) (n : Fin 1024)

/-- A square product. -/
theorem mulSquare_apply (a : FVec Ideal S256x1024 .bf16) (w : FVec Ideal S1024x1024 .bf16) :
    (mulSquare a w (ix2 c n) : EReal) = ∑ k : Fin 1024, (a (ix2 c k) : EReal) * w (ix2 k n) := by
  pointwise [mulSquare]
/-- A product with a whole square matrix. -/
theorem mulWhole_apply (a : FVec Ideal S256x1024 .bf16) (w : Vec Ideal S1024x1024 .bf16) :
    (mulWhole a w (ix2 c n) : EReal) = ∑ k : Fin 1024, (a (ix2 c k) : EReal) * w (ix2 k n) := by
  refine (mulSquare_apply c n _ _).trans (Finset.sum_congr rfl fun k _ => congrArg (_ * ·) ?_)
  have h : ∀ y : FVec Ideal S1024x1024 .bf16, (shapeCast S1024x1024 y shapeCasts_S1024x1024_S1024x1024 (ix2 k n) : EReal) = y (ix2 k n) := fun y => by
    pointwise []
  refine (h _).trans (View.ld_unit_apply_of _ _ _ _ _ _ fun a => ?_)
  fin_cases a
  · show k.val = 0 + k.val; omega
  · show n.val = 0 + n.val; omega
/-- A product with a matrix of 512 rows. -/
theorem mulNarrow_apply (a : FVec Ideal S256x512 .bf16) (w : Vec Ideal S512x1024 .bf16) :
    (mulNarrow a w (ix2 c n) : EReal) = ∑ k : Fin 512, (a (ix2 c k) : EReal) * w (ix2 k n) := by
  have h : ∀ y : FVec Ideal S512x1024 .bf16, (matmul dot_S256x512_S512x1024_S256x1024_1_0_0_1_n_n none a (shapeCast S512x1024 y shapeCasts_S512x1024_S512x1024)
      (constant S256x1024 .f32 0x00000000#32) (ix2 c n) : EReal) = ∑ k : Fin 512, (a (ix2 c k) : EReal) * y (ix2 k n) := fun y => by
    pointwise []
  refine (h _).trans (Finset.sum_congr rfl fun k _ => congrArg (_ * ·) (View.ld_unit_apply_of _ _ _ _ _ _ fun a => ?_))
  fin_cases a
  · show k.val = 0 + k.val; omega
  · show n.val = 0 + n.val; omega
/-- The embedding's projection. -/
theorem mulEmb_apply (a : FVec Ideal S256x256 .bf16) (w : Vec Ideal S256x1024 .bf16) :
    (mulEmb a w (ix2 c n) : EReal) = ∑ k : Fin 256, (a (ix2 c k) : EReal) * w (ix2 k n) := by
  have h : ∀ y : FVec Ideal S256x1024 .bf16, (matmul dot_S256x256_S256x1024_S256x1024_1_0_0_1_n_n none a (shapeCast S256x1024 y shapeCasts_S256x1024_S256x1024)
      (constant S256x1024 .f32 0x00000000#32) (ix2 c n) : EReal) = ∑ k : Fin 256, (a (ix2 c k) : EReal) * y (ix2 k n) := fun y => by
    pointwise []
  refine (h _).trans (Finset.sum_congr rfl fun k _ => congrArg (_ * ·) (View.ld_unit_apply_of _ _ _ _ _ _ fun a => ?_))
  fin_cases a
  · show k.val = 0 + k.val; omega
  · show n.val = 0 + n.val; omega
/-- The gated unit. -/
theorem gluTile_apply (y : FVec Ideal S256x512 .f32) (w : Vec Ideal S512x512 .bf16) (b : Vec Ideal S1x512 .f32) (k : Fin 512) :
    (gluTile y w b (ix2 c k) : EReal)
      = y (ix2 c k) * Ideal.logistic (∑ j : Fin 512, (y (ix2 c j) : EReal) * w (ix2 j k) + b (ix2 0 k)) := by
  have h : ∀ (w : FVec Ideal S512x512 .bf16) (b : FVec Ideal S1x512 .f32), (truncf .bf16 (mulf y (logistic (addf (matmul dot_S256x512_S512x512_S256x512_1_0_0_1_n_n none
      (truncf .bf16 y bitsLt_bf16_f32) (shapeCast S512x512 w shapeCasts_S512x512_S512x512) (constant S256x512 .f32 0x00000000#32))
      (broadcastTo S256x512 (shapeCast S1x512 b shapeCasts_S1x512_S1x512) broadcasts_S1x512_S256x512)))) bitsLt_bf16_f32 (ix2 c k) : EReal)
      = y (ix2 c k) * Ideal.logistic (∑ j : Fin 512, (y (ix2 c j) : EReal) * w (ix2 j k) + b (ix2 0 k)) := fun w b => by
    pointwise []
  refine (h _ _).trans (congrArg (fun s => y (ix2 c k) * Ideal.logistic s) (congrArg₂ (· + ·) (Finset.sum_congr rfl fun j _ => congrArg (_ * ·) ?_) ?_))
  · refine View.ld_unit_apply_of _ _ _ _ _ _ fun a => ?_
    fin_cases a
    · show j.val = 0 + j.val; omega
    · show k.val = 0 + k.val; omega
  · refine View.ld_unit_apply_of _ _ _ _ _ _ fun a => ?_
    fin_cases a
    · rfl
    · show k.val = 0 + k.val; omega
/-- The two branches with their gates. -/
theorem gatedTile_apply (ga gb a b : FVec Ideal S256x1024 .f32) :
    (gatedTile ga gb a b (ix2 c n) : EReal) = ga (ix2 c n) * a (ix2 c n) + gb (ix2 c n) * b (ix2 c n) := by
  pointwise [gatedTile]
/-- A row over its root mean square. -/
theorem normTile_apply (v : FVec Ideal S256x1024 .f32) : (normTile v (ix2 c n) : EReal) = norm (fun k => v (ix2 c k)) n := by
  pointwise [normTile, norm]
/-- The stream with a normalised part added. -/
theorem addNorm_apply (s v : FVec Ideal S256x1024 .f32) (g : Vec Ideal S1x1024 .f32) :
    (addNorm s v g (ix2 c n) : EReal) = s (ix2 c n) + norm (fun k => v (ix2 c k)) n * g (ix2 0 n) := by
  have h : (addNorm s v g (ix2 c n) : EReal) = s (ix2 c n) + normTile v (ix2 c n) * gain g (ix2 c n) := rfl
  rw [h, normTile_apply, gain_apply]
/-- A hidden channel, squared above zero. -/
theorem hiddenTile_apply (h : FVec Ideal S256x1024 .bf16) (w : FVec Ideal S1024x1024 .bf16) : (hiddenTile h w (ix2 c n) : EReal)
    = max (∑ k : Fin 1024, (h (ix2 c k) : EReal) * w (ix2 k n)) 0 * max (∑ k : Fin 1024, (h (ix2 c k) : EReal) * w (ix2 k n)) 0 := by
  have e : ∀ s : FVec Ideal S256x1024 .f32, (truncf .bf16 (mulf (maximumf s (broadcast S256x1024 (Scalar.ofBits (F := Ideal) .f32 0x00000000#32)))
      (maximumf s (broadcast S256x1024 (Scalar.ofBits (F := Ideal) .f32 0x00000000#32)))) bitsLt_bf16_f32 (ix2 c n) : EReal)
      = max (s (ix2 c n) : EReal) (Ideal.ofBits .f32 0x00000000#32) * max (s (ix2 c n) : EReal) (Ideal.ofBits .f32 0x00000000#32) := fun s => by
    pointwise []
  refine (e _).trans ?_
  rw [mulSquare_apply, bits_zero]
/-- The gated embedding. -/
theorem embedTile_apply (e g : FVec Ideal S256x1024 .f32) : (embedTile e g (ix2 c n) : EReal) = e (ix2 c n) * Ideal.logistic (g (ix2 c n)) := by
  pointwise [embedTile]
/-- The feed-forward part's input. -/
theorem preTile_apply (g : Vec Ideal S1x1024 .f32) (s : FVec Ideal S256x1024 .f32) :
    (preTile g s (ix2 c n) : EReal) = norm (fun k => s (ix2 c k)) n * g (ix2 0 n) := by
  have h : (preTile g s (ix2 c n) : EReal) = normTile s (ix2 c n) * gain g (ix2 c n) := rfl
  rw [h, normTile_apply, gain_apply]
/-- A chunk of the feed-forward part. -/
theorem feedTile_apply (u : Vec Ideal S1024x4096 .bf16) (d : Vec Ideal S4096x1024 .bf16) (h : FVec Ideal S256x1024 .bf16) (i : Fin 4) :
    (feedTile u d h i (ix2 c n) : EReal) = ∑ x : Fin 1024, max (∑ k : Fin 1024, (h (ix2 c k) : EReal) * u (ix2 k (chunk i x))) 0
      * max (∑ k : Fin 1024, (h (ix2 c k) : EReal) * u (ix2 k (chunk i x))) 0 * d (ix2 (chunk i x) n) := by
  refine (mulSquare_apply c n _ _).trans (Finset.sum_congr rfl fun x _ => ?_)
  rw [hiddenTile_apply, downTile_apply]
  simp only [upTile_apply]
/-- The feed-forward part. -/
theorem fedTile_apply (u : Vec Ideal S1024x4096 .bf16) (d : Vec Ideal S4096x1024 .bf16) (h : FVec Ideal S256x1024 .bf16) :
    (fedTile u d h (ix2 c n) : EReal) = ∑ j : Fin 4096, max (∑ k : Fin 1024, (h (ix2 c k) : EReal) * u (ix2 k j)) 0
      * max (∑ k : Fin 1024, (h (ix2 c k) : EReal) * u (ix2 k j)) 0 * d (ix2 j n) := by
  have e : (fedTile u d h (ix2 c n) : EReal) = (feedTile u d h 0 (ix2 c n) + feedTile u d h 1 (ix2 c n) + feedTile u d h 2 (ix2 c n)
      + feedTile u d h 3 (ix2 c n) : EReal) := rfl
  rw [e, sum_chunks, feedTile_apply, feedTile_apply, feedTile_apply, feedTile_apply]

end

/-! ## A sub-tile -/

section
variable (x0 : Vec Ideal S4x64x1x8x128 .f32) (x1 : Vec Ideal S1x512x512 .bf16) (x2 x3 : Vec Ideal S1x512x1024 .bf16) (x4 : Vec Ideal S1x512x1024 .f32)
  (x5 : Vec Ideal S1x512x256 .f32) (x6 : Vec Ideal S512x512 .bf16) (x7 : Vec Ideal S1x512 .f32) (x8 x9 : Vec Ideal S512x1024 .bf16) (x10 : Vec Ideal S1024x1024 .bf16)
  (x11 x12 : Vec Ideal S1x1024 .f32) (x13 : Vec Ideal S1024x4096 .bf16) (x14 : Vec Ideal S4096x1024 .bf16) (x15 : Vec Ideal S1x1024 .f32) (x16 : Vec Ideal S256x1024 .bf16)
  (x17 : Vec Ideal S1024x1024 .bf16) (x18 : Vec Ideal S1x1024 .f32) (r : Fin 2) (c : Fin 256)

/-- The weights a grid point holds. -/
def blockWeights : Weights where
  glu k n := x6 (ix2 k n)
  bias n := x7 (ix2 0 n)
  branchA k n := x8 (ix2 k n)
  branchB k n := x9 (ix2 k n)
  out k n := x10 (ix2 k n)
  gainMix n := x11 (ix2 0 n)
  gainPre n := x12 (ix2 0 n)
  up k n := x13 (ix2 k n)
  down k n := x14 (ix2 k n)
  gainPost n := x15 (ix2 0 n)
  emb k n := x16 (ix2 k n)
  gate k n := x17 (ix2 k n)
  gainEmb n := x18 (ix2 0 n)

/-- The token in row `c` of sub-tile `r`. -/
def blockToken : Token where
  y k := x0 (ix5 (⟨k.val / 128, by omega⟩ : Fin 4) (⟨32 * r.val + c.val / 8, by omega⟩ : Fin 64) 0
    (⟨c.val % 8, by omega⟩ : Fin 8) (⟨k.val % 128, by omega⟩ : Fin 128))
  attn k := x1 (ix3 0 (place r c) k)
  gateA k := x2 (ix3 0 (place r c) k)
  gateB k := x3 (ix3 0 (place r c) k)
  x k := x4 (ix3 0 (place r c) k)
  p k := x5 (ix3 0 (place r c) k)

/-- The mix. -/
theorem mixedTile_apply (n : Fin 1024) : (mixedTile x0 x1 x2 x3 x6 x7 x8 x9 x10 r (ix2 c n) : EReal) = mixed (blockWeights x6 x7 x8 x9 x10 x11 x12 x13 x14 x15 x16 x17 x18) (blockToken x0 x1 x2 x3 x4 x5 r c) n := by
  unfold mixedTile
  rw [mulWhole_apply]
  refine Finset.sum_congr rfl fun k _ => congrArg (· * _) ?_
  rw [gatedTile_apply, gateTile_apply, gateTile_apply, mulNarrow_apply, mulNarrow_apply]
  simp only [narrow_apply, gluTile_apply, yTile_apply]
  rfl
/-- The stream after the mixers. -/
theorem firstTile_apply (n : Fin 1024) : (firstTile x0 x1 x2 x3 x4 x6 x7 x8 x9 x10 x11 r (ix2 c n) : EReal) = first (blockWeights x6 x7 x8 x9 x10 x11 x12 x13 x14 x15 x16 x17 x18) (blockToken x0 x1 x2 x3 x4 x5 r c) n := by
  unfold firstTile
  rw [addNorm_apply, streamTile_apply]
  simp only [mixedTile_apply x0 x1 x2 x3 x4 x5 x6 x7 x8 x9 x10 x11 x12 x13 x14 x15 x16 x17 x18 r c]
  rfl
/-- The stream after the feed-forward part, from a stream that is the one after the mixers. -/
theorem secondTile_apply (s : FVec Ideal S256x1024 .f32) (h : ∀ n, (s (ix2 c n) : EReal) = first (blockWeights x6 x7 x8 x9 x10 x11 x12 x13 x14 x15 x16 x17 x18) (blockToken x0 x1 x2 x3 x4 x5 r c) n) (n : Fin 1024) :
    (secondTile x12 x13 x14 x15 s (ix2 c n) : EReal) = second (blockWeights x6 x7 x8 x9 x10 x11 x12 x13 x14 x15 x16 x17 x18) (blockToken x0 x1 x2 x3 x4 x5 r c) n := by
  unfold secondTile
  rw [addNorm_apply]
  simp only [fedTile_apply, preTile_apply, h]
  rfl
/-- The stream after the embedding, from a stream that is the one after the feed-forward part. -/
theorem lastTile_apply (s : FVec Ideal S256x1024 .f32) (h : ∀ n, (s (ix2 c n) : EReal) = second (blockWeights x6 x7 x8 x9 x10 x11 x12 x13 x14 x15 x16 x17 x18) (blockToken x0 x1 x2 x3 x4 x5 r c) n) (n : Fin 1024) :
    (lastTile x5 x16 x17 x18 r s (ix2 c n) : EReal) = final (blockWeights x6 x7 x8 x9 x10 x11 x12 x13 x14 x15 x16 x17 x18) (blockToken x0 x1 x2 x3 x4 x5 r c) n := by
  have ht : ∀ k, (truncf .bf16 s bitsLt_bf16_f32 (ix2 c k) : EReal) = second (blockWeights x6 x7 x8 x9 x10 x11 x12 x13 x14 x15 x16 x17 x18) (blockToken x0 x1 x2 x3 x4 x5 r c) k := h
  unfold lastTile
  rw [addNorm_apply]
  simp only [embedTile_apply, mulEmb_apply, mulWhole_apply, embTile_apply, h, ht]
  rfl
/-- What is stored for a token. -/
theorem tile_apply (n : Fin 1024) :
    (tile x0 x1 x2 x3 x4 x5 x6 x7 x8 x9 x10 x11 x12 x13 x14 x15 x16 x17 x18 r (ix3 0 c n) : EReal) = final (blockWeights x6 x7 x8 x9 x10 x11 x12 x13 x14 x15 x16 x17 x18) (blockToken x0 x1 x2 x3 x4 x5 r c) n := by
  have h : ∀ y : FVec Ideal S256x1024 .f32, (shapeCast S1x256x1024 y shapeCasts_S256x1024_S1x256x1024 (ix3 0 c n) : EReal) = y (ix2 c n) := fun y => by
    pointwise []
  exact (h _).trans (lastTile_apply x0 x1 x2 x3 x4 x5 x6 x7 x8 x9 x10 x11 x12 x13 x14 x15 x16 x17 x18 r c _
    (secondTile_apply x0 x1 x2 x3 x4 x5 x6 x7 x8 x9 x10 x11 x12 x13 x14 x15 x16 x17 x18 r c _
      (firstTile_apply x0 x1 x2 x3 x4 x5 x6 x7 x8 x9 x10 x11 x12 x13 x14 x15 x16 x17 x18 r c)) n)

end

end Cert.Tail

end
-- ==== Proof.Tail.Args.lean ====
/-
  The weights and the tokens, from the arguments' arrays.
-/
module

public import proofs.«01_k».proof.Proof.Tail.Token
public import proofs.«01_k».proof.PostIdeal
public import Idealize.ShloMosaic.Lib.Pointwise

@[expose] public section

noncomputable section

namespace Cert.Tail

open Cert.PostIdeal Idealize.ShloMosaic

/-- The weights of the arguments' arrays. -/
def argWeights (a6 : FVec Ideal S512x512 .f32) (a7 : FVec Ideal S512 .f32) (a8 a9 : FVec Ideal S512x1024 .f32) (a10 : FVec Ideal S1024x1024 .f32)
    (a11 a12 : FVec Ideal S1024 .f32) (a13 : FVec Ideal S1024x4096 .f32) (a14 : FVec Ideal S4096x1024 .f32) (a15 : FVec Ideal S1024 .f32)
    (a16 : FVec Ideal S256x1024 .f32) (a17 : FVec Ideal S1024x1024 .f32) (a18 : FVec Ideal S1024 .f32) : Weights where
  glu k n := a6 (ix2 k n)
  bias n := a7 (ix1 n)
  branchA k n := a8 (ix2 k n)
  branchB k n := a9 (ix2 k n)
  out k n := a10 (ix2 k n)
  gainMix n := a11 (ix1 n)
  gainPre n := a12 (ix1 n)
  up k n := a13 (ix2 k n)
  down k n := a14 (ix2 k n)
  gainPost n := a15 (ix1 n)
  emb k n := a16 (ix2 k n)
  gate k n := a17 (ix2 k n)
  gainEmb n := a18 (ix1 n)

/-- Token `t` of batch entry `b` of the arguments' arrays. -/
def argToken (a0 a1 : FVec Ideal S32x2048x512 .f32) (a2 a3 a4 : FVec Ideal S32x2048x1024 .f32) (a5 : FVec Ideal S32x2048x256 .f32)
    (b : Fin 32) (t : Fin 2048) : Token where
  y k := a0 (ix3 b t k)
  attn k := a1 (ix3 b t k)
  gateA k := a2 (ix3 b t k)
  gateB k := a3 (ix3 b t k)
  x k := a4 (ix3 b t k)
  p k := a5 (ix3 b t k)

end Cert.Tail

end
-- ==== Proof.Tail.Blocks.lean ====
/-
  The blocks a grid point finds: its batch entry's 512 tokens, and all the weights.
-/
module

public import proofs.«01_k».proof.Proof.Tail.Ops
public import proofs.«01_k».proof.Proof.Tail.Args
public import proofs.«01_k».proof.Proof.Gen.PostIdeal.Value
public import Idealize.ShloMosaic.Lib.Claim

@[expose] public section

set_option maxRecDepth 16384

noncomputable section

namespace Cert.Tail

open Cert.PostIdeal Cert.PostIdeal.Gen Idealize.ShloMosaic Idealize.ShloMosaic.TcCoe

variable (m : (ℓ : Loc nD τ sig) → Buf (Elt Ideal) ℓ) (c : Dev nD)

/-- The state-space mixer's output with its channels in four groups of 128 and its tokens in groups of eight. -/
theorem grouped_apply (x : FVec Ideal S32x2048x512 .f32) (o : Fin 4) (q : Fin 256) (b : Fin 32) (e : Fin 8) (l : Fin 128) :
    (transpose S4x256x32x8x128 [3, 1, 0, 2, 4] (shapeCast S32x256x8x4x128 x shapeCasts_S32x2048x512_S32x256x8x4x128)
      transposes_S32x256x8x4x128_S4x256x32x8x128_3_1_0_2_4 (ix5 o q b e l) : EReal)
    = x (ix3 b (⟨q.val * 8 + e.val, by omega⟩ : Fin 2048) (⟨o.val * 128 + l.val, by omega⟩ : Fin 512)) := by
  pointwise []
/-- A vector of 512 as one row. -/
theorem row512_apply (x : FVec Ideal S512 .f32) (k : Fin 512) : (shapeCast S1x512 x shapeCasts_S512_S1x512 (ix2 0 k) : EReal) = x (ix1 k) := by
  pointwise []
/-- A vector of 1024 as one row. -/
theorem row1024_apply (x : FVec Ideal S1024 .f32) (k : Fin 1024) : (shapeCast S1x1024 x shapeCasts_S1024_S1x1024 (ix2 0 k) : EReal) = x (ix1 k) := by
  pointwise []

/-! ## The arrays the kernel is launched on -/

theorem entry0 (o : Fin 4) (q : Fin 256) (b : Fin 32) (e : Fin 8) (l : Fin 128) : (V m c main_v1 (ix5 o q b e l) : EReal)
    = m ((c : Thread nD τ).loc main_arg0) (ix3 b (⟨q.val * 8 + e.val, by omega⟩ : Fin 2048) (⟨o.val * 128 + l.val, by omega⟩ : Fin 512)) := by
  entry_read
  exact grouped_apply _ o q b e l
theorem entry1 (b : Fin 32) (t : Fin 2048) (k : Fin 512) : (V m c main_v2 (ix3 b t k) : EReal) = m ((c : Thread nD τ).loc main_arg1) (ix3 b t k) := by
  entry_read
  rfl
theorem entry2 (b : Fin 32) (t : Fin 2048) (k : Fin 1024) : (V m c main_v3 (ix3 b t k) : EReal) = m ((c : Thread nD τ).loc main_arg2) (ix3 b t k) := by
  entry_read
  rfl
theorem entry3 (b : Fin 32) (t : Fin 2048) (k : Fin 1024) : (V m c main_v4 (ix3 b t k) : EReal) = m ((c : Thread nD τ).loc main_arg3) (ix3 b t k) := by
  entry_read
  rfl
theorem entry4 (b : Fin 32) (t : Fin 2048) (k : Fin 1024) : (V m c main_arg4 (ix3 b t k) : EReal) = m ((c : Thread nD τ).loc main_arg4) (ix3 b t k) := by
  rw [V_main_arg4]
theorem entry5 (b : Fin 32) (t : Fin 2048) (k : Fin 256) : (V m c main_arg5 (ix3 b t k) : EReal) = m ((c : Thread nD τ).loc main_arg5) (ix3 b t k) := by
  rw [V_main_arg5]
theorem entry6 (k : Fin 512) (n : Fin 512) : (V m c main_v5 (ix2 k n) : EReal) = m ((c : Thread nD τ).loc main_arg6) (ix2 k n) := by
  entry_read
  rfl
theorem entry7 (n : Fin 512) : (V m c main_v6 (ix2 0 n) : EReal) = m ((c : Thread nD τ).loc main_arg7) (ix1 n) := by
  entry_read
  exact row512_apply _ n
theorem entry8 (k : Fin 512) (n : Fin 1024) : (V m c main_v7 (ix2 k n) : EReal) = m ((c : Thread nD τ).loc main_arg8) (ix2 k n) := by
  entry_read
  rfl
theorem entry9 (k : Fin 512) (n : Fin 1024) : (V m c main_v8 (ix2 k n) : EReal) = m ((c : Thread nD τ).loc main_arg9) (ix2 k n) := by
  entry_read
  rfl
theorem entry10 (k : Fin 1024) (n : Fin 1024) : (V m c main_v9 (ix2 k n) : EReal) = m ((c : Thread nD τ).loc main_arg10) (ix2 k n) := by
  entry_read
  rfl
theorem entry11 (n : Fin 1024) : (V m c main_v10 (ix2 0 n) : EReal) = m ((c : Thread nD τ).loc main_arg11) (ix1 n) := by
  entry_read
  exact row1024_apply _ n
theorem entry12 (n : Fin 1024) : (V m c main_v11 (ix2 0 n) : EReal) = m ((c : Thread nD τ).loc main_arg12) (ix1 n) := by
  entry_read
  exact row1024_apply _ n
theorem entry13 (k : Fin 1024) (n : Fin 4096) : (V m c main_v12 (ix2 k n) : EReal) = m ((c : Thread nD τ).loc main_arg13) (ix2 k n) := by
  entry_read
  rfl
theorem entry14 (k : Fin 4096) (n : Fin 1024) : (V m c main_v13 (ix2 k n) : EReal) = m ((c : Thread nD τ).loc main_arg14) (ix2 k n) := by
  entry_read
  rfl
theorem entry15 (n : Fin 1024) : (V m c main_v14 (ix2 0 n) : EReal) = m ((c : Thread nD τ).loc main_arg15) (ix1 n) := by
  entry_read
  exact row1024_apply _ n
theorem entry16 (k : Fin 256) (n : Fin 1024) : (V m c main_v15 (ix2 k n) : EReal) = m ((c : Thread nD τ).loc main_arg16) (ix2 k n) := by
  entry_read
  rfl
theorem entry17 (k : Fin 1024) (n : Fin 1024) : (V m c main_v16 (ix2 k n) : EReal) = m ((c : Thread nD τ).loc main_arg17) (ix2 k n) := by
  entry_read
  rfl
theorem entry18 (n : Fin 1024) : (V m c main_v17 (ix2 0 n) : EReal) = m ((c : Thread nD τ).loc main_arg18) (ix1 n) := by
  entry_read
  exact row1024_apply _ n

/-! ## Their blocks -/

/-- The blocks' places at a grid point: its batch entry and its quarter of the tokens. -/
theorem places : ∀ t : Fin cfg0.N,
    win0_0.index t = ![0, (grid0.coords t 1).val, (grid0.coords t 0).val, 0, 0]
    ∧ win0_1.index t = ![(grid0.coords t 0).val, (grid0.coords t 1).val, 0]
    ∧ win0_2.index t = ![(grid0.coords t 0).val, (grid0.coords t 1).val, 0]
    ∧ win0_3.index t = ![(grid0.coords t 0).val, (grid0.coords t 1).val, 0]
    ∧ win0_4.index t = ![(grid0.coords t 0).val, (grid0.coords t 1).val, 0]
    ∧ win0_5.index t = ![(grid0.coords t 0).val, (grid0.coords t 1).val, 0]
    ∧ win0_19.index t = ![(grid0.coords t 0).val, (grid0.coords t 1).val, 0] := by
  decide +kernel

/-- The weights are whole. -/
theorem wholes : ∀ t : Fin cfg0.N,
    win0_6.index t = ![0, 0]
    ∧ win0_7.index t = ![0, 0]
    ∧ win0_8.index t = ![0, 0]
    ∧ win0_9.index t = ![0, 0]
    ∧ win0_10.index t = ![0, 0]
    ∧ win0_11.index t = ![0, 0]
    ∧ win0_12.index t = ![0, 0]
    ∧ win0_13.index t = ![0, 0]
    ∧ win0_14.index t = ![0, 0]
    ∧ win0_15.index t = ![0, 0]
    ∧ win0_16.index t = ![0, 0]
    ∧ win0_17.index t = ![0, 0]
    ∧ win0_18.index t = ![0, 0] := by
  decide +kernel

/-- The coordinates of a grid point. -/
theorem coords_lt : ∀ t : Fin cfg0.N, (grid0.coords t 0).val < 32 ∧ (grid0.coords t 1).val < 4 := by
  decide +kernel

section
variable (g : Fin cfg0.N)

/-- The batch entry of a grid point. -/
def batch : Fin 32 := ⟨(grid0.coords g 0).val, (coords_lt g).1⟩
/-- A token of a grid point among the 2048. -/
def token (r : Fin 512) : Fin 2048 := ⟨(grid0.coords g 1).val * 512 + r.val, by have := (coords_lt g).2; omega⟩
/-- A group of eight tokens of a grid point among the 256. -/
def group (q : Fin 64) : Fin 256 := ⟨(grid0.coords g 1).val * 64 + q.val, by have := (coords_lt g).2; omega⟩

theorem block0 (o : Fin 4) (q : Fin 64) (e : Fin 8) (l : Fin 128) : (iblk m c 0 g (ix5 o q 0 e l) : EReal) = V m c main_v1 (ix5 o (group g q) (batch g) e l) := by
  obtain ⟨p0, p1, p2, p3, p4, p5, p19⟩ := places g
  blk_ext [iblk, p0, batch, group]
theorem block1 (r : Fin 512) (k : Fin 512) : (iblk m c 1 g (ix3 0 r k) : EReal) = V m c main_v2 (ix3 (batch g) (token g r) k) := by
  obtain ⟨p0, p1, p2, p3, p4, p5, p19⟩ := places g
  blk_ext [iblk, p1, batch, token]
theorem block2 (r : Fin 512) (k : Fin 1024) : (iblk m c 2 g (ix3 0 r k) : EReal) = V m c main_v3 (ix3 (batch g) (token g r) k) := by
  obtain ⟨p0, p1, p2, p3, p4, p5, p19⟩ := places g
  blk_ext [iblk, p2, batch, token]
theorem block3 (r : Fin 512) (k : Fin 1024) : (iblk m c 3 g (ix3 0 r k) : EReal) = V m c main_v4 (ix3 (batch g) (token g r) k) := by
  obtain ⟨p0, p1, p2, p3, p4, p5, p19⟩ := places g
  blk_ext [iblk, p3, batch, token]
theorem block4 (r : Fin 512) (k : Fin 1024) : (iblk m c 4 g (ix3 0 r k) : EReal) = V m c main_arg4 (ix3 (batch g) (token g r) k) := by
  obtain ⟨p0, p1, p2, p3, p4, p5, p19⟩ := places g
  blk_ext [iblk, p4, batch, token]
theorem block5 (r : Fin 512) (k : Fin 256) : (iblk m c 5 g (ix3 0 r k) : EReal) = V m c main_arg5 (ix3 (batch g) (token g r) k) := by
  obtain ⟨p0, p1, p2, p3, p4, p5, p19⟩ := places g
  blk_ext [iblk, p5, batch, token]
theorem block6 (k : Fin 512) (n : Fin 512) : (iblk m c 6 g (ix2 k n) : EReal) = V m c main_v5 (ix2 k n) := by
  obtain ⟨p6, p7, p8, p9, p10, p11, p12, p13, p14, p15, p16, p17, p18⟩ := wholes g
  blk_ext [iblk, p6]
theorem block7 (n : Fin 512) : (iblk m c 7 g (ix2 0 n) : EReal) = V m c main_v6 (ix2 0 n) := by
  obtain ⟨p6, p7, p8, p9, p10, p11, p12, p13, p14, p15, p16, p17, p18⟩ := wholes g
  blk_ext [iblk, p7]
theorem block8 (k : Fin 512) (n : Fin 1024) : (iblk m c 8 g (ix2 k n) : EReal) = V m c main_v7 (ix2 k n) := by
  obtain ⟨p6, p7, p8, p9, p10, p11, p12, p13, p14, p15, p16, p17, p18⟩ := wholes g
  blk_ext [iblk, p8]
theorem block9 (k : Fin 512) (n : Fin 1024) : (iblk m c 9 g (ix2 k n) : EReal) = V m c main_v8 (ix2 k n) := by
  obtain ⟨p6, p7, p8, p9, p10, p11, p12, p13, p14, p15, p16, p17, p18⟩ := wholes g
  blk_ext [iblk, p9]
theorem block10 (k : Fin 1024) (n : Fin 1024) : (iblk m c 10 g (ix2 k n) : EReal) = V m c main_v9 (ix2 k n) := by
  obtain ⟨p6, p7, p8, p9, p10, p11, p12, p13, p14, p15, p16, p17, p18⟩ := wholes g
  blk_ext [iblk, p10]
theorem block11 (n : Fin 1024) : (iblk m c 11 g (ix2 0 n) : EReal) = V m c main_v10 (ix2 0 n) := by
  obtain ⟨p6, p7, p8, p9, p10, p11, p12, p13, p14, p15, p16, p17, p18⟩ := wholes g
  blk_ext [iblk, p11]
theorem block12 (n : Fin 1024) : (iblk m c 12 g (ix2 0 n) : EReal) = V m c main_v11 (ix2 0 n) := by
  obtain ⟨p6, p7, p8, p9, p10, p11, p12, p13, p14, p15, p16, p17, p18⟩ := wholes g
  blk_ext [iblk, p12]
theorem block13 (k : Fin 1024) (n : Fin 4096) : (iblk m c 13 g (ix2 k n) : EReal) = V m c main_v12 (ix2 k n) := by
  obtain ⟨p6, p7, p8, p9, p10, p11, p12, p13, p14, p15, p16, p17, p18⟩ := wholes g
  blk_ext [iblk, p13]
theorem block14 (k : Fin 4096) (n : Fin 1024) : (iblk m c 14 g (ix2 k n) : EReal) = V m c main_v13 (ix2 k n) := by
  obtain ⟨p6, p7, p8, p9, p10, p11, p12, p13, p14, p15, p16, p17, p18⟩ := wholes g
  blk_ext [iblk, p14]
theorem block15 (n : Fin 1024) : (iblk m c 15 g (ix2 0 n) : EReal) = V m c main_v14 (ix2 0 n) := by
  obtain ⟨p6, p7, p8, p9, p10, p11, p12, p13, p14, p15, p16, p17, p18⟩ := wholes g
  blk_ext [iblk, p15]
theorem block16 (k : Fin 256) (n : Fin 1024) : (iblk m c 16 g (ix2 k n) : EReal) = V m c main_v15 (ix2 k n) := by
  obtain ⟨p6, p7, p8, p9, p10, p11, p12, p13, p14, p15, p16, p17, p18⟩ := wholes g
  blk_ext [iblk, p16]
theorem block17 (k : Fin 1024) (n : Fin 1024) : (iblk m c 17 g (ix2 k n) : EReal) = V m c main_v16 (ix2 k n) := by
  obtain ⟨p6, p7, p8, p9, p10, p11, p12, p13, p14, p15, p16, p17, p18⟩ := wholes g
  blk_ext [iblk, p17]
theorem block18 (n : Fin 1024) : (iblk m c 18 g (ix2 0 n) : EReal) = V m c main_v17 (ix2 0 n) := by
  obtain ⟨p6, p7, p8, p9, p10, p11, p12, p13, p14, p15, p16, p17, p18⟩ := wholes g
  blk_ext [iblk, p18]

end

end Cert.Tail

end
-- ==== Proof.Tail.Array.lean ====
/-
  The kernel's array: what follows the two mixers, for every token.
-/
module

public import proofs.«01_k».proof.Proof.Tail.Blocks

@[expose] public section

set_option maxRecDepth 16384

noncomputable section

namespace Cert.Tail

open Cert.PostIdeal Cert.PostIdeal.Gen Idealize.ShloMosaic Idealize.ShloMosaic.TcCoe

variable (m : (ℓ : Loc nD τ sig) → Buf (Elt Ideal) ℓ) (c : Dev nD)

/-- The weights the kernel is given. -/
def weights : Weights := argWeights (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))
/-- Its tokens. -/
def tokens (b : Fin 32) (t : Fin 2048) : Token := argToken (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) b t

/-- Blocks that hold the arguments' entries hold their weights. -/
theorem blockWeights_eq (x6 : Vec Ideal S512x512 .bf16) (x7 : Vec Ideal S1x512 .f32) (x8 : Vec Ideal S512x1024 .bf16) (x9 : Vec Ideal S512x1024 .bf16) (x10 : Vec Ideal S1024x1024 .bf16) (x11 : Vec Ideal S1x1024 .f32) (x12 : Vec Ideal S1x1024 .f32) (x13 : Vec Ideal S1024x4096 .bf16) (x14 : Vec Ideal S4096x1024 .bf16) (x15 : Vec Ideal S1x1024 .f32) (x16 : Vec Ideal S256x1024 .bf16) (x17 : Vec Ideal S1024x1024 .bf16) (x18 : Vec Ideal S1x1024 .f32)
    (a6 : FVec Ideal S512x512 .f32) (a7 : FVec Ideal S512 .f32) (a8 : FVec Ideal S512x1024 .f32) (a9 : FVec Ideal S512x1024 .f32) (a10 : FVec Ideal S1024x1024 .f32) (a11 : FVec Ideal S1024 .f32) (a12 : FVec Ideal S1024 .f32) (a13 : FVec Ideal S1024x4096 .f32) (a14 : FVec Ideal S4096x1024 .f32) (a15 : FVec Ideal S1024 .f32) (a16 : FVec Ideal S256x1024 .f32) (a17 : FVec Ideal S1024x1024 .f32) (a18 : FVec Ideal S1024 .f32)
    (h6 : ∀ k n, (x6 (ix2 k n) : EReal) = a6 (ix2 k n))
    (h7 : ∀ n, (x7 (ix2 0 n) : EReal) = a7 (ix1 n))
    (h8 : ∀ k n, (x8 (ix2 k n) : EReal) = a8 (ix2 k n))
    (h9 : ∀ k n, (x9 (ix2 k n) : EReal) = a9 (ix2 k n))
    (h10 : ∀ k n, (x10 (ix2 k n) : EReal) = a10 (ix2 k n))
    (h11 : ∀ n, (x11 (ix2 0 n) : EReal) = a11 (ix1 n))
    (h12 : ∀ n, (x12 (ix2 0 n) : EReal) = a12 (ix1 n))
    (h13 : ∀ k n, (x13 (ix2 k n) : EReal) = a13 (ix2 k n))
    (h14 : ∀ k n, (x14 (ix2 k n) : EReal) = a14 (ix2 k n))
    (h15 : ∀ n, (x15 (ix2 0 n) : EReal) = a15 (ix1 n))
    (h16 : ∀ k n, (x16 (ix2 k n) : EReal) = a16 (ix2 k n))
    (h17 : ∀ k n, (x17 (ix2 k n) : EReal) = a17 (ix2 k n))
    (h18 : ∀ n, (x18 (ix2 0 n) : EReal) = a18 (ix1 n)) :
    blockWeights x6 x7 x8 x9 x10 x11 x12 x13 x14 x15 x16 x17 x18 = argWeights a6 a7 a8 a9 a10 a11 a12 a13 a14 a15 a16 a17 a18 := by
  refine Weights.ext ?_ ?_ ?_ ?_ ?_ ?_ ?_ ?_ ?_ ?_ ?_ ?_ ?_
  · exact funext fun k => funext fun n => h6 k n
  · exact funext fun n => h7 n
  · exact funext fun k => funext fun n => h8 k n
  · exact funext fun k => funext fun n => h9 k n
  · exact funext fun k => funext fun n => h10 k n
  · exact funext fun n => h11 n
  · exact funext fun n => h12 n
  · exact funext fun k => funext fun n => h13 k n
  · exact funext fun k => funext fun n => h14 k n
  · exact funext fun n => h15 n
  · exact funext fun k => funext fun n => h16 k n
  · exact funext fun k => funext fun n => h17 k n
  · exact funext fun n => h18 n

/-- Blocks that hold the arguments' entries of a token hold that token. -/
theorem blockToken_eq (x0 : Vec Ideal S4x64x1x8x128 .f32) (x1 : Vec Ideal S1x512x512 .bf16) (x2 x3 : Vec Ideal S1x512x1024 .bf16) (x4 : Vec Ideal S1x512x1024 .f32)
    (x5 : Vec Ideal S1x512x256 .f32) (a0 a1 : FVec Ideal S32x2048x512 .f32) (a2 a3 a4 : FVec Ideal S32x2048x1024 .f32) (a5 : FVec Ideal S32x2048x256 .f32)
    (r : Fin 2) (q : Fin 256) (b : Fin 32) (t : Fin 2048)
    (h0 : ∀ k : Fin 512, (x0 (ix5 (⟨k.val / 128, by omega⟩ : Fin 4) (⟨32 * r.val + q.val / 8, by omega⟩ : Fin 64) 0 (⟨q.val % 8, by omega⟩ : Fin 8)
      (⟨k.val % 128, by omega⟩ : Fin 128)) : EReal) = a0 (ix3 b t k))
    (h1 : ∀ k, (x1 (ix3 0 (place r q) k) : EReal) = a1 (ix3 b t k)) (h2 : ∀ k, (x2 (ix3 0 (place r q) k) : EReal) = a2 (ix3 b t k))
    (h3 : ∀ k, (x3 (ix3 0 (place r q) k) : EReal) = a3 (ix3 b t k)) (h4 : ∀ k, (x4 (ix3 0 (place r q) k) : EReal) = a4 (ix3 b t k))
    (h5 : ∀ k, (x5 (ix3 0 (place r q) k) : EReal) = a5 (ix3 b t k)) : blockToken x0 x1 x2 x3 x4 x5 r q = argToken a0 a1 a2 a3 a4 a5 b t := by
  refine Token.ext ?_ ?_ ?_ ?_ ?_ ?_
  · exact funext fun k => h0 k
  · exact funext fun k => h1 k
  · exact funext fun k => h2 k
  · exact funext fun k => h3 k
  · exact funext fun k => h4 k
  · exact funext fun k => h5 k

/-- A grid point holds all the weights. -/
theorem weights_block (g : Fin cfg0.N) : blockWeights (iblk m c 6 g) (iblk m c 7 g) (iblk m c 8 g) (iblk m c 9 g) (iblk m c 10 g) (iblk m c 11 g) (iblk m c 12 g) (iblk m c 13 g) (iblk m c 14 g) (iblk m c 15 g) (iblk m c 16 g) (iblk m c 17 g) (iblk m c 18 g) = weights m c :=
  blockWeights_eq _ _ _ _ _ _ _ _ _ _ _ _ _ _ _ _ _ _ _ _ _ _ _ _ _ _
    (fun k n => (block6 m c g k n).trans (entry6 m c k n))
    (fun n => (block7 m c g n).trans (entry7 m c n))
    (fun k n => (block8 m c g k n).trans (entry8 m c k n))
    (fun k n => (block9 m c g k n).trans (entry9 m c k n))
    (fun k n => (block10 m c g k n).trans (entry10 m c k n))
    (fun n => (block11 m c g n).trans (entry11 m c n))
    (fun n => (block12 m c g n).trans (entry12 m c n))
    (fun k n => (block13 m c g k n).trans (entry13 m c k n))
    (fun k n => (block14 m c g k n).trans (entry14 m c k n))
    (fun n => (block15 m c g n).trans (entry15 m c n))
    (fun k n => (block16 m c g k n).trans (entry16 m c k n))
    (fun k n => (block17 m c g k n).trans (entry17 m c k n))
    (fun n => (block18 m c g n).trans (entry18 m c n))

/-- The mixer's output of a row of a grid point's sub-tile. -/
theorem block0_token (g : Fin cfg0.N) (r : Fin 2) (q : Fin 256) (k : Fin 512) :
    (iblk m c 0 g (ix5 (⟨k.val / 128, by omega⟩ : Fin 4) (⟨32 * r.val + q.val / 8, by omega⟩ : Fin 64) 0 (⟨q.val % 8, by omega⟩ : Fin 8)
      (⟨k.val % 128, by omega⟩ : Fin 128)) : EReal) = m ((c : Thread nD τ).loc main_arg0) (ix3 (batch g) (token g (place r q)) k) := by
  refine ((block0 m c g _ _ _ _).trans (entry0 m c _ _ _ _ _)).trans ?_
  refine congrArg₂ (fun t k => (m ((c : Thread nD τ).loc main_arg0) (ix3 (batch g) t k) : EReal)) (Fin.ext ?_) (Fin.ext ?_)
  · show ((grid0.coords g 1).val * 64 + (32 * r.val + q.val / 8)) * 8 + q.val % 8 = (grid0.coords g 1).val * 512 + (256 * r.val + q.val)
    omega
  · show k.val / 128 * 128 + k.val % 128 = k.val
    omega

/-- A row of a grid point's sub-tile is its token. -/
theorem token_block (g : Fin cfg0.N) (r : Fin 2) (q : Fin 256) :
    blockToken (iblk m c 0 g) (iblk m c 1 g) (iblk m c 2 g) (iblk m c 3 g) (iblk m c 4 g) (iblk m c 5 g) r q = tokens m c (batch g) (token g (place r q)) :=
  blockToken_eq _ _ _ _ _ _ _ _ _ _ _ _ r q _ _
    (block0_token m c g r q)
    (fun k => (block1 m c g _ k).trans (entry1 m c _ _ k))
    (fun k => (block2 m c g _ k).trans (entry2 m c _ _ k))
    (fun k => (block3 m c g _ k).trans (entry3 m c _ _ k))
    (fun k => (block4 m c g _ k).trans (entry4 m c _ _ k))
    (fun k => (block5 m c g _ k).trans (entry5 m c _ _ k))

/-- What a grid point writes. -/
theorem point_apply (g : Fin cfg0.N) (r : Fin 2) (q : Fin 256) (n : Fin 1024) :
    (out0_19 (iblk m c 0 g) (iblk m c 1 g) (iblk m c 2 g) (iblk m c 3 g) (iblk m c 4 g) (iblk m c 5 g) (iblk m c 6 g) (iblk m c 7 g) (iblk m c 8 g) (iblk m c 9 g) (iblk m c 10 g) (iblk m c 11 g) (iblk m c 12 g) (iblk m c 13 g) (iblk m c 14 g) (iblk m c 15 g) (iblk m c 16 g) (iblk m c 17 g) (iblk m c 18 g) (ix3 0 (place r q) n) : EReal) = final (weights m c) (tokens m c (batch g) (token g (place r q))) n := by
  rw [out_at, tile_apply, weights_block, token_block]

/-- The layer's output for every token. -/
def tailed (w : Weights) (t : Fin 32 → Fin 2048 → Token) : FVec Ideal S32x2048x1024 .f32 := fun z => final w (t (z 0) (z 1)) (z 2)

theorem tailed_apply (w : Weights) (t : Fin 32 → Fin 2048 → Token) (z : S32x2048x1024.Idx) (b : Fin 32) (i : Fin 2048) (n : Fin 1024)
    (z0 : (z 0).val = b.val) (z1 : (z 1).val = i.val) (z2 : (z 2).val = n.val) : (tailed w t z : EReal) = final w (t b i) n := by
  have e0 : z 0 = b := Fin.ext z0
  have e1 : z 1 = i := Fin.ext z1
  have e2 : z 2 = n := Fin.ext z2
  unfold tailed
  rw [e0, e1, e2]

/-- The kernel's array after the run. -/
theorem array_eq : (dats m 0 c).arrAt 19 cfg0.N = tailed (weights m c) (tokens m c) := by
  refine (dats m 0 c).arrAt_eq_of_covers 19 _ (by decide +kernel) fun t hf y => ?_
  obtain ⟨p0, p1, p2, p3, p4, p5, p19⟩ := places t
  have hy0 : (y 0).val < 1 := (y 0).isLt
  have hy1 : (y 1).val < 512 := (y 1).isLt
  have hy2 : (y 2).val < 1024 := (y 2).isLt
  have hc := (coords_lt t).2
  blk_simp
  rw [after0_19]
  have hy : y = ix3 0 (place (⟨(y 1).val / 256, by omega⟩ : Fin 2) (⟨(y 1).val % 256, by omega⟩ : Fin 256)) (⟨(y 2).val, hy2⟩ : Fin 1024) := by
    funext a
    fin_cases a
    · exact Fin.ext (by show (y 0).val = 0; omega)
    · exact Fin.ext (by show (y 1).val = 256 * ((y 1).val / 256) + (y 1).val % 256; omega)
    · rfl
  refine (congrArg _ hy).trans ((point_apply m c t _ _ _).trans (tailed_apply _ _ _ _ _ _ ?_ ?_ ?_).symm)
  · blk_simp [p19]
    rfl
  · blk_simp [p19]
    show (grid0.coords t 1).val * 512 + (y 1).val = (grid0.coords t 1).val * 512 + (256 * ((y 1).val / 256) + (y 1).val % 256)
    omega
  · blk_simp [p19]

end Cert.Tail

end
-- ==== Proof.Tail.Reference.lean ====
/-
  The reference's result at an index: what follows the two mixers, for that token.
-/
module

public import proofs.«01_k».proof.Proof.Tail.Args
public import proofs.«01_k».proof.Proof.Gen.PostReferenceIdeal.Run
public import Idealize.ShloMosaic.Lib.Pointwise

@[expose] public section

set_option maxRecDepth 16384

noncomputable section

namespace Cert.Tail.Ref

open Cert.PostReferenceIdeal Cert.PostReferenceIdeal.Gen Cert.PostReferenceIdeal.Value Idealize.ShloMosaic Cert.Tail

/-! ## The operations -/

/-- Rows over their root mean square, times a gain. -/
def normed (v : FVec Ideal S32x2048x1024 .f32) (g : FVec Ideal S1024 .f32) : FVec Ideal S32x2048x1024 .f32 :=
  mulf (mulf v (broadcastInDim S32x2048x1024 ![0, 1, 2] bcast_S32x2048x1_S32x2048x1024_0_1_2
    (Host.rsqrt (addf (Host.divf (broadcastInDim S32x2048x1 ![0, 1] bcast_S32x2048_S32x2048x1_0_1
      (Host.reduceAdd (mulf v v) (constant S_ .f32 0x00000000#32) reducesTo_S32x2048x1024_S32x2048_d2 h_S_))
      (broadcastInDim S32x2048x1 ![] bcast_S_S32x2048x1 (constant S_ .f32 0x44800000#32)))
      (broadcastInDim S32x2048x1 ![] bcast_S_S32x2048x1 (constant S_ .f32 0x358637BD#32))))))
    (broadcastInDim S32x2048x1024 ![0, 1, 2] bcast_S1x1x1024_S32x2048x1024_0_1_2 (broadcastInDim S1x1x1024 ![2] bcast_S1024_S1x1x1024_2 g))
/-- The gated unit. -/
def unit (y : FVec Ideal S32x2048x512 .f32) (w : FVec Ideal S512x512 .f32) (b : FVec Ideal S512 .f32) : FVec Ideal S32x2048x512 .f32 :=
  mulf y (Host.divf (broadcastInDim S32x2048x512 ![] bcast_S_S32x2048x512 (constant S_ .f32 0x3F800000#32))
    (addf (broadcastInDim S32x2048x512 ![] bcast_S_S32x2048x512 (constant S_ .f32 0x3F800000#32))
      (Host.exp (Host.negf (addf (Host.dotGeneral dot_S32x2048x512_S512x512_S32x2048x512_2_0_01_1_n_n none y w)
        (broadcastInDim S32x2048x512 ![0, 1, 2] bcast_S1x1x512_S32x2048x512_0_1_2 (broadcastInDim S1x1x512 ![2] bcast_S512_S1x1x512_2 b)))))))
/-- A branch's projection. -/
def branch (a : FVec Ideal S32x2048x512 .f32) (w : FVec Ideal S512x1024 .f32) : FVec Ideal S32x2048x1024 .f32 :=
  Host.dotGeneral dot_S32x2048x512_S512x1024_S32x2048x1024_2_0_01_1_n_n none a w
/-- A square product. -/
def square (a : FVec Ideal S32x2048x1024 .f32) (w : FVec Ideal S1024x1024 .f32) : FVec Ideal S32x2048x1024 .f32 :=
  Host.dotGeneral dot_S32x2048x1024_S1024x1024_S32x2048x1024_2_0_01_1_n_n none a w
/-- The hidden channels. -/
def channels (a : FVec Ideal S32x2048x1024 .f32) (w : FVec Ideal S1024x4096 .f32) : FVec Ideal S32x2048x4096 .f32 :=
  maximumf (Host.dotGeneral dot_S32x2048x1024_S1024x4096_S32x2048x4096_2_0_01_1_n_n none a w)
    (broadcastInDim S32x2048x4096 ![] bcast_S_S32x2048x4096 (constant S_ .f32 0x00000000#32))
/-- The squares of the hidden channels, projected. -/
def back (a : FVec Ideal S32x2048x4096 .f32) (w : FVec Ideal S4096x1024 .f32) : FVec Ideal S32x2048x1024 .f32 :=
  Host.dotGeneral dot_S32x2048x4096_S4096x1024_S32x2048x1024_2_0_01_1_n_n none (mulf a a) w
/-- The gated embedding, from the gate's logits. -/
def embedding (p : FVec Ideal S32x2048x256 .f32) (w : FVec Ideal S256x1024 .f32) (s : FVec Ideal S32x2048x1024 .f32) : FVec Ideal S32x2048x1024 .f32 :=
  mulf (Host.dotGeneral dot_S32x2048x256_S256x1024_S32x2048x1024_2_0_01_1_n_n none p w)
    (Host.divf (broadcastInDim S32x2048x1024 ![] bcast_S_S32x2048x1024 (constant S_ .f32 0x3F800000#32))
      (addf (broadcastInDim S32x2048x1024 ![] bcast_S_S32x2048x1024 (constant S_ .f32 0x3F800000#32)) (Host.exp (Host.negf s))))

section
variable (b : Fin 32) (t : Fin 2048) (n : Fin 1024)

theorem normed_apply (v : FVec Ideal S32x2048x1024 .f32) (g : FVec Ideal S1024 .f32) :
    (normed v g (ix3 b t n) : EReal) = norm (fun k => v (ix3 b t k)) n * g (ix1 n) := by
  pointwise [normed, norm]
theorem unit_apply (y : FVec Ideal S32x2048x512 .f32) (w : FVec Ideal S512x512 .f32) (s : FVec Ideal S512 .f32) (k : Fin 512) :
    (unit y w s (ix3 b t k) : EReal) = y (ix3 b t k) * Ideal.logistic (∑ j : Fin 512, (y (ix3 b t j) : EReal) * w (ix2 j k) + s (ix1 k)) := by
  have h : (unit y w s (ix3 b t k) : EReal) = y (ix3 b t k) * Ideal.div (Ideal.ofBits .f32 0x3F800000#32)
      (Ideal.ofBits .f32 0x3F800000#32 + Ideal.exp (-(∑ j : Fin 512, (y (ix3 b t j) : EReal) * w (ix2 j k) + s (ix1 k)))) := by
    pointwise [unit]
  rw [h, bits_one]
  rfl
theorem branch_apply (a : FVec Ideal S32x2048x512 .f32) (w : FVec Ideal S512x1024 .f32) :
    (branch a w (ix3 b t n) : EReal) = ∑ k : Fin 512, (a (ix3 b t k) : EReal) * w (ix2 k n) := by
  pointwise [branch]
theorem square_apply (a : FVec Ideal S32x2048x1024 .f32) (w : FVec Ideal S1024x1024 .f32) :
    (square a w (ix3 b t n) : EReal) = ∑ k : Fin 1024, (a (ix3 b t k) : EReal) * w (ix2 k n) := by
  pointwise [square]
theorem channels_apply (a : FVec Ideal S32x2048x1024 .f32) (w : FVec Ideal S1024x4096 .f32) (j : Fin 4096) :
    (channels a w (ix3 b t j) : EReal) = max (∑ k : Fin 1024, (a (ix3 b t k) : EReal) * w (ix2 k j)) 0 := by
  have h : (channels a w (ix3 b t j) : EReal) = max (∑ k : Fin 1024, (a (ix3 b t k) : EReal) * w (ix2 k j)) (Ideal.ofBits .f32 0x00000000#32) := by
    pointwise [channels]
  rw [h, bits_zero]
theorem back_apply (a : FVec Ideal S32x2048x4096 .f32) (w : FVec Ideal S4096x1024 .f32) :
    (back a w (ix3 b t n) : EReal) = ∑ j : Fin 4096, (a (ix3 b t j) : EReal) * a (ix3 b t j) * w (ix2 j n) := by
  pointwise [back]
theorem embedding_apply (p : FVec Ideal S32x2048x256 .f32) (w : FVec Ideal S256x1024 .f32) (s : FVec Ideal S32x2048x1024 .f32) :
    (embedding p w s (ix3 b t n) : EReal) = (∑ k : Fin 256, (p (ix3 b t k) : EReal) * w (ix2 k n)) * Ideal.logistic (s (ix3 b t n)) := by
  have h : (embedding p w s (ix3 b t n) : EReal) = (∑ k : Fin 256, (p (ix3 b t k) : EReal) * w (ix2 k n))
      * Ideal.div (Ideal.ofBits .f32 0x3F800000#32) (Ideal.ofBits .f32 0x3F800000#32 + Ideal.exp (-(s (ix3 b t n)))) := by
    pointwise [embedding]
  rw [h, bits_one]
  rfl
theorem addf_apply (x y : FVec Ideal S32x2048x1024 .f32) : (addf x y (ix3 b t n) : EReal) = x (ix3 b t n) + y (ix3 b t n) := rfl
theorem mulf_apply (x y : FVec Ideal S32x2048x1024 .f32) : (mulf x y (ix3 b t n) : EReal) = x (ix3 b t n) * y (ix3 b t n) := rfl
end

/-! ## The stages -/

section
variable (V0 : Valuation τ sig (Elt Ideal))

/-- The mix, in the operations above. -/
theorem stage_mixed : res_main_v16 V0 = square (addf (mulf (V0 (Proc.devRef .tc main_arg2)) (branch (unit (V0 (Proc.devRef .tc main_arg0)) (V0 (Proc.devRef .tc main_arg6)) (V0 (Proc.devRef .tc main_arg7))) (V0 (Proc.devRef .tc main_arg8)))) (mulf (V0 (Proc.devRef .tc main_arg3)) (branch (V0 (Proc.devRef .tc main_arg1)) (V0 (Proc.devRef .tc main_arg9))))) (V0 (Proc.devRef .tc main_arg10)) := rfl
/-- The stream after the mixers. -/
theorem stage_first : res_main_v30 V0 = addf (V0 (Proc.devRef .tc main_arg4)) (normed (res_main_v16 V0) (V0 (Proc.devRef .tc main_arg11))) := rfl
/-- The hidden channels. -/
theorem stage_hidden : res_main_v45 V0 = channels (normed (res_main_v30 V0) (V0 (Proc.devRef .tc main_arg12))) (V0 (Proc.devRef .tc main_arg13)) := rfl
/-- The feed-forward part. -/
theorem stage_fed : res_main_v47 V0 = back (res_main_v45 V0) (V0 (Proc.devRef .tc main_arg14)) := rfl
/-- The stream after it. -/
theorem stage_second : res_main_v61 V0 = addf (res_main_v30 V0) (normed (res_main_v47 V0) (V0 (Proc.devRef .tc main_arg15))) := rfl
/-- The gated embedding. -/
theorem stage_embedded : res_main_v70 V0 = embedding (V0 (Proc.devRef .tc main_arg5)) (V0 (Proc.devRef .tc main_arg16)) (square (res_main_v61 V0) (V0 (Proc.devRef .tc main_arg17))) := rfl

/-- The weights the reference is given. -/
abbrev weights : Weights := argWeights (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (V0 (Proc.devRef .tc main_arg18))
/-- Its tokens. -/
abbrev token (b : Fin 32) (t : Fin 2048) : Token := argToken (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) b t

variable (b : Fin 32) (t : Fin 2048)

theorem mixed_apply (n : Fin 1024) : (res_main_v16 V0 (ix3 b t n) : EReal) = mixed (weights V0) (token V0 b t) n := by
  rw [stage_mixed]
  refine (square_apply b t n _ _).trans (Finset.sum_congr rfl fun k _ => congrArg (· * _) ?_)
  refine (addf_apply b t k _ _).trans (congrArg₂ (· + ·) ?_ ?_)
  · refine (mulf_apply b t k _ _).trans (congrArg (fun z : EReal => (_ : EReal) * z) ((branch_apply b t k _ _).trans (Finset.sum_congr rfl fun j _ => congrArg (· * _) ?_)))
    exact unit_apply b t _ _ _ j
  · exact (mulf_apply b t k _ _).trans (congrArg (fun z : EReal => (_ : EReal) * z) (branch_apply b t k _ _))
theorem first_apply (n : Fin 1024) : (res_main_v30 V0 (ix3 b t n) : EReal) = first (weights V0) (token V0 b t) n := by
  rw [stage_first]
  refine (addf_apply b t n _ _).trans (congrArg (fun z : EReal => (_ : EReal) + z) ((normed_apply b t n _ _).trans (congrArg (fun v => norm v n * _) ?_)))
  exact funext fun k => mixed_apply V0 b t k
theorem hidden_apply (j : Fin 4096) : (res_main_v45 V0 (ix3 b t j) : EReal) = hidden (weights V0) (token V0 b t) j := by
  rw [stage_hidden]
  refine (channels_apply b t _ _ j).trans (congrArg (max · 0) (Finset.sum_congr rfl fun k _ => congrArg (· * _) ?_))
  refine (normed_apply b t k _ _).trans (congrArg (fun v => norm v k * _) ?_)
  exact funext fun k => first_apply V0 b t k
theorem fed_apply (n : Fin 1024) : (res_main_v47 V0 (ix3 b t n) : EReal) = fed (weights V0) (token V0 b t) n := by
  rw [stage_fed]
  refine (back_apply b t n _ _).trans (Finset.sum_congr rfl fun j _ => ?_)
  rw [hidden_apply]
  rfl
theorem second_apply (n : Fin 1024) : (res_main_v61 V0 (ix3 b t n) : EReal) = second (weights V0) (token V0 b t) n := by
  rw [stage_second]
  refine (addf_apply b t n _ _).trans (congrArg₂ (· + ·) (first_apply V0 b t n) ((normed_apply b t n _ _).trans (congrArg (fun v => norm v n * _) ?_)))
  exact funext fun k => fed_apply V0 b t k
theorem embedded_apply (n : Fin 1024) : (res_main_v70 V0 (ix3 b t n) : EReal) = embedded (weights V0) (token V0 b t) n := by
  rw [stage_embedded]
  refine (embedding_apply b t n _ _ _).trans (congrArg (_ * Ideal.logistic ·) ((square_apply b t n _ _).trans (Finset.sum_congr rfl fun k _ => ?_)))
  rw [second_apply]
  rfl
/-- The reference's result at a token. -/
theorem result_apply (n : Fin 1024) :
    (addf (res_main_v61 V0) (normed (res_main_v70 V0) (V0 (Proc.devRef .tc main_arg18))) (ix3 b t n) : EReal) = final (weights V0) (token V0 b t) n := by
  refine (addf_apply b t n _ _).trans (congrArg₂ (· + ·) (second_apply V0 b t n) ((normed_apply b t n _ _).trans (congrArg (fun v => norm v n * _) ?_)))
  exact funext fun k => embedded_apply V0 b t k

end

end Cert.Tail.Ref

end
-- ==== Proof.Tail.Equation.lean ====
/-
  The two programs of what follows the mixers agree: both hold the layer's output for every token.
-/
module

public import proofs.«01_k».proof.Defs
public import proofs.«01_k».proof.Proof.Tail.Array
public import proofs.«01_k».proof.Proof.Tail.Reference

@[expose] public section

set_option maxRecDepth 16384

noncomputable section

namespace Cert.Tail

open Idealize.ShloMosaic Idealize.ShloMosaic.TcCoe Idealize.ShloMosaic.StableHlo

/-- The reference's result, from what it is launched on. -/
def referenceResult (V0 : Valuation Cert.PostReferenceIdeal.τ Cert.PostReferenceIdeal.sig (Elt Ideal)) : FVec Ideal Cert.PostIdeal.S32x2048x1024 .f32 :=
  addf (Cert.PostReferenceIdeal.Value.res_main_v61 V0) (Ref.normed (Cert.PostReferenceIdeal.Value.res_main_v70 V0) (V0 (Proc.devRef .tc Cert.PostReferenceIdeal.main_arg18)))

/-- It is the layer's output for every token. -/
theorem reference_eq (V0 : Valuation Cert.PostReferenceIdeal.τ Cert.PostReferenceIdeal.sig (Elt Ideal)) : referenceResult V0 = tailed (Ref.weights V0) (Ref.token V0) := by
  funext z
  have hz : z = ix3 (z 0) (z 1) (z 2) := by
    funext a
    fin_cases a <;> rfl
  exact (congrArg _ hz).trans (Ref.result_apply V0 (z 0) (z 1) (z 2))

variable (m : (ℓ : Loc Cert.PostIdeal.nD Cert.PostIdeal.τ Cert.PostIdeal.sig) → Buf (Elt Ideal) ℓ)
  (m' : (ℓ : Loc Cert.PostReferenceIdeal.nD Cert.PostReferenceIdeal.τ Cert.PostReferenceIdeal.sig) → Buf (Elt Ideal) ℓ) (c : Dev Cert.PostIdeal.nD)

/-- The kernel's array is the reference's result. -/
theorem array_eq_reference
    (h0 : m' ((c.tc : Thread Cert.PostReferenceIdeal.nD Cert.PostReferenceIdeal.τ).loc Cert.PostReferenceIdeal.main_arg0) = m ((c.tc : Thread Cert.PostIdeal.nD Cert.PostIdeal.τ).loc Cert.PostIdeal.main_arg0))
    (h1 : m' ((c.tc : Thread Cert.PostReferenceIdeal.nD Cert.PostReferenceIdeal.τ).loc Cert.PostReferenceIdeal.main_arg1) = m ((c.tc : Thread Cert.PostIdeal.nD Cert.PostIdeal.τ).loc Cert.PostIdeal.main_arg1))
    (h2 : m' ((c.tc : Thread Cert.PostReferenceIdeal.nD Cert.PostReferenceIdeal.τ).loc Cert.PostReferenceIdeal.main_arg2) = m ((c.tc : Thread Cert.PostIdeal.nD Cert.PostIdeal.τ).loc Cert.PostIdeal.main_arg2))
    (h3 : m' ((c.tc : Thread Cert.PostReferenceIdeal.nD Cert.PostReferenceIdeal.τ).loc Cert.PostReferenceIdeal.main_arg3) = m ((c.tc : Thread Cert.PostIdeal.nD Cert.PostIdeal.τ).loc Cert.PostIdeal.main_arg3))
    (h4 : m' ((c.tc : Thread Cert.PostReferenceIdeal.nD Cert.PostReferenceIdeal.τ).loc Cert.PostReferenceIdeal.main_arg4) = m ((c.tc : Thread Cert.PostIdeal.nD Cert.PostIdeal.τ).loc Cert.PostIdeal.main_arg4))
    (h5 : m' ((c.tc : Thread Cert.PostReferenceIdeal.nD Cert.PostReferenceIdeal.τ).loc Cert.PostReferenceIdeal.main_arg5) = m ((c.tc : Thread Cert.PostIdeal.nD Cert.PostIdeal.τ).loc Cert.PostIdeal.main_arg5))
    (h6 : m' ((c.tc : Thread Cert.PostReferenceIdeal.nD Cert.PostReferenceIdeal.τ).loc Cert.PostReferenceIdeal.main_arg6) = m ((c.tc : Thread Cert.PostIdeal.nD Cert.PostIdeal.τ).loc Cert.PostIdeal.main_arg6))
    (h7 : m' ((c.tc : Thread Cert.PostReferenceIdeal.nD Cert.PostReferenceIdeal.τ).loc Cert.PostReferenceIdeal.main_arg7) = m ((c.tc : Thread Cert.PostIdeal.nD Cert.PostIdeal.τ).loc Cert.PostIdeal.main_arg7))
    (h8 : m' ((c.tc : Thread Cert.PostReferenceIdeal.nD Cert.PostReferenceIdeal.τ).loc Cert.PostReferenceIdeal.main_arg8) = m ((c.tc : Thread Cert.PostIdeal.nD Cert.PostIdeal.τ).loc Cert.PostIdeal.main_arg8))
    (h9 : m' ((c.tc : Thread Cert.PostReferenceIdeal.nD Cert.PostReferenceIdeal.τ).loc Cert.PostReferenceIdeal.main_arg9) = m ((c.tc : Thread Cert.PostIdeal.nD Cert.PostIdeal.τ).loc Cert.PostIdeal.main_arg9))
    (h10 : m' ((c.tc : Thread Cert.PostReferenceIdeal.nD Cert.PostReferenceIdeal.τ).loc Cert.PostReferenceIdeal.main_arg10) = m ((c.tc : Thread Cert.PostIdeal.nD Cert.PostIdeal.τ).loc Cert.PostIdeal.main_arg10))
    (h11 : m' ((c.tc : Thread Cert.PostReferenceIdeal.nD Cert.PostReferenceIdeal.τ).loc Cert.PostReferenceIdeal.main_arg11) = m ((c.tc : Thread Cert.PostIdeal.nD Cert.PostIdeal.τ).loc Cert.PostIdeal.main_arg11))
    (h12 : m' ((c.tc : Thread Cert.PostReferenceIdeal.nD Cert.PostReferenceIdeal.τ).loc Cert.PostReferenceIdeal.main_arg12) = m ((c.tc : Thread Cert.PostIdeal.nD Cert.PostIdeal.τ).loc Cert.PostIdeal.main_arg12))
    (h13 : m' ((c.tc : Thread Cert.PostReferenceIdeal.nD Cert.PostReferenceIdeal.τ).loc Cert.PostReferenceIdeal.main_arg13) = m ((c.tc : Thread Cert.PostIdeal.nD Cert.PostIdeal.τ).loc Cert.PostIdeal.main_arg13))
    (h14 : m' ((c.tc : Thread Cert.PostReferenceIdeal.nD Cert.PostReferenceIdeal.τ).loc Cert.PostReferenceIdeal.main_arg14) = m ((c.tc : Thread Cert.PostIdeal.nD Cert.PostIdeal.τ).loc Cert.PostIdeal.main_arg14))
    (h15 : m' ((c.tc : Thread Cert.PostReferenceIdeal.nD Cert.PostReferenceIdeal.τ).loc Cert.PostReferenceIdeal.main_arg15) = m ((c.tc : Thread Cert.PostIdeal.nD Cert.PostIdeal.τ).loc Cert.PostIdeal.main_arg15))
    (h16 : m' ((c.tc : Thread Cert.PostReferenceIdeal.nD Cert.PostReferenceIdeal.τ).loc Cert.PostReferenceIdeal.main_arg16) = m ((c.tc : Thread Cert.PostIdeal.nD Cert.PostIdeal.τ).loc Cert.PostIdeal.main_arg16))
    (h17 : m' ((c.tc : Thread Cert.PostReferenceIdeal.nD Cert.PostReferenceIdeal.τ).loc Cert.PostReferenceIdeal.main_arg17) = m ((c.tc : Thread Cert.PostIdeal.nD Cert.PostIdeal.τ).loc Cert.PostIdeal.main_arg17))
    (h18 : m' ((c.tc : Thread Cert.PostReferenceIdeal.nD Cert.PostReferenceIdeal.τ).loc Cert.PostReferenceIdeal.main_arg18) = m ((c.tc : Thread Cert.PostIdeal.nD Cert.PostIdeal.τ).loc Cert.PostIdeal.main_arg18)) :
    (Cert.PostIdeal.Gen.dats m 0 c).arrAt 19 Cert.PostIdeal.cfg0.N = referenceResult (launchContents m' c) := by
  refine (array_eq m c).trans ((reference_eq (launchContents m' c)).trans (congrArg₂ tailed ?_ ?_)).symm
  · show argWeights (m' ((c.tc : Thread Cert.PostReferenceIdeal.nD Cert.PostReferenceIdeal.τ).loc Cert.PostReferenceIdeal.main_arg6)) (m' ((c.tc : Thread Cert.PostReferenceIdeal.nD Cert.PostReferenceIdeal.τ).loc Cert.PostReferenceIdeal.main_arg7)) (m' ((c.tc : Thread Cert.PostReferenceIdeal.nD Cert.PostReferenceIdeal.τ).loc Cert.PostReferenceIdeal.main_arg8)) (m' ((c.tc : Thread Cert.PostReferenceIdeal.nD Cert.PostReferenceIdeal.τ).loc Cert.PostReferenceIdeal.main_arg9)) (m' ((c.tc : Thread Cert.PostReferenceIdeal.nD Cert.PostReferenceIdeal.τ).loc Cert.PostReferenceIdeal.main_arg10)) (m' ((c.tc : Thread Cert.PostReferenceIdeal.nD Cert.PostReferenceIdeal.τ).loc Cert.PostReferenceIdeal.main_arg11)) (m' ((c.tc : Thread Cert.PostReferenceIdeal.nD Cert.PostReferenceIdeal.τ).loc Cert.PostReferenceIdeal.main_arg12)) (m' ((c.tc : Thread Cert.PostReferenceIdeal.nD Cert.PostReferenceIdeal.τ).loc Cert.PostReferenceIdeal.main_arg13)) (m' ((c.tc : Thread Cert.PostReferenceIdeal.nD Cert.PostReferenceIdeal.τ).loc Cert.PostReferenceIdeal.main_arg14)) (m' ((c.tc : Thread Cert.PostReferenceIdeal.nD Cert.PostReferenceIdeal.τ).loc Cert.PostReferenceIdeal.main_arg15)) (m' ((c.tc : Thread Cert.PostReferenceIdeal.nD Cert.PostReferenceIdeal.τ).loc Cert.PostReferenceIdeal.main_arg16)) (m' ((c.tc : Thread Cert.PostReferenceIdeal.nD Cert.PostReferenceIdeal.τ).loc Cert.PostReferenceIdeal.main_arg17)) (m' ((c.tc : Thread Cert.PostReferenceIdeal.nD Cert.PostReferenceIdeal.τ).loc Cert.PostReferenceIdeal.main_arg18)) = _
    rw [h6, h7, h8, h9, h10, h11, h12, h13, h14, h15, h16, h17, h18]
    rfl
  · funext b t
    show argToken (m' ((c.tc : Thread Cert.PostReferenceIdeal.nD Cert.PostReferenceIdeal.τ).loc Cert.PostReferenceIdeal.main_arg0)) (m' ((c.tc : Thread Cert.PostReferenceIdeal.nD Cert.PostReferenceIdeal.τ).loc Cert.PostReferenceIdeal.main_arg1)) (m' ((c.tc : Thread Cert.PostReferenceIdeal.nD Cert.PostReferenceIdeal.τ).loc Cert.PostReferenceIdeal.main_arg2)) (m' ((c.tc : Thread Cert.PostReferenceIdeal.nD Cert.PostReferenceIdeal.τ).loc Cert.PostReferenceIdeal.main_arg3)) (m' ((c.tc : Thread Cert.PostReferenceIdeal.nD Cert.PostReferenceIdeal.τ).loc Cert.PostReferenceIdeal.main_arg4)) (m' ((c.tc : Thread Cert.PostReferenceIdeal.nD Cert.PostReferenceIdeal.τ).loc Cert.PostReferenceIdeal.main_arg5)) b t = _
    rw [h0, h1, h2, h3, h4, h5]
    rfl

end Cert.Tail

end
-- ==== Proof.Entry.Tile.lean ====
/-
  What one grid point of the input projection computes, written once for its four sub-tiles of 256 tokens.

  A grid point holds 1024 tokens of one batch entry: `x0` their rows, `x1` the gain, and five pieces of the projection's matrix:
  `x2` the state-space input's columns, `x3` the queries' transposed, `x4` the keys', `x5` the values' transposed, `x6` the two gates'.
-/
module

public import proofs.«01_k».proof.Proof.Gen.ProjectIdeal.Frame
public import Idealize.ShloMosaic.Lib.Pipeline.ValueKit

@[expose] public section

set_option maxRecDepth 16384

noncomputable section

namespace Cert.Entry

open Cert.ProjectIdeal Cert.ProjectIdeal.Gen Idealize.ShloMosaic

variable {F : FTy → Type} [FloatOps F]

/-! ## Where the pieces lie -/

/-- A sub-tile of rows lies in its window. -/
theorem inb_rows (r : Fin 4) : ∀ a, (![0, 256 * r.val, 0] : Fin 3 → Nat) a + S1x256x1024.size a ≤ S1x1024x1024.size a := by
  revert r; decide
/-- A group of 128 channels lies in the 512. -/
theorem slices_group (o : Fin 4) : S256x512.Slices ![0, 128 * o.val] S256x128 := by
  revert o; decide
/-- A gate lies in the two gates. -/
theorem slices_gate (s : Fin 2) : S256x2048.Slices ![0, 1024 * s.val] S256x1024 := by
  revert s; decide

/-! ## The operations -/

/-- Each row over its root mean square. -/
def normTile (v : FVec F S256x1024 .f32) : FVec F S256x1024 .f32 :=
  mulf v (broadcastTo S256x1024 (rsqrt (addf (divf (shapeCast S256x1 (multiReduction .add [1] S256 (mulf v v) 0x00000000#32 reduces_S256x1024_S256
      (.inl rfl) rfl) shapeCasts_S256_S256x1) (broadcast S256x1 (Scalar.ofBits (F := F) .f32 0x44800000#32)))
    (broadcast S256x1 (Scalar.ofBits (F := F) .f32 0x358637BD#32)))) broadcasts_S256x1_S256x1024)
/-- A sub-tile's rows. -/
def rowsTile (x0 : Vec F S1x1024x1024 .f32) (r : Fin 4) : FVec F S256x1024 .f32 :=
  shapeCast S256x1024 (View.ld x0 (Rect.unit (s := S1x1024x1024) ![0, 256 * r.val, 0] S1x256x1024.size (inb_rows r))) shapeCasts_S1x256x1024_S256x1024
/-- The gain for each row. -/
def gainTile (x1 : Vec F S1x1024 .f32) : FVec F S256x1024 .f32 :=
  broadcastTo S256x1024 (shapeCast S1x1024 (View.ld x1 r0_1) shapeCasts_S1x1024_S1x1024) broadcasts_S1x1024_S256x1024
/-- The normalised rows of a sub-tile. -/
def inTile (x0 : Vec F S1x1024x1024 .f32) (x1 : Vec F S1x1024 .f32) (r : Fin 4) : FVec F S256x1024 .bf16 :=
  truncf .bf16 (mulf (normTile (rowsTile x0 r)) (gainTile x1)) bitsLt_bf16_f32
/-- Rows against 512 columns. -/
def across (h : FVec F S256x1024 .bf16) (w : Vec F S1024x512 .bf16) : FVec F S256x512 .f32 :=
  matmul dot_S256x1024_S1024x512_S256x512_1_0_0_1_n_n none h (shapeCast S1024x512 (View.ld w r0_4) shapeCasts_S1024x512_S1024x512)
    (constant S256x512 .f32 0x00000000#32)
/-- 512 transposed columns against rows. -/
def along (h : FVec F S256x1024 .bf16) (w : Vec F S512x1024 .bf16) : FVec F S512x256 .f32 :=
  matmul dot_S512x1024_S256x1024_S512x256_1_1_0_0_n_n none (shapeCast S512x1024 (View.ld w r0_11) shapeCasts_S512x1024_S512x1024) h
    (constant S512x256 .f32 0x00000000#32)
/-- Both gates. -/
def gatesTile (h : FVec F S256x1024 .bf16) (w : Vec F S1024x2048 .bf16) : FVec F S256x2048 .f32 :=
  logistic (matmul dot_S256x1024_S1024x2048_S256x2048_1_0_0_1_n_n none h (shapeCast S1024x2048 (View.ld w r0_3) shapeCasts_S1024x2048_S1024x2048)
    (constant S256x2048 .f32 0x00000000#32))

/-! ## What is stored for a sub-tile -/

/-- A group of 128 channels of the state-space input, its tokens in groups of eight. -/
def groupTile (u : FVec F S256x512 .f32) (o : Fin 4) : FVec F S1x32x1x8x128 .f32 :=
  shapeCast S1x32x1x8x128 (shapeCast S32x8x128 (extractStridedSlice S256x128 ![0, 128 * o.val] u (slices_group o)) shapeCasts_S256x128_S32x8x128)
    shapeCasts_S32x8x128_S1x32x1x8x128
/-- The scaled queries, transposed. -/
def queryTile (q : FVec F S512x256 .f32) : FVec F S1x512x256 .bf16 :=
  shapeCast S1x512x256 (truncf .bf16 (mulf q (broadcast S512x256 (Scalar.ofBits (F := F) .f32 0x3E38AA3B#32))) bitsLt_bf16_f32) shapeCasts_S512x256_S1x512x256
/-- The keys. -/
def keyTile (k : FVec F S256x512 .f32) : FVec F S1x256x512 .bf16 :=
  shapeCast S1x256x512 (truncf .bf16 k bitsLt_bf16_f32) shapeCasts_S256x512_S1x256x512
/-- The values, transposed. -/
def valueTile (v : FVec F S512x256 .f32) : FVec F S1x512x256 .bf16 :=
  shapeCast S1x512x256 (truncf .bf16 v bitsLt_bf16_f32) shapeCasts_S512x256_S1x512x256
/-- One of the two gates. -/
def gateTile (g : FVec F S256x2048 .f32) (s : Fin 2) : FVec F S1x256x1024 .bf16 :=
  shapeCast S1x256x1024 (truncf .bf16 (extractStridedSlice S256x1024 ![0, 1024 * s.val] g (slices_gate s)) bitsLt_bf16_f32) shapeCasts_S256x1024_S1x256x1024
/-- The mean of the keys. -/
def meanTile (k : FVec F S256x512 .f32) : FVec F S1x1x1x512 .f32 :=
  shapeCast S1x1x1x512 (divf (shapeCast S1x512 (multiReduction .add [0] S512 k 0x00000000#32 reduces_S256x512_S512 (.inl rfl) rfl) shapeCasts_S512_S1x512)
    (broadcast S1x512 (Scalar.ofBits (F := F) .f32 0x43800000#32))) shapeCasts_S1x512_S1x1x1x512

/-! ## The stores -/

theorem inb_groups (n : Fin 16) : ∀ a : Fin S4x128x1x8x128.rank,
    (![3 - n.val % 4, 32 * (3 - n.val / 4), 0, 0, 0] : Fin 5 → Nat) a + S1x32x1x8x128.size a ≤ S4x128x1x8x128.size a := by
  revert n; decide
theorem inb_along (n : Fin 4) : ∀ a : Fin S1x512x1024.rank, (![0, 0, 256 * (3 - n.val)] : Fin 3 → Nat) a + S1x512x256.size a ≤ S1x512x1024.size a := by
  revert n; decide
theorem inb_across (n : Fin 4) : ∀ a : Fin S1x1024x512.rank, (![0, 256 * (3 - n.val), 0] : Fin 3 → Nat) a + S1x256x512.size a ≤ S1x1024x512.size a := by
  revert n; decide
theorem inb_gate (n : Fin 4) : ∀ a : Fin S1x1024x1024.rank, (![0, 256 * (3 - n.val), 0] : Fin 3 → Nat) a + S1x256x1024.size a ≤ S1x1024x1024.size a := by
  revert n; decide
theorem inb_mean (n : Fin 4) : ∀ a : Fin S1x4x1x512.rank, (![0, 3 - n.val, 0, 0] : Fin 4 → Nat) a + S1x1x1x512.size a ≤ S1x4x1x512.size a := by
  revert n; decide

section
variable (x0 : Vec F S1x1024x1024 .f32) (x1 : Vec F S1x1024 .f32) (x2 : Vec F S1024x512 .bf16) (x3 : Vec F S512x1024 .bf16)
  (x4 : Vec F S1024x512 .bf16) (x5 : Vec F S512x1024 .bf16) (x6 : Vec F S1024x2048 .bf16)

set_option maxHeartbeats 4000000 in
theorem tiles7 : out0_7 x0 x1 x2 x3 x4 x5 x6 = View.canon (List.ofFn fun n : Fin 16 =>
    ⟨Rect.unit (s := S4x128x1x8x128) ![3 - n.val % 4, 32 * (3 - n.val / 4), 0, 0, 0] S1x32x1x8x128.size (inb_groups n),
      groupTile (across (inTile x0 x1 (⟨3 - n.val / 4, by omega⟩ : Fin 4)) x2) (⟨3 - n.val % 4, by omega⟩ : Fin 4)⟩) := rfl
set_option maxHeartbeats 4000000 in
theorem tiles8 : out0_8 x0 x1 x2 x3 x4 x5 x6 = View.canon (List.ofFn fun n : Fin 4 =>
    ⟨Rect.unit (s := S1x512x1024) ![0, 0, 256 * (3 - n.val)] S1x512x256.size (inb_along n),
      queryTile (along (inTile x0 x1 (⟨3 - n.val, by omega⟩ : Fin 4)) x3)⟩) := rfl
set_option maxHeartbeats 4000000 in
theorem tiles9 : out0_9 x0 x1 x2 x3 x4 x5 x6 = View.canon (List.ofFn fun n : Fin 4 =>
    ⟨Rect.unit (s := S1x1024x512) ![0, 256 * (3 - n.val), 0] S1x256x512.size (inb_across n),
      keyTile (across (inTile x0 x1 (⟨3 - n.val, by omega⟩ : Fin 4)) x4)⟩) := rfl
set_option maxHeartbeats 4000000 in
theorem tiles10 : out0_10 x0 x1 x2 x3 x4 x5 x6 = View.canon (List.ofFn fun n : Fin 4 =>
    ⟨Rect.unit (s := S1x512x1024) ![0, 0, 256 * (3 - n.val)] S1x512x256.size (inb_along n),
      valueTile (along (inTile x0 x1 (⟨3 - n.val, by omega⟩ : Fin 4)) x5)⟩) := rfl
set_option maxHeartbeats 4000000 in
theorem tiles11 : out0_11 x0 x1 x2 x3 x4 x5 x6 = View.canon (List.ofFn fun n : Fin 4 =>
    ⟨Rect.unit (s := S1x1024x1024) ![0, 256 * (3 - n.val), 0] S1x256x1024.size (inb_gate n),
      gateTile (gatesTile (inTile x0 x1 (⟨3 - n.val, by omega⟩ : Fin 4)) x6) 0⟩) := rfl
set_option maxHeartbeats 4000000 in
theorem tiles12 : out0_12 x0 x1 x2 x3 x4 x5 x6 = View.canon (List.ofFn fun n : Fin 4 =>
    ⟨Rect.unit (s := S1x1024x1024) ![0, 256 * (3 - n.val), 0] S1x256x1024.size (inb_gate n),
      gateTile (gatesTile (inTile x0 x1 (⟨3 - n.val, by omega⟩ : Fin 4)) x6) 1⟩) := rfl
set_option maxHeartbeats 4000000 in
theorem tiles13 : out0_13 x0 x1 x2 x3 x4 x5 x6 = View.canon (List.ofFn fun n : Fin 4 =>
    ⟨Rect.unit (s := S1x4x1x512) ![0, 3 - n.val, 0, 0] S1x1x1x512.size (inb_mean n),
      meanTile (across (inTile x0 x1 (⟨3 - n.val, by omega⟩ : Fin 4)) x4)⟩) := rfl

/-- Token `c` of sub-tile `r`. -/
def place (r : Fin 4) (c : Fin 256) : Fin 1024 := ⟨256 * r.val + c.val, by omega⟩

/-- The state-space input at a token of a sub-tile. -/
theorem at7 (o r : Fin 4) (q : Fin 32) (e : Fin 8) (l : Fin 128) :
    out0_7 x0 x1 x2 x3 x4 x5 x6 (ix5 o (⟨32 * r.val + q.val, by omega⟩ : Fin 128) 0 e l)
      = groupTile (across (inTile x0 x1 r) x2) o (ix5 0 q 0 e l) := by
  rw [tiles7]
  canon_tiles x h
  · have h0' : o.val = 3 - k.val % 4 + (x 0).val := h0
    have h1' : 32 * r.val + q.val = 32 * (3 - k.val / 4) + (x 1).val := h1
    have h3' : e.val = (x 3).val := h3
    have h4' : l.val = (x 4).val := h4
    have x0' : (x 0).val < 1 := (x 0).isLt
    have x1' : (x 1).val < 32 := (x 1).isLt
    have hr : (⟨3 - k.val / 4, by omega⟩ : Fin 4) = r := Fin.ext (by show 3 - k.val / 4 = r.val; omega)
    have ho : (⟨3 - k.val % 4, by omega⟩ : Fin 4) = o := Fin.ext (by show 3 - k.val % 4 = o.val; omega)
    have hx : x = ix5 0 q 0 e l := by
      funext a
      fin_cases a
      · exact Fin.ext (by show (x 0).val = 0; omega)
      · exact Fin.ext (by show (x 1).val = q.val; omega)
      · exact Fin.ext (by have := (x 2).isLt; show (x 2).val = 0; exact Nat.lt_one_iff.mp this)
      · exact Fin.ext (by show (x 3).val = e.val; omega)
      · exact Fin.ext (by show (x 4).val = l.val; omega)
    rw [hr, ho, hx]
  · refine ⟨⟨4 * (3 - r.val) + (3 - o.val), by omega⟩, fun a => ?_⟩
    fin_cases a
    · show 3 - (4 * (3 - r.val) + (3 - o.val)) % 4 ≤ o.val ∧ o.val < 3 - (4 * (3 - r.val) + (3 - o.val)) % 4 + 1
      omega
    · show 32 * (3 - (4 * (3 - r.val) + (3 - o.val)) / 4) ≤ 32 * r.val + q.val ∧ 32 * r.val + q.val < 32 * (3 - (4 * (3 - r.val) + (3 - o.val)) / 4) + 32
      omega
    · exact ⟨Nat.zero_le _, Nat.zero_lt_one⟩
    · show 0 ≤ e.val ∧ e.val < 0 + 8
      omega
    · show 0 ≤ l.val ∧ l.val < 0 + 128
      omega
/-- The scaled queries at a token of a sub-tile. -/
theorem at8 (r : Fin 4) (c : Fin 256) (n : Fin 512) : out0_8 x0 x1 x2 x3 x4 x5 x6 (ix3 0 n (place r c)) = queryTile (along (inTile x0 x1 r) x3) (ix3 0 n c) := by
  rw [tiles8]
  canon_tiles x h
  · have h1' : n.val = (x 1).val := h1
    have h2' : 256 * r.val + c.val = 256 * (3 - k.val) + (x 2).val := h2
    have x2' : (x 2).val < 256 := (x 2).isLt
    have hr : (⟨3 - k.val, by omega⟩ : Fin 4) = r := Fin.ext (by show 3 - k.val = r.val; omega)
    have hx : x = ix3 0 n c := by
      funext a
      fin_cases a
      · exact Fin.ext (by have := (x 0).isLt; show (x 0).val = 0; exact Nat.lt_one_iff.mp this)
      · exact Fin.ext (by show (x 1).val = n.val; omega)
      · exact Fin.ext (by show (x 2).val = c.val; omega)
    rw [hr, hx]
  · refine ⟨⟨3 - r.val, by omega⟩, fun a => ?_⟩
    fin_cases a
    · exact ⟨Nat.zero_le _, Nat.zero_lt_one⟩
    · show 0 ≤ n.val ∧ n.val < 0 + 512
      omega
    · show 256 * (3 - (3 - r.val)) ≤ 256 * r.val + c.val ∧ 256 * r.val + c.val < 256 * (3 - (3 - r.val)) + 256
      omega
/-- The values at a token of a sub-tile. -/
theorem at10 (r : Fin 4) (c : Fin 256) (n : Fin 512) : out0_10 x0 x1 x2 x3 x4 x5 x6 (ix3 0 n (place r c)) = valueTile (along (inTile x0 x1 r) x5) (ix3 0 n c) := by
  rw [tiles10]
  canon_tiles x h
  · have h1' : n.val = (x 1).val := h1
    have h2' : 256 * r.val + c.val = 256 * (3 - k.val) + (x 2).val := h2
    have x2' : (x 2).val < 256 := (x 2).isLt
    have hr : (⟨3 - k.val, by omega⟩ : Fin 4) = r := Fin.ext (by show 3 - k.val = r.val; omega)
    have hx : x = ix3 0 n c := by
      funext a
      fin_cases a
      · exact Fin.ext (by have := (x 0).isLt; show (x 0).val = 0; exact Nat.lt_one_iff.mp this)
      · exact Fin.ext (by show (x 1).val = n.val; omega)
      · exact Fin.ext (by show (x 2).val = c.val; omega)
    rw [hr, hx]
  · refine ⟨⟨3 - r.val, by omega⟩, fun a => ?_⟩
    fin_cases a
    · exact ⟨Nat.zero_le _, Nat.zero_lt_one⟩
    · show 0 ≤ n.val ∧ n.val < 0 + 512
      omega
    · show 256 * (3 - (3 - r.val)) ≤ 256 * r.val + c.val ∧ 256 * r.val + c.val < 256 * (3 - (3 - r.val)) + 256
      omega
/-- The keys at a token of a sub-tile. -/
theorem at9 (r : Fin 4) (c : Fin 256) (n : Fin 512) : out0_9 x0 x1 x2 x3 x4 x5 x6 (ix3 0 (place r c) n) = keyTile (across (inTile x0 x1 r) x4) (ix3 0 c n) := by
  rw [tiles9]
  canon_tiles x h
  · have h1' : 256 * r.val + c.val = 256 * (3 - k.val) + (x 1).val := h1
    have h2' : n.val = (x 2).val := h2
    have x1' : (x 1).val < 256 := (x 1).isLt
    have hr : (⟨3 - k.val, by omega⟩ : Fin 4) = r := Fin.ext (by show 3 - k.val = r.val; omega)
    have hx : x = ix3 0 c n := by
      funext a
      fin_cases a
      · exact Fin.ext (by have := (x 0).isLt; show (x 0).val = 0; exact Nat.lt_one_iff.mp this)
      · exact Fin.ext (by show (x 1).val = c.val; omega)
      · exact Fin.ext (by show (x 2).val = n.val; omega)
    rw [hr, hx]
  · refine ⟨⟨3 - r.val, by omega⟩, fun a => ?_⟩
    fin_cases a
    · exact ⟨Nat.zero_le _, Nat.zero_lt_one⟩
    · show 256 * (3 - (3 - r.val)) ≤ 256 * r.val + c.val ∧ 256 * r.val + c.val < 256 * (3 - (3 - r.val)) + 256
      omega
    · show 0 ≤ n.val ∧ n.val < 0 + 512
      omega
/-- The first gate at a token of a sub-tile. -/
theorem at11 (r : Fin 4) (c : Fin 256) (n : Fin 1024) : out0_11 x0 x1 x2 x3 x4 x5 x6 (ix3 0 (place r c) n) = gateTile (gatesTile (inTile x0 x1 r) x6) 0 (ix3 0 c n) := by
  rw [tiles11]
  canon_tiles x h
  · have h1' : 256 * r.val + c.val = 256 * (3 - k.val) + (x 1).val := h1
    have h2' : n.val = (x 2).val := h2
    have x1' : (x 1).val < 256 := (x 1).isLt
    have hr : (⟨3 - k.val, by omega⟩ : Fin 4) = r := Fin.ext (by show 3 - k.val = r.val; omega)
    have hx : x = ix3 0 c n := by
      funext a
      fin_cases a
      · exact Fin.ext (by have := (x 0).isLt; show (x 0).val = 0; exact Nat.lt_one_iff.mp this)
      · exact Fin.ext (by show (x 1).val = c.val; omega)
      · exact Fin.ext (by show (x 2).val = n.val; omega)
    rw [hr, hx]
  · refine ⟨⟨3 - r.val, by omega⟩, fun a => ?_⟩
    fin_cases a
    · exact ⟨Nat.zero_le _, Nat.zero_lt_one⟩
    · show 256 * (3 - (3 - r.val)) ≤ 256 * r.val + c.val ∧ 256 * r.val + c.val < 256 * (3 - (3 - r.val)) + 256
      omega
    · show 0 ≤ n.val ∧ n.val < 0 + 1024
      omega
/-- The second gate at a token of a sub-tile. -/
theorem at12 (r : Fin 4) (c : Fin 256) (n : Fin 1024) : out0_12 x0 x1 x2 x3 x4 x5 x6 (ix3 0 (place r c) n) = gateTile (gatesTile (inTile x0 x1 r) x6) 1 (ix3 0 c n) := by
  rw [tiles12]
  canon_tiles x h
  · have h1' : 256 * r.val + c.val = 256 * (3 - k.val) + (x 1).val := h1
    have h2' : n.val = (x 2).val := h2
    have x1' : (x 1).val < 256 := (x 1).isLt
    have hr : (⟨3 - k.val, by omega⟩ : Fin 4) = r := Fin.ext (by show 3 - k.val = r.val; omega)
    have hx : x = ix3 0 c n := by
      funext a
      fin_cases a
      · exact Fin.ext (by have := (x 0).isLt; show (x 0).val = 0; exact Nat.lt_one_iff.mp this)
      · exact Fin.ext (by show (x 1).val = c.val; omega)
      · exact Fin.ext (by show (x 2).val = n.val; omega)
    rw [hr, hx]
  · refine ⟨⟨3 - r.val, by omega⟩, fun a => ?_⟩
    fin_cases a
    · exact ⟨Nat.zero_le _, Nat.zero_lt_one⟩
    · show 256 * (3 - (3 - r.val)) ≤ 256 * r.val + c.val ∧ 256 * r.val + c.val < 256 * (3 - (3 - r.val)) + 256
      omega
    · show 0 ≤ n.val ∧ n.val < 0 + 1024
      omega
/-- The mean of the keys at a sub-tile. -/
theorem at13 (r : Fin 4) (n : Fin 512) : out0_13 x0 x1 x2 x3 x4 x5 x6 (ix4 0 r 0 n) = meanTile (across (inTile x0 x1 r) x4) (ix4 0 0 0 n) := by
  rw [tiles13]
  canon_tiles x h
  · have h1' : r.val = 3 - k.val + (x 1).val := h1
    have h3' : n.val = (x 3).val := h3
    have x1' : (x 1).val < 1 := (x 1).isLt
    have hr : (⟨3 - k.val, by omega⟩ : Fin 4) = r := Fin.ext (by show 3 - k.val = r.val; omega)
    have hx : x = ix4 0 0 0 n := by
      funext a
      fin_cases a
      · exact Fin.ext (by have := (x 0).isLt; show (x 0).val = 0; exact Nat.lt_one_iff.mp this)
      · exact Fin.ext (by show (x 1).val = 0; omega)
      · exact Fin.ext (by have := (x 2).isLt; show (x 2).val = 0; exact Nat.lt_one_iff.mp this)
      · exact Fin.ext (by show (x 3).val = n.val; omega)
    rw [hr, hx]
  · refine ⟨⟨3 - r.val, by omega⟩, fun a => ?_⟩
    fin_cases a
    · exact ⟨Nat.zero_le _, Nat.zero_lt_one⟩
    · show 3 - (3 - r.val) ≤ r.val ∧ r.val < 3 - (3 - r.val) + 1
      omega
    · exact ⟨Nat.zero_le _, Nat.zero_lt_one⟩
    · show 0 ≤ n.val ∧ n.val < 0 + 512
      omega

end

end Cert.Entry

end
-- ==== Proof.Entry.Row.lean ====
/-
  The input projection of one token, over the extended reals.
-/
module

public import proofs.«01_k».proof.Proof.Tail.Token

@[expose] public section

noncomputable section

namespace Cert.Entry

open Idealize.ShloMosaic

/-- A token's row over its root mean square, times the gain, against a column. -/
def dotted (x g w : Fin 1024 → EReal) : EReal := ∑ k, Tail.norm x k * g k * w k

/-- A sum of products is the same with its factors swapped. -/
theorem dotted_comm (x g w : Fin 1024 → EReal) : (∑ k, w k * (Tail.norm x k * g k)) = dotted x g w :=
  Finset.sum_congr rfl fun _ _ => mul_comm _ _

end Cert.Entry

end
-- ==== Proof.Entry.Ops.lean ====
/-
  A grid point's outputs at an index, over the extended reals: its token's normalised row against a column.
-/
module

public import proofs.«01_k».proof.Proof.Entry.Tile
public import proofs.«01_k».proof.Proof.Entry.Row
public import Idealize.ShloMosaic.Lib.Pointwise

@[expose] public section

set_option maxRecDepth 16384

noncomputable section

namespace Cert.Entry

open Cert.ProjectIdeal Cert.ProjectIdeal.Gen Idealize.ShloMosaic

/-! ## The loads and the normalised rows -/

section
variable (r : Fin 4) (c : Fin 256) (k : Fin 1024)

/-- A row of a sub-tile. -/
theorem rowsTile_apply (x0 : Vec Ideal S1x1024x1024 .f32) : (rowsTile x0 r (ix2 c k) : EReal) = x0 (ix3 0 (place r c) k) := by
  have h : ∀ y : FVec Ideal S1x256x1024 .f32, (shapeCast S256x1024 y shapeCasts_S1x256x1024_S256x1024 (ix2 c k) : EReal) = y (ix3 0 c k) := fun y => by
    pointwise []
  refine (h _).trans (View.ld_unit_apply_of _ _ _ _ _ _ fun a => ?_)
  fin_cases a
  · rfl
  · rfl
  · show k.val = 0 + k.val; omega
/-- The gain. -/
theorem gainTile_apply (x1 : Vec Ideal S1x1024 .f32) : (gainTile x1 (ix2 c k) : EReal) = x1 (ix2 0 k) := by
  have h : ∀ y : FVec Ideal S1x1024 .f32, (broadcastTo S256x1024 (shapeCast S1x1024 y shapeCasts_S1x1024_S1x1024) broadcasts_S1x1024_S256x1024 (ix2 c k) : EReal)
      = y (ix2 0 k) := fun y => by
    pointwise []
  refine (h _).trans (View.ld_unit_apply_of _ _ _ _ _ _ fun a => ?_)
  fin_cases a
  · rfl
  · show k.val = 0 + k.val; omega
/-- Each row over its root mean square. -/
theorem normTile_apply (v : FVec Ideal S256x1024 .f32) : (normTile v (ix2 c k) : EReal) = Tail.norm (fun j => v (ix2 c j)) k := by
  pointwise [normTile, Tail.norm]
/-- The normalised rows. -/
theorem inTile_apply (x0 : Vec Ideal S1x1024x1024 .f32) (x1 : Vec Ideal S1x1024 .f32) :
    (inTile x0 x1 r (ix2 c k) : EReal) = Tail.norm (fun j => x0 (ix3 0 (place r c) j)) k * x1 (ix2 0 k) := by
  have h : ∀ a b : FVec Ideal S256x1024 .f32, (truncf .bf16 (mulf a b) bitsLt_bf16_f32 (ix2 c k) : EReal) = a (ix2 c k) * b (ix2 c k) := fun a b => by
    pointwise []
  refine (h _ _).trans (congrArg₂ (· * ·) ((normTile_apply c k _).trans (congrArg (fun v => Tail.norm v k) ?_)) (gainTile_apply c k x1))
  exact funext fun j => rowsTile_apply r c j x0
end

/-! ## The products -/

section
variable (c : Fin 256) (h : FVec Ideal S256x1024 .bf16)

theorem across_apply (w : Vec Ideal S1024x512 .bf16) (n : Fin 512) :
    (across h w (ix2 c n) : EReal) = ∑ k : Fin 1024, (h (ix2 c k) : EReal) * w (ix2 k n) := by
  have e : ∀ y : FVec Ideal S1024x512 .bf16, (matmul dot_S256x1024_S1024x512_S256x512_1_0_0_1_n_n none h (shapeCast S1024x512 y shapeCasts_S1024x512_S1024x512)
      (constant S256x512 .f32 0x00000000#32) (ix2 c n) : EReal) = ∑ k : Fin 1024, (h (ix2 c k) : EReal) * y (ix2 k n) := fun y => by
    pointwise []
  refine (e _).trans (Finset.sum_congr rfl fun k _ => congrArg (_ * ·) (View.ld_unit_apply_of _ _ _ _ _ _ fun a => ?_))
  fin_cases a
  · show k.val = 0 + k.val; omega
  · show n.val = 0 + n.val; omega
theorem along_apply (w : Vec Ideal S512x1024 .bf16) (n : Fin 512) :
    (along h w (ix2 n c) : EReal) = ∑ k : Fin 1024, (w (ix2 n k) : EReal) * h (ix2 c k) := by
  have e : ∀ y : FVec Ideal S512x1024 .bf16, (matmul dot_S512x1024_S256x1024_S512x256_1_1_0_0_n_n none (shapeCast S512x1024 y shapeCasts_S512x1024_S512x1024) h
      (constant S512x256 .f32 0x00000000#32) (ix2 n c) : EReal) = ∑ k : Fin 1024, (y (ix2 n k) : EReal) * h (ix2 c k) := fun y => by
    pointwise []
  refine (e _).trans (Finset.sum_congr rfl fun k _ => congrArg (· * _) (View.ld_unit_apply_of _ _ _ _ _ _ fun a => ?_))
  fin_cases a
  · show n.val = 0 + n.val; omega
  · show k.val = 0 + k.val; omega
theorem gatesTile_apply (w : Vec Ideal S1024x2048 .bf16) (n : Fin 2048) :
    (gatesTile h w (ix2 c n) : EReal) = Ideal.logistic (∑ k : Fin 1024, (h (ix2 c k) : EReal) * w (ix2 k n)) := by
  have e : ∀ y : FVec Ideal S1024x2048 .bf16, (logistic (matmul dot_S256x1024_S1024x2048_S256x2048_1_0_0_1_n_n none h
      (shapeCast S1024x2048 y shapeCasts_S1024x2048_S1024x2048) (constant S256x2048 .f32 0x00000000#32)) (ix2 c n) : EReal)
      = Ideal.logistic (∑ k : Fin 1024, (h (ix2 c k) : EReal) * y (ix2 k n)) := fun y => by
    pointwise []
  refine (e _).trans (congrArg Ideal.logistic (Finset.sum_congr rfl fun k _ => congrArg (_ * ·) (View.ld_unit_apply_of _ _ _ _ _ _ fun a => ?_)))
  fin_cases a
  · show k.val = 0 + k.val; omega
  · show n.val = 0 + n.val; omega
end

/-! ## What is stored -/

theorem groupTile_apply (u : FVec Ideal S256x512 .f32) (o : Fin 4) (q : Fin 32) (e : Fin 8) (l : Fin 128) :
    (groupTile u o (ix5 0 q 0 e l) : EReal) = u (ix2 (⟨q.val * 8 + e.val, by omega⟩ : Fin 256) (⟨128 * o.val + l.val, by omega⟩ : Fin 512)) := by
  have h : ∀ v : FVec Ideal S256x128 .f32, (shapeCast S1x32x1x8x128 (shapeCast S32x8x128 v shapeCasts_S256x128_S32x8x128) shapeCasts_S32x8x128_S1x32x1x8x128
      (ix5 0 q 0 e l) : EReal) = v (ix2 (⟨q.val * 8 + e.val, by omega⟩ : Fin 256) l) := fun v => by
    pointwise []
  refine (h _).trans ?_
  pointwise []
theorem queryTile_apply (v : FVec Ideal S512x256 .f32) (n : Fin 512) (c : Fin 256) :
    (queryTile v (ix3 0 n c) : EReal) = v (ix2 n c) * Ideal.ofBits .f32 0x3E38AA3B#32 := by
  pointwise [queryTile]
theorem keyTile_apply (v : FVec Ideal S256x512 .f32) (c : Fin 256) (n : Fin 512) : (keyTile v (ix3 0 c n) : EReal) = v (ix2 c n) := by
  pointwise [keyTile]
theorem valueTile_apply (v : FVec Ideal S512x256 .f32) (n : Fin 512) (c : Fin 256) : (valueTile v (ix3 0 n c) : EReal) = v (ix2 n c) := by
  pointwise [valueTile]
theorem gateTile_apply (v : FVec Ideal S256x2048 .f32) (s : Fin 2) (c : Fin 256) (n : Fin 1024) :
    (gateTile v s (ix3 0 c n) : EReal) = v (ix2 c (⟨1024 * s.val + n.val, by omega⟩ : Fin 2048)) := by
  have h : ∀ y : FVec Ideal S256x1024 .f32, (shapeCast S1x256x1024 (truncf .bf16 y bitsLt_bf16_f32) shapeCasts_S256x1024_S1x256x1024 (ix3 0 c n) : EReal)
      = y (ix2 c n) := fun y => by
    pointwise []
  refine (h _).trans ?_
  pointwise []
theorem meanTile_apply (v : FVec Ideal S256x512 .f32) (n : Fin 512) :
    (meanTile v (ix4 0 0 0 n) : EReal) = Ideal.div (∑ c : Fin 256, (v (ix2 c n) : EReal)) (Ideal.ofBits .f32 0x43800000#32) := by
  pointwise [meanTile]

/-! ## A grid point's outputs -/

section
variable (x0 : Vec Ideal S1x1024x1024 .f32) (x1 : Vec Ideal S1x1024 .f32) (x2 : Vec Ideal S1024x512 .bf16) (x3 : Vec Ideal S512x1024 .bf16)
  (x4 : Vec Ideal S1024x512 .bf16) (x5 : Vec Ideal S512x1024 .bf16) (x6 : Vec Ideal S1024x2048 .bf16) (r : Fin 4) (c : Fin 256)

/-- A product across, of the normalised rows. -/
theorem across_in (w : Vec Ideal S1024x512 .bf16) (n : Fin 512) : (across (inTile x0 x1 r) w (ix2 c n) : EReal)
    = dotted (fun k => x0 (ix3 0 (place r c) k)) (fun k => x1 (ix2 0 k)) (fun k => w (ix2 k n)) :=
  (across_apply c _ w n).trans (Finset.sum_congr rfl fun k _ => congrArg (· * _) (inTile_apply r c k x0 x1))
/-- A product along, of the normalised rows. -/
theorem along_in (w : Vec Ideal S512x1024 .bf16) (n : Fin 512) : (along (inTile x0 x1 r) w (ix2 n c) : EReal)
    = dotted (fun k => x0 (ix3 0 (place r c) k)) (fun k => x1 (ix2 0 k)) (fun k => w (ix2 n k)) :=
  ((along_apply c _ w n).trans (Finset.sum_congr rfl fun k _ => congrArg (fun z : EReal => (_ : EReal) * z) (inTile_apply r c k x0 x1))).trans
    (dotted_comm _ _ _)
/-- The gates, of the normalised rows. -/
theorem gates_in (w : Vec Ideal S1024x2048 .bf16) (n : Fin 2048) : (gatesTile (inTile x0 x1 r) w (ix2 c n) : EReal)
    = Ideal.logistic (dotted (fun k => x0 (ix3 0 (place r c) k)) (fun k => x1 (ix2 0 k)) (fun k => w (ix2 k n))) :=
  (gatesTile_apply c _ w n).trans (congrArg Ideal.logistic (Finset.sum_congr rfl fun k _ => congrArg (· * _) (inTile_apply r c k x0 x1)))

theorem out7 (o : Fin 4) (q : Fin 32) (e : Fin 8) (l : Fin 128) :
    (out0_7 x0 x1 x2 x3 x4 x5 x6 (ix5 o (⟨32 * r.val + q.val, by omega⟩ : Fin 128) 0 e l) : EReal)
      = dotted (fun k => x0 (ix3 0 (place r (⟨q.val * 8 + e.val, by omega⟩ : Fin 256)) k)) (fun k => x1 (ix2 0 k))
        (fun k => x2 (ix2 k (⟨128 * o.val + l.val, by omega⟩ : Fin 512))) := by
  rw [at7, groupTile_apply, across_in]
theorem out8 (n : Fin 512) : (out0_8 x0 x1 x2 x3 x4 x5 x6 (ix3 0 n (place r c)) : EReal)
    = dotted (fun k => x0 (ix3 0 (place r c) k)) (fun k => x1 (ix2 0 k)) (fun k => x3 (ix2 n k)) * Ideal.ofBits .f32 0x3E38AA3B#32 := by
  rw [at8, queryTile_apply, along_in]
theorem out9 (n : Fin 512) : (out0_9 x0 x1 x2 x3 x4 x5 x6 (ix3 0 (place r c) n) : EReal)
    = dotted (fun k => x0 (ix3 0 (place r c) k)) (fun k => x1 (ix2 0 k)) (fun k => x4 (ix2 k n)) := by
  rw [at9, keyTile_apply, across_in]
theorem out10 (n : Fin 512) : (out0_10 x0 x1 x2 x3 x4 x5 x6 (ix3 0 n (place r c)) : EReal)
    = dotted (fun k => x0 (ix3 0 (place r c) k)) (fun k => x1 (ix2 0 k)) (fun k => x5 (ix2 n k)) := by
  rw [at10, valueTile_apply, along_in]
theorem out11 (n : Fin 1024) : (out0_11 x0 x1 x2 x3 x4 x5 x6 (ix3 0 (place r c) n) : EReal)
    = Ideal.logistic (dotted (fun k => x0 (ix3 0 (place r c) k)) (fun k => x1 (ix2 0 k))
      (fun k => x6 (ix2 k (⟨1024 * (0 : Fin 2).val + n.val, by have := n.isLt; show 1024 * 0 + n.val < 2048; omega⟩ : Fin 2048)))) := by
  rw [at11, gateTile_apply, gates_in]
theorem out12 (n : Fin 1024) : (out0_12 x0 x1 x2 x3 x4 x5 x6 (ix3 0 (place r c) n) : EReal)
    = Ideal.logistic (dotted (fun k => x0 (ix3 0 (place r c) k)) (fun k => x1 (ix2 0 k))
      (fun k => x6 (ix2 k (⟨1024 * (1 : Fin 2).val + n.val, by have := n.isLt; show 1024 * 1 + n.val < 2048; omega⟩ : Fin 2048)))) := by
  rw [at12, gateTile_apply, gates_in]
theorem out13 (n : Fin 512) : (out0_13 x0 x1 x2 x3 x4 x5 x6 (ix4 0 r 0 n) : EReal)
    = Ideal.div (∑ c : Fin 256, dotted (fun k => x0 (ix3 0 (place r c) k)) (fun k => x1 (ix2 0 k)) (fun k => x4 (ix2 k n)))
      (Ideal.ofBits .f32 0x43800000#32) := by
  rw [at13, meanTile_apply]
  exact congrArg (Ideal.div · _) (Finset.sum_congr rfl fun c _ => across_in x0 x1 r c x4 n)

end

end Cert.Entry

end
-- ==== Proof.Entry.Results.lean ====
/-
  The input projection's seven results, over the extended reals, from the tokens, the gain and the matrix.
-/
module

public import proofs.«01_k».proof.ProjectIdeal
public import proofs.«01_k».proof.Proof.Entry.Row
public import Idealize.ShloMosaic.Lib.Pointwise

@[expose] public section

set_option maxRecDepth 16384

noncomputable section

namespace Cert.Entry

open Cert.ProjectIdeal Idealize.ShloMosaic

section
variable (x : FVec Ideal S32x2048x1024 .f32) (g : FVec Ideal S1024 .f32) (w : FVec Ideal S1024x4096 .f32)

/-- A token's projection at a column. -/
def zed (b : Fin 32) (t : Fin 2048) (n : Fin 4096) : EReal := dotted (fun k => x (ix3 b t k)) (fun k => g (ix1 k)) (fun k => w (ix2 k n))

/-- The state-space input: its channels in four groups of 128, its tokens in groups of eight. -/
def stateIn : FVec Ideal S4x256x32x8x128 .f32 := fun z =>
  zed x g w (z 2) (⟨(z 1).val * 8 + (z 3).val, by have := (z 1).isLt; have := (z 3).isLt; change (z 1).val < 256 at *; change (z 3).val < 8 at *; omega⟩ : Fin 2048)
    (⟨(z 0).val * 128 + (z 4).val, by have := (z 0).isLt; have := (z 4).isLt; change (z 0).val < 4 at *; change (z 4).val < 128 at *; omega⟩ : Fin 4096)
/-- The scaled queries, transposed. -/
def queries : FVec Ideal S32x512x2048 .bf16 := fun z =>
  zed x g w (z 0) (z 2) (⟨512 + (z 1).val, by have := (z 1).isLt; change (z 1).val < 512 at *; omega⟩ : Fin 4096) * Ideal.ofBits .f32 0x3E38AA3B#32
/-- The keys. -/
def keys : FVec Ideal S32x2048x512 .bf16 := fun z =>
  zed x g w (z 0) (z 1) (⟨1024 + (z 2).val, by have := (z 2).isLt; change (z 2).val < 512 at *; omega⟩ : Fin 4096)
/-- The values, transposed. -/
def values : FVec Ideal S32x512x2048 .bf16 := fun z =>
  zed x g w (z 0) (z 2) (⟨1536 + (z 1).val, by have := (z 1).isLt; change (z 1).val < 512 at *; omega⟩ : Fin 4096)
/-- The state-space branch's gate. -/
def gateA : FVec Ideal S32x2048x1024 .bf16 := fun z =>
  Ideal.logistic (zed x g w (z 0) (z 1) (⟨2048 + (z 2).val, by have := (z 2).isLt; change (z 2).val < 1024 at *; omega⟩ : Fin 4096))
/-- The attention branch's gate. -/
def gateB : FVec Ideal S32x2048x1024 .bf16 := fun z =>
  Ideal.logistic (zed x g w (z 0) (z 1) (⟨3072 + (z 2).val, by have := (z 2).isLt; change (z 2).val < 1024 at *; omega⟩ : Fin 4096))
/-- The mean of the keys over each block of 256 tokens. -/
def means : FVec Ideal S32x8x1x512 .f32 := fun z =>
  Ideal.div (∑ c : Fin 256, zed x g w (z 0) (⟨(z 1).val * 256 + c.val, by have := (z 1).isLt; change (z 1).val < 8 at *; omega⟩ : Fin 2048)
      (⟨1024 + (z 3).val, by have := (z 3).isLt; change (z 3).val < 512 at *; omega⟩ : Fin 4096))
    (Ideal.ofBits .f32 0x43800000#32)

/-- The projection depends on its indices' values alone. -/
theorem zed_val {b b' : Fin 32} {t t' : Fin 2048} {n n' : Fin 4096} (hb : b.val = b'.val) (ht : t.val = t'.val) (hn : n.val = n'.val) :
    zed x g w b t n = zed x g w b' t' n' := by
  rw [Fin.ext hb, Fin.ext ht, Fin.ext hn]

end

/-- Equal rows, gains and columns give equal products. -/
theorem dotted_congr {x x' g g' w w' : Fin 1024 → EReal} (hx : ∀ k, x k = x' k) (hg : ∀ k, g k = g' k) (hw : ∀ k, w k = w' k) :
    dotted x g w = dotted x' g' w' := by
  rw [funext hx, funext hg, funext hw]

end Cert.Entry

end
-- ==== Proof.Entry.Blocks.lean ====
/-
  The blocks a grid point finds: its batch entry's 1024 tokens, the gain, and the matrix's pieces.
-/
module

public import proofs.«01_k».proof.Proof.Entry.Ops
public import proofs.«01_k».proof.Proof.Entry.Results
public import proofs.«01_k».proof.Proof.Gen.ProjectIdeal.Value
public import Idealize.ShloMosaic.Lib.Claim

@[expose] public section

set_option maxRecDepth 16384

noncomputable section

namespace Cert.Entry

open Cert.ProjectIdeal Cert.ProjectIdeal.Gen Idealize.ShloMosaic Idealize.ShloMosaic.TcCoe

variable (m : (ℓ : Loc nD τ sig) → Buf (Elt Ideal) ℓ) (c : Dev nD)

/-! ## The pieces of the matrix -/

theorem row_apply (x : FVec Ideal S1024 .f32) (k : Fin 1024) : (shapeCast S1x1024 x shapeCasts_S1024_S1x1024 (ix2 0 k) : EReal) = x (ix1 k) := by
  pointwise []
theorem piece0 (w : FVec Ideal S1024x4096 .f32) (k : Fin 1024) (n : Fin 512) :
    (extractStridedSlice S1024x512 ![0, 0] (truncf .bf16 w bitsLt_bf16_f32) slices_S1024x4096_S1024x512_0_0 (ix2 k n) : EReal)
      = w (ix2 k (⟨n.val, by omega⟩ : Fin 4096)) := by
  pointwise []
theorem piece512 (w : FVec Ideal S1024x4096 .f32) (k : Fin 1024) (n : Fin 512) :
    (transpose S512x1024 [1, 0] (extractStridedSlice S1024x512 ![0, 512] (truncf .bf16 w bitsLt_bf16_f32) slices_S1024x4096_S1024x512_0_512)
      transposes_S1024x512_S512x1024_1_0 (ix2 n k) : EReal) = w (ix2 k (⟨512 + n.val, by omega⟩ : Fin 4096)) := by
  pointwise []
theorem piece1024 (w : FVec Ideal S1024x4096 .f32) (k : Fin 1024) (n : Fin 512) :
    (extractStridedSlice S1024x512 ![0, 1024] (truncf .bf16 w bitsLt_bf16_f32) slices_S1024x4096_S1024x512_0_1024 (ix2 k n) : EReal)
      = w (ix2 k (⟨1024 + n.val, by omega⟩ : Fin 4096)) := by
  pointwise []
theorem piece1536 (w : FVec Ideal S1024x4096 .f32) (k : Fin 1024) (n : Fin 512) :
    (transpose S512x1024 [1, 0] (extractStridedSlice S1024x512 ![0, 1536] (truncf .bf16 w bitsLt_bf16_f32) slices_S1024x4096_S1024x512_0_1536)
      transposes_S1024x512_S512x1024_1_0 (ix2 n k) : EReal) = w (ix2 k (⟨1536 + n.val, by omega⟩ : Fin 4096)) := by
  pointwise []
theorem piece2048 (w : FVec Ideal S1024x4096 .f32) (k : Fin 1024) (n : Fin 2048) :
    (extractStridedSlice S1024x2048 ![0, 2048] (truncf .bf16 w bitsLt_bf16_f32) slices_S1024x4096_S1024x2048_0_2048 (ix2 k n) : EReal)
      = w (ix2 k (⟨2048 + n.val, by omega⟩ : Fin 4096)) := by
  pointwise []

/-! ## The arrays the kernel is launched on -/

theorem entry0 (b : Fin 32) (t : Fin 2048) (k : Fin 1024) : (V m c main_arg0 (ix3 b t k) : EReal) = m ((c : Thread nD τ).loc main_arg0) (ix3 b t k) := by
  rw [V_main_arg0]
theorem entry1 (k : Fin 1024) : (V m c main_v1 (ix2 0 k) : EReal) = m ((c : Thread nD τ).loc main_arg1) (ix1 k) := by
  entry_read
  exact row_apply _ k
theorem entry2 (k : Fin 1024) (n : Fin 512) : (V m c main_v2 (ix2 k n) : EReal) = m ((c : Thread nD τ).loc main_arg2) (ix2 k (⟨n.val, by omega⟩ : Fin 4096)) := by
  entry_read
  exact piece0 _ k n
theorem entry3 (k : Fin 1024) (n : Fin 512) : (V m c main_v4 (ix2 n k) : EReal) = m ((c : Thread nD τ).loc main_arg2) (ix2 k (⟨512 + n.val, by omega⟩ : Fin 4096)) := by
  entry_read
  exact piece512 _ k n
theorem entry4 (k : Fin 1024) (n : Fin 512) : (V m c main_v5 (ix2 k n) : EReal) = m ((c : Thread nD τ).loc main_arg2) (ix2 k (⟨1024 + n.val, by omega⟩ : Fin 4096)) := by
  entry_read
  exact piece1024 _ k n
theorem entry5 (k : Fin 1024) (n : Fin 512) : (V m c main_v7 (ix2 n k) : EReal) = m ((c : Thread nD τ).loc main_arg2) (ix2 k (⟨1536 + n.val, by omega⟩ : Fin 4096)) := by
  entry_read
  exact piece1536 _ k n
theorem entry6 (k : Fin 1024) (n : Fin 2048) : (V m c main_v8 (ix2 k n) : EReal) = m ((c : Thread nD τ).loc main_arg2) (ix2 k (⟨2048 + n.val, by omega⟩ : Fin 4096)) := by
  entry_read
  exact piece2048 _ k n

/-! ## Their blocks -/

/-- The blocks' places at a grid point: its batch entry and its half of the tokens. -/
theorem places : ∀ t : Fin cfg0.N,
    win0_0.index t = ![(grid0.coords t 0).val, (grid0.coords t 1).val, 0]
    ∧ win0_7.index t = ![0, (grid0.coords t 1).val, (grid0.coords t 0).val, 0, 0]
    ∧ win0_8.index t = ![(grid0.coords t 0).val, 0, (grid0.coords t 1).val]
    ∧ win0_9.index t = ![(grid0.coords t 0).val, (grid0.coords t 1).val, 0]
    ∧ win0_10.index t = ![(grid0.coords t 0).val, 0, (grid0.coords t 1).val]
    ∧ win0_11.index t = ![(grid0.coords t 0).val, (grid0.coords t 1).val, 0]
    ∧ win0_12.index t = ![(grid0.coords t 0).val, (grid0.coords t 1).val, 0]
    ∧ win0_13.index t = ![(grid0.coords t 0).val, (grid0.coords t 1).val, 0, 0] := by
  decide +kernel

/-- The gain and the matrix's pieces are whole. -/
theorem wholes : ∀ t : Fin cfg0.N,
    win0_1.index t = ![0, 0] ∧ win0_2.index t = ![0, 0] ∧ win0_3.index t = ![0, 0] ∧ win0_4.index t = ![0, 0]
    ∧ win0_5.index t = ![0, 0] ∧ win0_6.index t = ![0, 0] := by
  decide +kernel

/-- The coordinates of a grid point. -/
theorem coords_lt : ∀ t : Fin cfg0.N, (grid0.coords t 0).val < 32 ∧ (grid0.coords t 1).val < 2 := by
  decide +kernel

section
variable (g : Fin cfg0.N)

/-- The batch entry of a grid point. -/
def batch : Fin 32 := ⟨(grid0.coords g 0).val, (coords_lt g).1⟩
/-- A token of a grid point among the 2048. -/
def token (r : Fin 1024) : Fin 2048 := ⟨(grid0.coords g 1).val * 1024 + r.val, by have := (coords_lt g).2; omega⟩

theorem block0 (r : Fin 1024) (k : Fin 1024) : (iblk m c 0 g (ix3 0 r k) : EReal) = V m c main_arg0 (ix3 (batch g) (token g r) k) := by
  obtain ⟨p0, _⟩ := places g
  blk_ext [iblk, p0, batch, token]
theorem block1 (k : Fin 1024) : (iblk m c 1 g (ix2 0 k) : EReal) = V m c main_v1 (ix2 0 k) := by
  obtain ⟨p1, p2, p3, p4, p5, p6⟩ := wholes g
  blk_ext [iblk, p1]
theorem block2 (k : Fin 1024) (n : Fin 512) : (iblk m c 2 g (ix2 k n) : EReal) = V m c main_v2 (ix2 k n) := by
  obtain ⟨p1, p2, p3, p4, p5, p6⟩ := wholes g
  blk_ext [iblk, p2]
theorem block3 (k : Fin 1024) (n : Fin 512) : (iblk m c 3 g (ix2 n k) : EReal) = V m c main_v4 (ix2 n k) := by
  obtain ⟨p1, p2, p3, p4, p5, p6⟩ := wholes g
  blk_ext [iblk, p3]
theorem block4 (k : Fin 1024) (n : Fin 512) : (iblk m c 4 g (ix2 k n) : EReal) = V m c main_v5 (ix2 k n) := by
  obtain ⟨p1, p2, p3, p4, p5, p6⟩ := wholes g
  blk_ext [iblk, p4]
theorem block5 (k : Fin 1024) (n : Fin 512) : (iblk m c 5 g (ix2 n k) : EReal) = V m c main_v7 (ix2 n k) := by
  obtain ⟨p1, p2, p3, p4, p5, p6⟩ := wholes g
  blk_ext [iblk, p5]
theorem block6 (k : Fin 1024) (n : Fin 2048) : (iblk m c 6 g (ix2 k n) : EReal) = V m c main_v8 (ix2 k n) := by
  obtain ⟨p1, p2, p3, p4, p5, p6⟩ := wholes g
  blk_ext [iblk, p6]

end

end Cert.Entry

end
-- ==== Proof.Entry.Array.lean ====
/-
  The kernel's seven arrays after the run: the input projection of every token.
-/
module

public import proofs.«01_k».proof.Proof.Entry.Blocks

@[expose] public section

set_option maxRecDepth 16384

noncomputable section

namespace Cert.Entry

open Cert.ProjectIdeal Cert.ProjectIdeal.Gen Idealize.ShloMosaic Idealize.ShloMosaic.TcCoe

variable (m : (ℓ : Loc nD τ sig) → Buf (Elt Ideal) ℓ) (c : Dev nD)

/-- A token's projection at a column, of the kernel's arguments. -/
abbrev zedOf (b : Fin 32) (t : Fin 2048) (n : Fin 4096) : EReal :=
  zed (m ((c : Thread nD τ).loc main_arg0)) (m ((c : Thread nD τ).loc main_arg1)) (m ((c : Thread nD τ).loc main_arg2)) b t n

section
variable (g : Fin cfg0.N) (p : Fin 1024)

theorem row_block (k : Fin 1024) : (iblk m c 0 g (ix3 0 p k) : EReal) = m ((c : Thread nD τ).loc main_arg0) (ix3 (batch g) (token g p) k) :=
  (block0 m c g p k).trans (entry0 m c _ _ k)
theorem gain_block (k : Fin 1024) : (iblk m c 1 g (ix2 0 k) : EReal) = m ((c : Thread nD τ).loc main_arg1) (ix1 k) :=
  (block1 m c g k).trans (entry1 m c k)
theorem dotted2 (n : Fin 512) : dotted (fun k => iblk m c 0 g (ix3 0 p k)) (fun k => iblk m c 1 g (ix2 0 k)) (fun k => iblk m c 2 g (ix2 k n))
    = zedOf m c (batch g) (token g p) (⟨n.val, by omega⟩ : Fin 4096) :=
  dotted_congr (row_block m c g p) (gain_block m c g) fun k => (block2 m c g k n).trans (entry2 m c k n)
theorem dotted3 (n : Fin 512) : dotted (fun k => iblk m c 0 g (ix3 0 p k)) (fun k => iblk m c 1 g (ix2 0 k)) (fun k => iblk m c 3 g (ix2 n k))
    = zedOf m c (batch g) (token g p) (⟨512 + n.val, by omega⟩ : Fin 4096) :=
  dotted_congr (row_block m c g p) (gain_block m c g) fun k => (block3 m c g k n).trans (entry3 m c k n)
theorem dotted4 (n : Fin 512) : dotted (fun k => iblk m c 0 g (ix3 0 p k)) (fun k => iblk m c 1 g (ix2 0 k)) (fun k => iblk m c 4 g (ix2 k n))
    = zedOf m c (batch g) (token g p) (⟨1024 + n.val, by omega⟩ : Fin 4096) :=
  dotted_congr (row_block m c g p) (gain_block m c g) fun k => (block4 m c g k n).trans (entry4 m c k n)
theorem dotted5 (n : Fin 512) : dotted (fun k => iblk m c 0 g (ix3 0 p k)) (fun k => iblk m c 1 g (ix2 0 k)) (fun k => iblk m c 5 g (ix2 n k))
    = zedOf m c (batch g) (token g p) (⟨1536 + n.val, by omega⟩ : Fin 4096) :=
  dotted_congr (row_block m c g p) (gain_block m c g) fun k => (block5 m c g k n).trans (entry5 m c k n)
theorem dotted6 (n : Fin 2048) : dotted (fun k => iblk m c 0 g (ix3 0 p k)) (fun k => iblk m c 1 g (ix2 0 k)) (fun k => iblk m c 6 g (ix2 k n))
    = zedOf m c (batch g) (token g p) (⟨2048 + n.val, by omega⟩ : Fin 4096) :=
  dotted_congr (row_block m c g p) (gain_block m c g) fun k => (block6 m c g k n).trans (entry6 m c k n)
end

/-! ## What a grid point writes -/

section
variable (g : Fin cfg0.N) (r : Fin 4) (q : Fin 256)

theorem point7 (o : Fin 4) (i : Fin 32) (e : Fin 8) (l : Fin 128) :
    (out0_7 (iblk m c 0 g) (iblk m c 1 g) (iblk m c 2 g) (iblk m c 3 g) (iblk m c 4 g) (iblk m c 5 g) (iblk m c 6 g) (ix5 o (⟨32 * r.val + i.val, by omega⟩ : Fin 128) 0 e l) : EReal)
    = zedOf m c (batch g) (token g (place r (⟨i.val * 8 + e.val, by omega⟩ : Fin 256))) (⟨128 * o.val + l.val, by omega⟩ : Fin 4096) :=
  (out7 _ _ _ _ _ _ _ r o i e l).trans (dotted2 m c g _ _)
theorem point8 (n : Fin 512) : (out0_8 (iblk m c 0 g) (iblk m c 1 g) (iblk m c 2 g) (iblk m c 3 g) (iblk m c 4 g) (iblk m c 5 g) (iblk m c 6 g) (ix3 0 n (place r q)) : EReal)
    = zedOf m c (batch g) (token g (place r q)) (⟨512 + n.val, by omega⟩ : Fin 4096) * Ideal.ofBits .f32 0x3E38AA3B#32 :=
  (out8 _ _ _ _ _ _ _ r q n).trans (congrArg (fun s : EReal => s * _) (dotted3 m c g _ n))
theorem point9 (n : Fin 512) : (out0_9 (iblk m c 0 g) (iblk m c 1 g) (iblk m c 2 g) (iblk m c 3 g) (iblk m c 4 g) (iblk m c 5 g) (iblk m c 6 g) (ix3 0 (place r q) n) : EReal)
    = zedOf m c (batch g) (token g (place r q)) (⟨1024 + n.val, by omega⟩ : Fin 4096) :=
  (out9 _ _ _ _ _ _ _ r q n).trans (dotted4 m c g _ n)
theorem point10 (n : Fin 512) : (out0_10 (iblk m c 0 g) (iblk m c 1 g) (iblk m c 2 g) (iblk m c 3 g) (iblk m c 4 g) (iblk m c 5 g) (iblk m c 6 g) (ix3 0 n (place r q)) : EReal)
    = zedOf m c (batch g) (token g (place r q)) (⟨1536 + n.val, by omega⟩ : Fin 4096) :=
  (out10 _ _ _ _ _ _ _ r q n).trans (dotted5 m c g _ n)
theorem point11 (n : Fin 1024) : (out0_11 (iblk m c 0 g) (iblk m c 1 g) (iblk m c 2 g) (iblk m c 3 g) (iblk m c 4 g) (iblk m c 5 g) (iblk m c 6 g) (ix3 0 (place r q) n) : EReal)
    = Ideal.logistic (zedOf m c (batch g) (token g (place r q)) (⟨2048 + n.val, by omega⟩ : Fin 4096)) :=
  (out11 _ _ _ _ _ _ _ r q n).trans (congrArg Ideal.logistic ((dotted6 m c g _ _).trans (zed_val _ _ _ rfl rfl (by
    show 2048 + (1024 * 0 + n.val) = 2048 + n.val; omega))))
theorem point12 (n : Fin 1024) : (out0_12 (iblk m c 0 g) (iblk m c 1 g) (iblk m c 2 g) (iblk m c 3 g) (iblk m c 4 g) (iblk m c 5 g) (iblk m c 6 g) (ix3 0 (place r q) n) : EReal)
    = Ideal.logistic (zedOf m c (batch g) (token g (place r q)) (⟨3072 + n.val, by omega⟩ : Fin 4096)) :=
  (out12 _ _ _ _ _ _ _ r q n).trans (congrArg Ideal.logistic ((dotted6 m c g _ _).trans (zed_val _ _ _ rfl rfl (by
    show 2048 + (1024 * 1 + n.val) = 3072 + n.val; omega))))
theorem point13 (n : Fin 512) : (out0_13 (iblk m c 0 g) (iblk m c 1 g) (iblk m c 2 g) (iblk m c 3 g) (iblk m c 4 g) (iblk m c 5 g) (iblk m c 6 g) (ix4 0 r 0 n) : EReal)
    = Ideal.div (∑ q : Fin 256, zedOf m c (batch g) (token g (place r q)) (⟨1024 + n.val, by omega⟩ : Fin 4096)) (Ideal.ofBits .f32 0x43800000#32) :=
  (out13 _ _ _ _ _ _ _ r n).trans (congrArg (Ideal.div · _) (Finset.sum_congr rfl fun q _ => dotted4 m c g _ n))
end

/-! ## The arrays -/

section
variable (x : FVec Ideal S32x2048x1024 .f32) (g : FVec Ideal S1024 .f32) (w : FVec Ideal S1024x4096 .f32) (b : Fin 32) (t : Fin 2048)

theorem stateIn_at (z : S4x256x32x8x128.Idx) (n : Fin 4096) (z2 : (z 2).val = b.val) (zt : (z 1).val * 8 + (z 3).val = t.val)
    (zn : (z 0).val * 128 + (z 4).val = n.val) : (stateIn x g w z : EReal) = zed x g w b t n := zed_val x g w z2 zt zn
theorem queries_at (z : S32x512x2048.Idx) (n : Fin 512) (z0 : (z 0).val = b.val) (z1 : (z 1).val = n.val) (z2 : (z 2).val = t.val) :
    (queries x g w z : EReal) = zed x g w b t (⟨512 + n.val, by omega⟩ : Fin 4096) * Ideal.ofBits .f32 0x3E38AA3B#32 :=
  congrArg (fun s : EReal => s * _) (zed_val x g w z0 z2 (congrArg (512 + ·) z1))
theorem keys_at (z : S32x2048x512.Idx) (n : Fin 512) (z0 : (z 0).val = b.val) (z1 : (z 1).val = t.val) (z2 : (z 2).val = n.val) :
    (keys x g w z : EReal) = zed x g w b t (⟨1024 + n.val, by omega⟩ : Fin 4096) := zed_val x g w z0 z1 (congrArg (1024 + ·) z2)
theorem values_at (z : S32x512x2048.Idx) (n : Fin 512) (z0 : (z 0).val = b.val) (z1 : (z 1).val = n.val) (z2 : (z 2).val = t.val) :
    (values x g w z : EReal) = zed x g w b t (⟨1536 + n.val, by omega⟩ : Fin 4096) := zed_val x g w z0 z2 (congrArg (1536 + ·) z1)
theorem gateA_at (z : S32x2048x1024.Idx) (n : Fin 1024) (z0 : (z 0).val = b.val) (z1 : (z 1).val = t.val) (z2 : (z 2).val = n.val) :
    (gateA x g w z : EReal) = Ideal.logistic (zed x g w b t (⟨2048 + n.val, by omega⟩ : Fin 4096)) :=
  congrArg Ideal.logistic (zed_val x g w z0 z1 (congrArg (2048 + ·) z2))
theorem gateB_at (z : S32x2048x1024.Idx) (n : Fin 1024) (z0 : (z 0).val = b.val) (z1 : (z 1).val = t.val) (z2 : (z 2).val = n.val) :
    (gateB x g w z : EReal) = Ideal.logistic (zed x g w b t (⟨3072 + n.val, by omega⟩ : Fin 4096)) :=
  congrArg Ideal.logistic (zed_val x g w z0 z1 (congrArg (3072 + ·) z2))
theorem means_at (z : S32x8x1x512.Idx) (s : Fin 256 → Fin 2048) (n : Fin 512) (z0 : (z 0).val = b.val) (z1 : ∀ q : Fin 256, (z 1).val * 256 + q.val = (s q).val)
    (z3 : (z 3).val = n.val) :
    (means x g w z : EReal) = Ideal.div (∑ q : Fin 256, zed x g w b (s q) (⟨1024 + n.val, by omega⟩ : Fin 4096)) (Ideal.ofBits .f32 0x43800000#32) :=
  congrArg (Ideal.div · _) (Finset.sum_congr rfl fun q _ => zed_val x g w z0 (z1 q) (congrArg (1024 + ·) z3))
end

/-- The state-space input. -/
theorem array7 : (dats m 0 c).arrAt 7 cfg0.N = stateIn (m ((c : Thread nD τ).loc main_arg0)) (m ((c : Thread nD τ).loc main_arg1)) (m ((c : Thread nD τ).loc main_arg2)) := by
  refine (dats m 0 c).arrAt_eq_of_covers 7 _ (by decide +kernel) fun t hf y => ?_
  obtain ⟨p0, p7, p8, p9, p10, p11, p12, p13⟩ := places t
  have hy0 : (y 0).val < 4 := (y 0).isLt
  have hy1 : (y 1).val < 128 := (y 1).isLt
  have hy2 : (y 2).val < 1 := (y 2).isLt
  have hy3 : (y 3).val < 8 := (y 3).isLt
  have hy4 : (y 4).val < 128 := (y 4).isLt
  have hc := (coords_lt t).2
  blk_simp
  rw [after0_7]
  have hy : y = ix5 (⟨(y 0).val, hy0⟩ : Fin 4) (⟨32 * ((y 1).val / 32) + (y 1).val % 32, by omega⟩ : Fin 128) 0 (⟨(y 3).val, hy3⟩ : Fin 8) (⟨(y 4).val, hy4⟩ : Fin 128) := by
    funext a
    fin_cases a
    · rfl
    · exact Fin.ext (by show (y 1).val = 32 * ((y 1).val / 32) + (y 1).val % 32; omega)
    · exact Fin.ext (by show (y 2).val = 0; omega)
    · rfl
    · rfl
  refine (congrArg _ hy).trans ((point7 m c t (⟨(y 1).val / 32, by omega⟩ : Fin 4) _ (⟨(y 1).val % 32, by omega⟩ : Fin 32) _ _).trans (stateIn_at _ _ _ _ _ _ _ ?_ ?_ ?_).symm)
  · blk_simp [p7]
    rfl
  · blk_simp [p7]
    show ((grid0.coords t 1).val * 128 + (y 1).val) * 8 + (y 3).val
      = (grid0.coords t 1).val * 1024 + (256 * ((y 1).val / 32) + ((y 1).val % 32 * 8 + (y 3).val))
    omega
  · blk_simp [p7]
    show (y 0).val * 128 + (y 4).val = 128 * (y 0).val + (y 4).val
    omega
/-- The scaled queries. -/
theorem array8 : (dats m 0 c).arrAt 8 cfg0.N = queries (m ((c : Thread nD τ).loc main_arg0)) (m ((c : Thread nD τ).loc main_arg1)) (m ((c : Thread nD τ).loc main_arg2)) := by
  refine (dats m 0 c).arrAt_eq_of_covers 8 _ (by decide +kernel) fun t hf y => ?_
  obtain ⟨p0, p7, p8, p9, p10, p11, p12, p13⟩ := places t
  have hy0 : (y 0).val < 1 := (y 0).isLt
  have hy1 : (y 1).val < 512 := (y 1).isLt
  have hy2 : (y 2).val < 1024 := (y 2).isLt
  have hc := (coords_lt t).2
  blk_simp
  rw [after0_8]
  have hy : y = ix3 0 (⟨(y 1).val, hy1⟩ : Fin 512) (place (⟨(y 2).val / 256, by omega⟩ : Fin 4) (⟨(y 2).val % 256, by omega⟩ : Fin 256)) := by
    funext a
    fin_cases a
    · exact Fin.ext (by show (y 0).val = 0; omega)
    · rfl
    · exact Fin.ext (by show (y 2).val = 256 * ((y 2).val / 256) + (y 2).val % 256; omega)
  refine (congrArg _ hy).trans ((point8 m c t _ _ _).trans (queries_at _ _ _ _ _ _ _ ?_ ?_ ?_).symm)
  · blk_simp [p8]
    rfl
  · blk_simp [p8]
  · blk_simp [p8]
    show (grid0.coords t 1).val * 1024 + (y 2).val = (grid0.coords t 1).val * 1024 + (256 * ((y 2).val / 256) + (y 2).val % 256)
    omega
/-- The values. -/
theorem array10 : (dats m 0 c).arrAt 10 cfg0.N = values (m ((c : Thread nD τ).loc main_arg0)) (m ((c : Thread nD τ).loc main_arg1)) (m ((c : Thread nD τ).loc main_arg2)) := by
  refine (dats m 0 c).arrAt_eq_of_covers 10 _ (by decide +kernel) fun t hf y => ?_
  obtain ⟨p0, p7, p8, p9, p10, p11, p12, p13⟩ := places t
  have hy0 : (y 0).val < 1 := (y 0).isLt
  have hy1 : (y 1).val < 512 := (y 1).isLt
  have hy2 : (y 2).val < 1024 := (y 2).isLt
  have hc := (coords_lt t).2
  blk_simp
  rw [after0_10]
  have hy : y = ix3 0 (⟨(y 1).val, hy1⟩ : Fin 512) (place (⟨(y 2).val / 256, by omega⟩ : Fin 4) (⟨(y 2).val % 256, by omega⟩ : Fin 256)) := by
    funext a
    fin_cases a
    · exact Fin.ext (by show (y 0).val = 0; omega)
    · rfl
    · exact Fin.ext (by show (y 2).val = 256 * ((y 2).val / 256) + (y 2).val % 256; omega)
  refine (congrArg _ hy).trans ((point10 m c t _ _ _).trans (values_at _ _ _ _ _ _ _ ?_ ?_ ?_).symm)
  · blk_simp [p10]
    rfl
  · blk_simp [p10]
  · blk_simp [p10]
    show (grid0.coords t 1).val * 1024 + (y 2).val = (grid0.coords t 1).val * 1024 + (256 * ((y 2).val / 256) + (y 2).val % 256)
    omega
/-- The keys. -/
theorem array9 : (dats m 0 c).arrAt 9 cfg0.N = keys (m ((c : Thread nD τ).loc main_arg0)) (m ((c : Thread nD τ).loc main_arg1)) (m ((c : Thread nD τ).loc main_arg2)) := by
  refine (dats m 0 c).arrAt_eq_of_covers 9 _ (by decide +kernel) fun t hf y => ?_
  obtain ⟨p0, p7, p8, p9, p10, p11, p12, p13⟩ := places t
  have hy0 : (y 0).val < 1 := (y 0).isLt
  have hy1 : (y 1).val < 1024 := (y 1).isLt
  have hy2 : (y 2).val < 512 := (y 2).isLt
  have hc := (coords_lt t).2
  blk_simp
  rw [after0_9]
  have hy : y = ix3 0 (place (⟨(y 1).val / 256, by omega⟩ : Fin 4) (⟨(y 1).val % 256, by omega⟩ : Fin 256)) (⟨(y 2).val, hy2⟩ : Fin 512) := by
    funext a
    fin_cases a
    · exact Fin.ext (by show (y 0).val = 0; omega)
    · exact Fin.ext (by show (y 1).val = 256 * ((y 1).val / 256) + (y 1).val % 256; omega)
    · rfl
  refine (congrArg _ hy).trans ((point9 m c t _ _ _).trans (keys_at _ _ _ _ _ _ _ ?_ ?_ ?_).symm)
  · blk_simp [p9]
    rfl
  · blk_simp [p9]
    show (grid0.coords t 1).val * 1024 + (y 1).val = (grid0.coords t 1).val * 1024 + (256 * ((y 1).val / 256) + (y 1).val % 256)
    omega
  · blk_simp [p9]
/-- The state-space branch's gate. -/
theorem array11 : (dats m 0 c).arrAt 11 cfg0.N = gateA (m ((c : Thread nD τ).loc main_arg0)) (m ((c : Thread nD τ).loc main_arg1)) (m ((c : Thread nD τ).loc main_arg2)) := by
  refine (dats m 0 c).arrAt_eq_of_covers 11 _ (by decide +kernel) fun t hf y => ?_
  obtain ⟨p0, p7, p8, p9, p10, p11, p12, p13⟩ := places t
  have hy0 : (y 0).val < 1 := (y 0).isLt
  have hy1 : (y 1).val < 1024 := (y 1).isLt
  have hy2 : (y 2).val < 1024 := (y 2).isLt
  have hc := (coords_lt t).2
  blk_simp
  rw [after0_11]
  have hy : y = ix3 0 (place (⟨(y 1).val / 256, by omega⟩ : Fin 4) (⟨(y 1).val % 256, by omega⟩ : Fin 256)) (⟨(y 2).val, hy2⟩ : Fin 1024) := by
    funext a
    fin_cases a
    · exact Fin.ext (by show (y 0).val = 0; omega)
    · exact Fin.ext (by show (y 1).val = 256 * ((y 1).val / 256) + (y 1).val % 256; omega)
    · rfl
  refine (congrArg _ hy).trans ((point11 m c t _ _ _).trans (gateA_at _ _ _ _ _ _ _ ?_ ?_ ?_).symm)
  · blk_simp [p11]
    rfl
  · blk_simp [p11]
    show (grid0.coords t 1).val * 1024 + (y 1).val = (grid0.coords t 1).val * 1024 + (256 * ((y 1).val / 256) + (y 1).val % 256)
    omega
  · blk_simp [p11]
/-- The attention branch's gate. -/
theorem array12 : (dats m 0 c).arrAt 12 cfg0.N = gateB (m ((c : Thread nD τ).loc main_arg0)) (m ((c : Thread nD τ).loc main_arg1)) (m ((c : Thread nD τ).loc main_arg2)) := by
  refine (dats m 0 c).arrAt_eq_of_covers 12 _ (by decide +kernel) fun t hf y => ?_
  obtain ⟨p0, p7, p8, p9, p10, p11, p12, p13⟩ := places t
  have hy0 : (y 0).val < 1 := (y 0).isLt
  have hy1 : (y 1).val < 1024 := (y 1).isLt
  have hy2 : (y 2).val < 1024 := (y 2).isLt
  have hc := (coords_lt t).2
  blk_simp
  rw [after0_12]
  have hy : y = ix3 0 (place (⟨(y 1).val / 256, by omega⟩ : Fin 4) (⟨(y 1).val % 256, by omega⟩ : Fin 256)) (⟨(y 2).val, hy2⟩ : Fin 1024) := by
    funext a
    fin_cases a
    · exact Fin.ext (by show (y 0).val = 0; omega)
    · exact Fin.ext (by show (y 1).val = 256 * ((y 1).val / 256) + (y 1).val % 256; omega)
    · rfl
  refine (congrArg _ hy).trans ((point12 m c t _ _ _).trans (gateB_at _ _ _ _ _ _ _ ?_ ?_ ?_).symm)
  · blk_simp [p12]
    rfl
  · blk_simp [p12]
    show (grid0.coords t 1).val * 1024 + (y 1).val = (grid0.coords t 1).val * 1024 + (256 * ((y 1).val / 256) + (y 1).val % 256)
    omega
  · blk_simp [p12]
/-- The means of the keys. -/
theorem array13 : (dats m 0 c).arrAt 13 cfg0.N = means (m ((c : Thread nD τ).loc main_arg0)) (m ((c : Thread nD τ).loc main_arg1)) (m ((c : Thread nD τ).loc main_arg2)) := by
  refine (dats m 0 c).arrAt_eq_of_covers 13 _ (by decide +kernel) fun t hf y => ?_
  obtain ⟨p0, p7, p8, p9, p10, p11, p12, p13⟩ := places t
  have hy0 : (y 0).val < 1 := (y 0).isLt
  have hy1 : (y 1).val < 4 := (y 1).isLt
  have hy2 : (y 2).val < 1 := (y 2).isLt
  have hy3 : (y 3).val < 512 := (y 3).isLt
  have hc := (coords_lt t).2
  blk_simp
  rw [after0_13]
  have hy : y = ix4 0 (⟨(y 1).val, hy1⟩ : Fin 4) 0 (⟨(y 3).val, hy3⟩ : Fin 512) := by
    funext a
    fin_cases a
    · exact Fin.ext (by show (y 0).val = 0; omega)
    · rfl
    · exact Fin.ext (by show (y 2).val = 0; omega)
    · rfl
  refine (congrArg _ hy).trans ((point13 m c t _ _).trans (means_at _ _ _ _ _ _ _ ?_ (fun q => ?_) ?_).symm)
  · blk_simp [p13]
    rfl
  · blk_simp [p13]
    show ((grid0.coords t 1).val * 4 + (y 1).val) * 256 + q.val = (grid0.coords t 1).val * 1024 + (256 * (y 1).val + q.val)
    omega
  · blk_simp [p13]

end Cert.Entry

end
-- ==== Proof.Entry.Reference.lean ====
/-
  The reference's seven results at an index: its token's projection.
-/
module

public import proofs.«01_k».proof.Proof.Entry.Results
public import proofs.«01_k».proof.Proof.Gen.ProjectReferenceIdeal.Run
public import Idealize.ShloMosaic.Lib.Pointwise

@[expose] public section

set_option maxRecDepth 16384

noncomputable section

namespace Cert.Entry.Ref

open Cert.ProjectReferenceIdeal Cert.ProjectReferenceIdeal.Gen Idealize.ShloMosaic Cert.Entry

/-! ## The operations -/

/-- Rows over their root mean square, times a gain. -/
def normed (v : FVec Ideal S32x2048x1024 .f32) (g : FVec Ideal S1024 .f32) : FVec Ideal S32x2048x1024 .f32 :=
  mulf (mulf v (broadcastInDim S32x2048x1024 ![0, 1, 2] bcast_S32x2048x1_S32x2048x1024_0_1_2
    (Host.rsqrt (addf (Host.divf (broadcastInDim S32x2048x1 ![0, 1] bcast_S32x2048_S32x2048x1_0_1
      (Host.reduceAdd (mulf v v) (constant S_ .f32 0x00000000#32) reducesTo_S32x2048x1024_S32x2048_d2 h_S_))
      (broadcastInDim S32x2048x1 ![] bcast_S_S32x2048x1 (constant S_ .f32 0x44800000#32)))
      (broadcastInDim S32x2048x1 ![] bcast_S_S32x2048x1 (constant S_ .f32 0x358637BD#32))))))
    (broadcastInDim S32x2048x1024 ![0, 1, 2] bcast_S1x1x1024_S32x2048x1024_0_1_2 (broadcastInDim S1x1x1024 ![2] bcast_S1024_S1x1x1024_2 g))
/-- Rows against the matrix. -/
def product (a : FVec Ideal S32x2048x1024 .f32) (w : FVec Ideal S1024x4096 .f32) : FVec Ideal S32x2048x4096 .f32 :=
  Host.dotGeneral dot_S32x2048x1024_S1024x4096_S32x2048x4096_2_0_01_1_n_n none a w
/-- The state-space input, of the projection. -/
def stateOf (z : FVec Ideal S32x2048x4096 .f32) : FVec Ideal S4x256x32x8x128 .f32 :=
  transpose S4x256x32x8x128 [3, 1, 0, 2, 4] (shapeCast S32x256x8x4x128 (extractStridedSlice S32x2048x512 ![0, 0, 0] z slices_S32x2048x4096_S32x2048x512_0_0_0)
    shapeCasts_S32x2048x512_S32x256x8x4x128) transposes_S32x256x8x4x128_S4x256x32x8x128_3_1_0_2_4
/-- The scaled queries. -/
def queriesOf (z : FVec Ideal S32x2048x4096 .f32) : FVec Ideal S32x512x2048 .bf16 :=
  truncf .bf16 (transpose S32x512x2048 [0, 2, 1] (mulf (extractStridedSlice S32x2048x512 ![0, 0, 512] z slices_S32x2048x4096_S32x2048x512_0_0_512)
    (broadcastInDim S32x2048x512 ![] bcast_S_S32x2048x512 (constant S_ .f32 0x3E38AA3B#32))) transposes_S32x2048x512_S32x512x2048_0_2_1) bitsLt_bf16_f32
/-- The keys. -/
def keysOf (z : FVec Ideal S32x2048x4096 .f32) : FVec Ideal S32x2048x512 .bf16 :=
  truncf .bf16 (extractStridedSlice S32x2048x512 ![0, 0, 1024] z slices_S32x2048x4096_S32x2048x512_0_0_1024) bitsLt_bf16_f32
/-- The values. -/
def valuesOf (z : FVec Ideal S32x2048x4096 .f32) : FVec Ideal S32x512x2048 .bf16 :=
  truncf .bf16 (transpose S32x512x2048 [0, 2, 1] (extractStridedSlice S32x2048x512 ![0, 0, 1536] z slices_S32x2048x4096_S32x2048x512_0_0_1536)
    transposes_S32x2048x512_S32x512x2048_0_2_1) bitsLt_bf16_f32
/-- A gate, of its logits. -/
def sigmoid (s : FVec Ideal S32x2048x1024 .f32) : FVec Ideal S32x2048x1024 .bf16 :=
  truncf .bf16 (Host.divf (broadcastInDim S32x2048x1024 ![] bcast_S_S32x2048x1024 (constant S_ .f32 0x3F800000#32))
    (addf (broadcastInDim S32x2048x1024 ![] bcast_S_S32x2048x1024 (constant S_ .f32 0x3F800000#32)) (Host.exp (Host.negf s)))) bitsLt_bf16_f32
/-- The state-space branch's gate. -/
def gateAOf (z : FVec Ideal S32x2048x4096 .f32) : FVec Ideal S32x2048x1024 .bf16 :=
  sigmoid (extractStridedSlice S32x2048x1024 ![0, 0, 2048] z slices_S32x2048x4096_S32x2048x1024_0_0_2048)
/-- The attention branch's gate. -/
def gateBOf (z : FVec Ideal S32x2048x4096 .f32) : FVec Ideal S32x2048x1024 .bf16 :=
  sigmoid (extractStridedSlice S32x2048x1024 ![0, 0, 3072] z slices_S32x2048x4096_S32x2048x1024_0_0_3072)
/-- The keys in blocks of 256 tokens. -/
def blocked (z : FVec Ideal S32x2048x4096 .f32) : FVec Ideal S32x8x256x512 .f32 :=
  shapeCast S32x8x256x512 (extractStridedSlice S32x2048x512 ![0, 0, 1024] z slices_S32x2048x4096_S32x2048x512_0_0_1024) shapeCasts_S32x2048x512_S32x8x256x512
/-- The mean over each block. -/
def meanOf (y : FVec Ideal S32x8x256x512 .f32) : FVec Ideal S32x8x1x512 .f32 :=
  Host.divf (broadcastInDim S32x8x1x512 ![0, 1, 3] bcast_S32x8x512_S32x8x1x512_0_1_3
      (Host.reduceAdd y (constant S_ .f32 0x00000000#32) reducesTo_S32x8x256x512_S32x8x512_d2 h_S_))
    (broadcastInDim S32x8x1x512 ![] bcast_S_S32x8x1x512 (constant S_ .f32 0x43800000#32))

theorem normed_apply (b : Fin 32) (t : Fin 2048) (n : Fin 1024) (v : FVec Ideal S32x2048x1024 .f32) (g : FVec Ideal S1024 .f32) :
    (normed v g (ix3 b t n) : EReal) = Tail.norm (fun k => v (ix3 b t k)) n * g (ix1 n) := by
  pointwise [normed, Tail.norm]
theorem product_apply (b : Fin 32) (t : Fin 2048) (n : Fin 4096) (a : FVec Ideal S32x2048x1024 .f32) (w : FVec Ideal S1024x4096 .f32) :
    (product a w (ix3 b t n) : EReal) = ∑ k : Fin 1024, (a (ix3 b t k) : EReal) * w (ix2 k n) := by
  pointwise [product]
theorem stateOf_apply (z : FVec Ideal S32x2048x4096 .f32) (o : Fin 4) (q : Fin 256) (b : Fin 32) (e : Fin 8) (l : Fin 128) :
    (stateOf z (ix5 o q b e l) : EReal) = z (ix3 b (⟨q.val * 8 + e.val, by omega⟩ : Fin 2048) (⟨o.val * 128 + l.val, by omega⟩ : Fin 4096)) := by
  have h : ∀ y : FVec Ideal S32x2048x512 .f32, (transpose S4x256x32x8x128 [3, 1, 0, 2, 4] (shapeCast S32x256x8x4x128 y shapeCasts_S32x2048x512_S32x256x8x4x128)
      transposes_S32x256x8x4x128_S4x256x32x8x128_3_1_0_2_4 (ix5 o q b e l) : EReal)
      = y (ix3 b (⟨q.val * 8 + e.val, by omega⟩ : Fin 2048) (⟨o.val * 128 + l.val, by omega⟩ : Fin 512)) := fun y => by
    pointwise []
  refine (h _).trans ?_
  pointwise []
theorem queriesOf_apply (z : FVec Ideal S32x2048x4096 .f32) (b : Fin 32) (n : Fin 512) (t : Fin 2048) :
    (queriesOf z (ix3 b n t) : EReal) = z (ix3 b t (⟨512 + n.val, by omega⟩ : Fin 4096)) * Ideal.ofBits .f32 0x3E38AA3B#32 := by
  pointwise [queriesOf]
theorem keysOf_apply (z : FVec Ideal S32x2048x4096 .f32) (b : Fin 32) (t : Fin 2048) (n : Fin 512) :
    (keysOf z (ix3 b t n) : EReal) = z (ix3 b t (⟨1024 + n.val, by omega⟩ : Fin 4096)) := by
  pointwise [keysOf]
theorem valuesOf_apply (z : FVec Ideal S32x2048x4096 .f32) (b : Fin 32) (n : Fin 512) (t : Fin 2048) :
    (valuesOf z (ix3 b n t) : EReal) = z (ix3 b t (⟨1536 + n.val, by omega⟩ : Fin 4096)) := by
  pointwise [valuesOf]
theorem sigmoid_apply (s : FVec Ideal S32x2048x1024 .f32) (b : Fin 32) (t : Fin 2048) (n : Fin 1024) :
    (sigmoid s (ix3 b t n) : EReal) = Ideal.logistic (s (ix3 b t n)) := by
  have h : (sigmoid s (ix3 b t n) : EReal)
      = Ideal.div (Ideal.ofBits .f32 0x3F800000#32) (Ideal.ofBits .f32 0x3F800000#32 + Ideal.exp (-(s (ix3 b t n)))) := by
    pointwise [sigmoid]
  rw [h, Tail.bits_one]
  rfl
theorem gateAOf_apply (z : FVec Ideal S32x2048x4096 .f32) (b : Fin 32) (t : Fin 2048) (n : Fin 1024) :
    (gateAOf z (ix3 b t n) : EReal) = Ideal.logistic (z (ix3 b t (⟨2048 + n.val, by omega⟩ : Fin 4096))) := by
  have h : (extractStridedSlice S32x2048x1024 ![0, 0, 2048] z slices_S32x2048x4096_S32x2048x1024_0_0_2048 (ix3 b t n) : EReal)
      = z (ix3 b t (⟨2048 + n.val, by omega⟩ : Fin 4096)) := by
    pointwise []
  exact (sigmoid_apply _ b t n).trans (congrArg Ideal.logistic h)
theorem gateBOf_apply (z : FVec Ideal S32x2048x4096 .f32) (b : Fin 32) (t : Fin 2048) (n : Fin 1024) :
    (gateBOf z (ix3 b t n) : EReal) = Ideal.logistic (z (ix3 b t (⟨3072 + n.val, by omega⟩ : Fin 4096))) := by
  have h : (extractStridedSlice S32x2048x1024 ![0, 0, 3072] z slices_S32x2048x4096_S32x2048x1024_0_0_3072 (ix3 b t n) : EReal)
      = z (ix3 b t (⟨3072 + n.val, by omega⟩ : Fin 4096)) := by
    pointwise []
  exact (sigmoid_apply _ b t n).trans (congrArg Ideal.logistic h)
theorem blocked_apply (z : FVec Ideal S32x2048x4096 .f32) (b : Fin 32) (j : Fin 8) (c : Fin 256) (n : Fin 512) :
    (blocked z (ix4 b j c n) : EReal) = z (ix3 b (⟨j.val * 256 + c.val, by omega⟩ : Fin 2048) (⟨1024 + n.val, by omega⟩ : Fin 4096)) := by
  have h : ∀ y : FVec Ideal S32x2048x512 .f32, (shapeCast S32x8x256x512 y shapeCasts_S32x2048x512_S32x8x256x512 (ix4 b j c n) : EReal)
      = y (ix3 b (⟨j.val * 256 + c.val, by omega⟩ : Fin 2048) n) := fun y => by
    pointwise []
  refine (h _).trans ?_
  pointwise []
theorem meanOf_apply (y : FVec Ideal S32x8x256x512 .f32) (b : Fin 32) (j : Fin 8) (n : Fin 512) :
    (meanOf y (ix4 b j 0 n) : EReal) = Ideal.div (∑ c : Fin 256, (y (ix4 b j c n) : EReal)) (Ideal.ofBits .f32 0x43800000#32) := by
  pointwise [meanOf]

/-! ## The results -/

section
variable (x : FVec Ideal S32x2048x1024 .f32) (g : FVec Ideal S1024 .f32) (w : FVec Ideal S1024x4096 .f32)

/-- The projection of every token. -/
def projected : FVec Ideal S32x2048x4096 .f32 := product (normed x g) w

theorem projected_apply (b : Fin 32) (t : Fin 2048) (n : Fin 4096) : (projected x g w (ix3 b t n) : EReal) = zed x g w b t n :=
  (product_apply b t n _ w).trans (Finset.sum_congr rfl fun k _ => congrArg (· * _) (normed_apply b t k x g))

theorem stateOf_eq : stateOf (projected x g w) = stateIn x g w := by
  funext z
  have hz : z = ix5 (z 0) (z 1) (z 2) (z 3) (z 4) := by
    funext i
    fin_cases i <;> rfl
  exact (congrArg _ hz).trans ((stateOf_apply _ (z 0) (z 1) (z 2) (z 3) (z 4)).trans (projected_apply x g w _ _ _))
theorem queriesOf_eq : queriesOf (projected x g w) = queries x g w := by
  funext z
  have hz : z = ix3 (z 0) (z 1) (z 2) := by
    funext i
    fin_cases i <;> rfl
  exact (congrArg _ hz).trans ((queriesOf_apply _ (z 0) (z 1) (z 2)).trans (congrArg (fun s : EReal => s * _) (projected_apply x g w _ _ _)))
theorem keysOf_eq : keysOf (projected x g w) = keys x g w := by
  funext z
  have hz : z = ix3 (z 0) (z 1) (z 2) := by
    funext i
    fin_cases i <;> rfl
  exact (congrArg _ hz).trans ((keysOf_apply _ (z 0) (z 1) (z 2)).trans (projected_apply x g w _ _ _))
theorem valuesOf_eq : valuesOf (projected x g w) = values x g w := by
  funext z
  have hz : z = ix3 (z 0) (z 1) (z 2) := by
    funext i
    fin_cases i <;> rfl
  exact (congrArg _ hz).trans ((valuesOf_apply _ (z 0) (z 1) (z 2)).trans (projected_apply x g w _ _ _))
theorem gateAOf_eq : gateAOf (projected x g w) = gateA x g w := by
  funext z
  have hz : z = ix3 (z 0) (z 1) (z 2) := by
    funext i
    fin_cases i <;> rfl
  exact (congrArg _ hz).trans ((gateAOf_apply _ (z 0) (z 1) (z 2)).trans (congrArg Ideal.logistic (projected_apply x g w _ _ _)))
theorem gateBOf_eq : gateBOf (projected x g w) = gateB x g w := by
  funext z
  have hz : z = ix3 (z 0) (z 1) (z 2) := by
    funext i
    fin_cases i <;> rfl
  exact (congrArg _ hz).trans ((gateBOf_apply _ (z 0) (z 1) (z 2)).trans (congrArg Ideal.logistic (projected_apply x g w _ _ _)))
theorem meanOf_eq : meanOf (blocked (projected x g w)) = means x g w := by
  funext z
  have hz : z = ix4 (z 0) (z 1) 0 (z 3) := by
    funext i
    fin_cases i
    · rfl
    · rfl
    · exact Fin.ext (Nat.lt_one_iff.mp (z 2).isLt)
    · rfl
  exact (congrArg _ hz).trans ((meanOf_apply _ (z 0) (z 1) (z 3)).trans (congrArg (Ideal.div · _) (Finset.sum_congr rfl fun c _ =>
    (blocked_apply _ (z 0) (z 1) c (z 3)).trans (projected_apply x g w _ _ _))))
end

end Cert.Entry.Ref

end
-- ==== Proof.Entry.Equation.lean ====
/-
  The two programs of the input projection agree: each of the seven arrays is the reference's result.
-/
module

public import proofs.«01_k».proof.Proof.Entry.Array
public import proofs.«01_k».proof.Proof.Entry.Reference

@[expose] public section

set_option maxRecDepth 16384

noncomputable section

namespace Cert.Entry

open Idealize.ShloMosaic Idealize.ShloMosaic.TcCoe

variable (m : (ℓ : Loc Cert.ProjectIdeal.nD Cert.ProjectIdeal.τ Cert.ProjectIdeal.sig) → Buf (Elt Ideal) ℓ)
  (m' : (ℓ : Loc Cert.ProjectReferenceIdeal.nD Cert.ProjectReferenceIdeal.τ Cert.ProjectReferenceIdeal.sig) → Buf (Elt Ideal) ℓ) (c : Dev Cert.ProjectIdeal.nD)

/-- The reference's projection of every token. -/
abbrev referenceProjected : FVec Ideal Cert.ProjectReferenceIdeal.S32x2048x4096 .f32 :=
  Ref.projected (m' ((c.tc : Thread Cert.ProjectReferenceIdeal.nD Cert.ProjectReferenceIdeal.τ).loc Cert.ProjectReferenceIdeal.main_arg0)) (m' ((c.tc : Thread Cert.ProjectReferenceIdeal.nD Cert.ProjectReferenceIdeal.τ).loc Cert.ProjectReferenceIdeal.main_arg1)) (m' ((c.tc : Thread Cert.ProjectReferenceIdeal.nD Cert.ProjectReferenceIdeal.τ).loc Cert.ProjectReferenceIdeal.main_arg2))

section
variable
  (h0 : m' ((c.tc : Thread Cert.ProjectReferenceIdeal.nD Cert.ProjectReferenceIdeal.τ).loc Cert.ProjectReferenceIdeal.main_arg0) = m ((c.tc : Thread Cert.ProjectIdeal.nD Cert.ProjectIdeal.τ).loc Cert.ProjectIdeal.main_arg0))
  (h1 : m' ((c.tc : Thread Cert.ProjectReferenceIdeal.nD Cert.ProjectReferenceIdeal.τ).loc Cert.ProjectReferenceIdeal.main_arg1) = m ((c.tc : Thread Cert.ProjectIdeal.nD Cert.ProjectIdeal.τ).loc Cert.ProjectIdeal.main_arg1))
  (h2 : m' ((c.tc : Thread Cert.ProjectReferenceIdeal.nD Cert.ProjectReferenceIdeal.τ).loc Cert.ProjectReferenceIdeal.main_arg2) = m ((c.tc : Thread Cert.ProjectIdeal.nD Cert.ProjectIdeal.τ).loc Cert.ProjectIdeal.main_arg2))
include h0 h1 h2

/-- The state-space input. -/
theorem agree7 : (Cert.ProjectIdeal.Gen.dats m 0 c).arrAt 7 Cert.ProjectIdeal.cfg0.N = Ref.stateOf (referenceProjected m' c) := by
  refine (array7 m c).trans ((Ref.stateOf_eq _ _ _).trans ?_).symm
  rw [h0, h1, h2]
/-- The scaled queries. -/
theorem agree8 : (Cert.ProjectIdeal.Gen.dats m 0 c).arrAt 8 Cert.ProjectIdeal.cfg0.N = Ref.queriesOf (referenceProjected m' c) := by
  refine (array8 m c).trans ((Ref.queriesOf_eq _ _ _).trans ?_).symm
  rw [h0, h1, h2]
/-- The keys. -/
theorem agree9 : (Cert.ProjectIdeal.Gen.dats m 0 c).arrAt 9 Cert.ProjectIdeal.cfg0.N = Ref.keysOf (referenceProjected m' c) := by
  refine (array9 m c).trans ((Ref.keysOf_eq _ _ _).trans ?_).symm
  rw [h0, h1, h2]
/-- The values. -/
theorem agree10 : (Cert.ProjectIdeal.Gen.dats m 0 c).arrAt 10 Cert.ProjectIdeal.cfg0.N = Ref.valuesOf (referenceProjected m' c) := by
  refine (array10 m c).trans ((Ref.valuesOf_eq _ _ _).trans ?_).symm
  rw [h0, h1, h2]
/-- The state-space branch's gate. -/
theorem agree11 : (Cert.ProjectIdeal.Gen.dats m 0 c).arrAt 11 Cert.ProjectIdeal.cfg0.N = Ref.gateAOf (referenceProjected m' c) := by
  refine (array11 m c).trans ((Ref.gateAOf_eq _ _ _).trans ?_).symm
  rw [h0, h1, h2]
/-- The attention branch's gate. -/
theorem agree12 : (Cert.ProjectIdeal.Gen.dats m 0 c).arrAt 12 Cert.ProjectIdeal.cfg0.N = Ref.gateBOf (referenceProjected m' c) := by
  refine (array12 m c).trans ((Ref.gateBOf_eq _ _ _).trans ?_).symm
  rw [h0, h1, h2]
/-- The means of the keys. -/
theorem agree13 : (Cert.ProjectIdeal.Gen.dats m 0 c).arrAt 13 Cert.ProjectIdeal.cfg0.N = Ref.meanOf (Ref.blocked (referenceProjected m' c)) := by
  refine (array13 m c).trans ((Ref.meanOf_eq _ _ _).trans ?_).symm
  rw [h0, h1, h2]
end

end Cert.Entry

end
-- ==== Proof.lean ====
/-
  The certificate's claim: the frames, what the named constants say, and the equations of the two programs of the attention, of what
  follows the mixers, and of the input projection.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.Post
public import proofs.«01_k».proof.Proof.Gen.Post.Skeleton
public import proofs.«01_k».proof.Proof.Gen.Post.Launch
public import proofs.«01_k».proof.Proof.Gen.Post.Points
public import proofs.«01_k».proof.Proof.Gen.Post.Frame
public import proofs.«01_k».proof.Proof.Gen.PostIdeal
public import proofs.«01_k».proof.Proof.Gen.PostIdeal.Skeleton
public import proofs.«01_k».proof.Proof.Gen.PostIdeal.Launch
public import proofs.«01_k».proof.Proof.Gen.PostIdeal.Points
public import proofs.«01_k».proof.Proof.Gen.PostIdeal.Frame
public import proofs.«01_k».proof.Proof.Gen.PostIdeal.Value
public import proofs.«01_k».proof.Proof.Gen.PostReferenceIdeal
public import proofs.«01_k».proof.Proof.Gen.PostReferenceIdeal.Run
public import proofs.«01_k».proof.Proof.Gen.Project
public import proofs.«01_k».proof.Proof.Gen.Project.Skeleton
public import proofs.«01_k».proof.Proof.Gen.Project.Launch
public import proofs.«01_k».proof.Proof.Gen.Project.Points
public import proofs.«01_k».proof.Proof.Gen.Project.Frame
public import proofs.«01_k».proof.Proof.Gen.ProjectIdeal
public import proofs.«01_k».proof.Proof.Gen.ProjectIdeal.Skeleton
public import proofs.«01_k».proof.Proof.Gen.ProjectIdeal.Launch
public import proofs.«01_k».proof.Proof.Gen.ProjectIdeal.Points
public import proofs.«01_k».proof.Proof.Gen.ProjectIdeal.Frame
public import proofs.«01_k».proof.Proof.Gen.ProjectIdeal.Value
public import proofs.«01_k».proof.Proof.Gen.ProjectReferenceIdeal
public import proofs.«01_k».proof.Proof.Gen.ProjectReferenceIdeal.Run
public import proofs.«01_k».proof.Proof.Moba.Equation
public import proofs.«01_k».proof.Proof.Tail.Equation
public import proofs.«01_k».proof.Proof.Entry.Equation
public import Idealize.ShloMosaic.Adequacy
public import Idealize.ShloMosaic.Init
public import Idealize.ShloMosaic.Lib.Quiescent

@[expose] public section

noncomputable section

-- The claims about Kernel, KernelIdeal, ReferenceIdeal, Post, PostIdeal, PostReferenceIdeal, Project,

namespace Cert.Proof

open Idealize.ShloMosaic Idealize.SL.Sem

/-- Naming the constants keeps what the kernel computes. -/
theorem preserves : Cert.preserves_Kernel_KernelIdeal :=
  ⟨IdealRules.named_const.statement Cert.KernelIdeal.κ "q_scale" .f32 0x3E38AA3B#32 ((8⁻¹ * (Real.log 2)⁻¹ : ℝ) : EReal) rfl,
    IdealRules.named_const.statement Cert.KernelIdeal.κ "mask" .f32 0xF149F2CA#32 ⊥ rfl⟩

/-- The reference runs, keeps its arguments, and has no semaphore. -/
theorem frame_reference : Cert.quiescent_ReferenceIdeal := fun m ρ _ => (θ_run (Cert.ReferenceIdeal.defs (F := Ideal)) _ _).mono
  (fun r h => And.intro (fun c => (h c).2) (sem_eq_zero_of_no_sems (by decide) r.2)) (Cert.ReferenceIdeal.Value.run m ρ)

/-- The kernel and the reference leave the same array. -/
theorem algebraic [Cert.Pre_finite_q_k.Facts] : Cert.algebraic_KernelIdeal_ReferenceIdeal_pre_finite_q_k :=
  fun m g m' g' hp ha => ⟨fun c => (Cert.KernelIdeal.Gen.dats m 0 c).arrAt 4 Cert.KernelIdeal.cfg0.N, Cert.KernelIdeal.Value.run_blocks m g,
    (θ_run Cert.ReferenceIdeal.defs _ _).mono
      (fun _ h c => ⟨(h c).1.trans (Cert.Moba.array_eq_reference m m' c (hp c) (ha c).1 (ha c).2.1 (ha c).2.2).symm, (h c).2⟩)
      (Cert.ReferenceIdeal.Value.run m' g')⟩

/-- The reference of what follows the mixers runs, keeps its arguments, and has no semaphore. -/
theorem frame_post_reference : Cert.quiescent_PostReferenceIdeal := fun m ρ _ => (θ_run (Cert.PostReferenceIdeal.defs (F := Ideal)) _ _).mono
  (fun r h => And.intro (fun c => (h c).2) (sem_eq_zero_of_no_sems (by decide) r.2)) (Cert.PostReferenceIdeal.Value.run m ρ)

/-- What follows the mixers: the kernel and the reference leave the same array. -/
theorem algebraic_post : Cert.algebraic_PostIdeal_PostReferenceIdeal :=
  fun m g m' g' _ ha => ⟨fun c => (Cert.PostIdeal.Gen.dats m 0 c).arrAt 19 Cert.PostIdeal.cfg0.N, Cert.PostIdeal.Value.run_blocks m g,
    (θ_run Cert.PostReferenceIdeal.defs _ _).mono
      (fun _ h c => ⟨(h c).1.trans (by
          obtain ⟨h0, h1, h2, h3, h4, h5, h6, h7, h8, h9, h10, h11, h12, h13, h14, h15, h16, h17, h18⟩ := ha c
          exact (Cert.Tail.array_eq_reference m m' c h0 h1 h2 h3 h4 h5 h6 h7 h8 h9 h10 h11 h12 h13 h14 h15 h16 h17 h18).symm), (h c).2⟩)
      (Cert.PostReferenceIdeal.Value.run m' g')⟩

/-- The input projection's reference runs, keeps its arguments, and has no semaphore. -/
theorem frame_project_reference : Cert.quiescent_ProjectReferenceIdeal := fun m ρ _ => (θ_run (Cert.ProjectReferenceIdeal.defs (F := Ideal)) _ _).mono
  (fun r h => And.intro (fun c => (h c).2.2.2.2.2.2.2) (sem_eq_zero_of_no_sems (by decide) r.2)) (Cert.ProjectReferenceIdeal.Value.run m ρ)

/-- The input projection: the kernel and the reference leave the same seven arrays. -/
theorem algebraic_project : Cert.algebraic_ProjectIdeal_ProjectReferenceIdeal :=
  fun m g m' g' _ ha => ⟨fun c => (Cert.ProjectIdeal.Gen.dats m 0 c).arrAt 7 Cert.ProjectIdeal.cfg0.N,
    fun c => (Cert.ProjectIdeal.Gen.dats m 0 c).arrAt 8 Cert.ProjectIdeal.cfg0.N,
    fun c => (Cert.ProjectIdeal.Gen.dats m 0 c).arrAt 9 Cert.ProjectIdeal.cfg0.N,
    fun c => (Cert.ProjectIdeal.Gen.dats m 0 c).arrAt 10 Cert.ProjectIdeal.cfg0.N,
    fun c => (Cert.ProjectIdeal.Gen.dats m 0 c).arrAt 11 Cert.ProjectIdeal.cfg0.N,
    fun c => (Cert.ProjectIdeal.Gen.dats m 0 c).arrAt 12 Cert.ProjectIdeal.cfg0.N,
    fun c => (Cert.ProjectIdeal.Gen.dats m 0 c).arrAt 13 Cert.ProjectIdeal.cfg0.N,
    Cert.ProjectIdeal.Value.run_blocks m g,
    (θ_run Cert.ProjectReferenceIdeal.defs _ _).mono
      (fun _ h c => by
        obtain ⟨a0, a1, a2⟩ := ha c
        obtain ⟨h7, h8, h9, h10, h11, h12, h13, kept⟩ := h c
        exact ⟨h7.trans (Cert.Entry.agree7 m m' c a0 a1 a2).symm,
          h8.trans (Cert.Entry.agree8 m m' c a0 a1 a2).symm,
          h9.trans (Cert.Entry.agree9 m m' c a0 a1 a2).symm,
          h10.trans (Cert.Entry.agree10 m m' c a0 a1 a2).symm,
          h11.trans (Cert.Entry.agree11 m m' c a0 a1 a2).symm,
          h12.trans (Cert.Entry.agree12 m m' c a0 a1 a2).symm,
          h13.trans (Cert.Entry.agree13 m m' c a0 a1 a2).symm, kept⟩)
      (Cert.ProjectReferenceIdeal.Value.run m' g')⟩

/-- Everything claimed. -/
theorem claim : Cert.Claim :=
  ⟨Cert.Kernel.Gen.facts, Cert.KernelIdeal.Gen.facts, Cert.ReferenceIdeal.Gen.facts, Cert.Post.Gen.facts, Cert.PostIdeal.Gen.facts,
    Cert.PostReferenceIdeal.Gen.facts, Cert.Project.Gen.facts, Cert.ProjectIdeal.Gen.facts, Cert.ProjectReferenceIdeal.Gen.facts, Cert.Moba.preFacts,
    fun m ρ _ => Cert.Kernel.Gen.frame m ρ, fun m ρ _ => Cert.KernelIdeal.Gen.frame m ρ, fun m ρ _ => Cert.KernelIdeal.Gen.frame m ρ,
    frame_reference, fun m ρ _ => frame_reference m ρ trivial,
    fun m ρ _ => Cert.Post.Gen.frame m ρ, fun m ρ _ => Cert.PostIdeal.Gen.frame m ρ, frame_post_reference,
    fun m ρ _ => Cert.Project.Gen.frame m ρ, fun m ρ _ => Cert.ProjectIdeal.Gen.frame m ρ, frame_project_reference,
    preserves, @algebraic Cert.Moba.preFacts, trivial, algebraic_post, trivial, algebraic_project⟩

end Cert.Proof

end
